-- ==== Defs.lean ====
def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Order (m : (ℓ : Loc Cert.Order.nD Cert.Order.τ Cert.Order.sig) → Buf (Elt Bits) ℓ) : Prop :=
  True

def Pre_OrderIdeal (m : (ℓ : Loc Cert.OrderIdeal.nD Cert.OrderIdeal.τ Cert.OrderIdeal.sig) → Buf (Elt Ideal) ℓ) : Prop :=
  True

def Pre_OrderRefIdeal (m : (ℓ : Loc Cert.OrderRefIdeal.nD Cert.OrderRefIdeal.τ Cert.OrderRefIdeal.sig) → Buf (Elt Ideal) ℓ) : Prop :=
  True

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1)
      ∧ r.2.mem ((c.tc : Thread Cert.PlainRefIdeal.nD Cert.PlainRefIdeal.τ).loc Cert.PlainRefIdeal.main_arg2) = m ((c.tc : Thread Cert.PlainRefIdeal.nD Cert.PlainRefIdeal.τ).loc Cert.PlainRefIdeal.main_arg2)
      ∧ r.2.mem ((c.tc : Thread Cert.PlainRefIdeal.nD Cert.PlainRefIdeal.τ).loc Cert.PlainRefIdeal.main_arg3) = m ((c.tc : Thread Cert.PlainRefIdeal.nD Cert.PlainRefIdeal.τ).loc Cert.PlainRefIdeal.main_arg3)
      ∧ r.2.mem ((c.tc : Thread Cert.PlainRefIdeal.nD Cert.PlainRefIdeal.τ).loc Cert.PlainRefIdeal.main_arg4) = m ((c.tc : Thread Cert.PlainRefIdeal.nD Cert.PlainRefIdeal.τ).loc Cert.PlainRefIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2))
      ∧ r.2.sem = fun _ => 0)

def quiescent_Order [hOrder : Cert.Order.Facts] : Prop :=
  ∀ (m : (ℓ : Loc Cert.Order.nD Cert.Order.τ Cert.Order.sig) → Buf (Elt Bits) ℓ) (g : Dev Cert.Order.nD → PrngReg), Pre_Order m →
    θ_run (Cert.Order.defs (F := Bits)) (onTc (τ := Cert.Order.τ) (Cert.Order.main (F := Bits))) ⟨m, fun _ => 0, g⟩ (fun r => (∀ c : Dev Cert.Order.nD,
      r.2.mem ((c.tc : Thread Cert.Order.nD Cert.Order.τ).loc Cert.Order.main_arg0) = m ((c.tc : Thread Cert.Order.nD Cert.Order.τ).loc Cert.Order.main_arg0))
      ∧ r.2.sem = fun _ => 0)

def quiescent_OrderIdeal [hOrderIdeal : Cert.OrderIdeal.Facts] : Prop :=
  ∀ (m : (ℓ : Loc Cert.OrderIdeal.nD Cert.OrderIdeal.τ Cert.OrderIdeal.sig) → Buf (Elt Ideal) ℓ) (g : Dev Cert.OrderIdeal.nD → PrngReg), Pre_OrderIdeal m →
    θ_run (Cert.OrderIdeal.defs (F := Ideal)) (onTc (τ := Cert.OrderIdeal.τ) (Cert.OrderIdeal.main (F := Ideal))) ⟨m, fun _ => 0, g⟩ (fun r => (∀ c : Dev Cert.OrderIdeal.nD,
      r.2.mem ((c.tc : Thread Cert.OrderIdeal.nD Cert.OrderIdeal.τ).loc Cert.OrderIdeal.main_arg0) = m ((c.tc : Thread Cert.OrderIdeal.nD Cert.OrderIdeal.τ).loc Cert.OrderIdeal.main_arg0))
      ∧ r.2.sem = fun _ => 0)

def quiescent_OrderRefIdeal [hOrderRefIdeal : Cert.OrderRefIdeal.Facts] : Prop :=
  ∀ (m : (ℓ : Loc Cert.OrderRefIdeal.nD Cert.OrderRefIdeal.τ Cert.OrderRefIdeal.sig) → Buf (Elt Ideal) ℓ) (g : Dev Cert.OrderRefIdeal.nD → PrngReg), Pre_OrderRefIdeal m →
    θ_run (Cert.OrderRefIdeal.defs (F := Ideal)) (onTc (τ := Cert.OrderRefIdeal.τ) (Cert.OrderRefIdeal.main (F := Ideal))) ⟨m, fun _ => 0, g⟩ (fun r => (∀ c : Dev Cert.OrderRefIdeal.nD,
      r.2.mem ((c.tc : Thread Cert.OrderRefIdeal.nD Cert.OrderRefIdeal.τ).loc Cert.OrderRefIdeal.main_arg0) = m ((c.tc : Thread Cert.OrderRefIdeal.nD Cert.OrderRefIdeal.τ).loc Cert.OrderRefIdeal.main_arg0))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v21) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)) →
    ∃ (v0 : (c : Dev Cert.GatedIdeal.nD) → Buf (Elt Ideal) ((c.tc : Thread Cert.GatedIdeal.nD Cert.GatedIdeal.τ).loc Cert.GatedIdeal.main_v2_0)) (v1 : (c : Dev Cert.GatedIdeal.nD) → Buf (Elt Ideal) ((c.tc : Thread Cert.GatedIdeal.nD Cert.GatedIdeal.τ).loc Cert.GatedIdeal.main_v2_1)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v2_0) = v0 c
          ∧ r.2.mem ((c.tc : Thread Cert.GatedIdeal.nD Cert.GatedIdeal.τ).loc Cert.GatedIdeal.main_v2_1) = v1 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v61) = v0 c
          ∧ r.2.mem ((c.tc : Thread Cert.GatedRefIdeal.nD Cert.GatedRefIdeal.τ).loc Cert.GatedRefIdeal.main_v62) = v1 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)
      ∧ m' ((c.tc : Thread Cert.PlainRefIdeal.nD Cert.PlainRefIdeal.τ).loc Cert.PlainRefIdeal.main_arg2) = m ((c.tc : Thread Cert.PlainIdeal.nD Cert.PlainIdeal.τ).loc Cert.PlainIdeal.main_arg2)
      ∧ m' ((c.tc : Thread Cert.PlainRefIdeal.nD Cert.PlainRefIdeal.τ).loc Cert.PlainRefIdeal.main_arg3) = m ((c.tc : Thread Cert.PlainIdeal.nD Cert.PlainIdeal.τ).loc Cert.PlainIdeal.main_arg3)
      ∧ m' ((c.tc : Thread Cert.PlainRefIdeal.nD Cert.PlainRefIdeal.τ).loc Cert.PlainRefIdeal.main_arg4) = m ((c.tc : Thread Cert.PlainIdeal.nD Cert.PlainIdeal.τ).loc Cert.PlainIdeal.main_arg4)) →
    ∃ (v0 : (c : Dev Cert.PlainIdeal.nD) → Buf (Elt Ideal) ((c.tc : Thread Cert.PlainIdeal.nD Cert.PlainIdeal.τ).loc Cert.PlainIdeal.main_v2)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v2) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v60) = v0 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1)
          ∧ r.2.mem ((c.tc : Thread Cert.PlainRefIdeal.nD Cert.PlainRefIdeal.τ).loc Cert.PlainRefIdeal.main_arg2) = m' ((c.tc : Thread Cert.PlainRefIdeal.nD Cert.PlainRefIdeal.τ).loc Cert.PlainRefIdeal.main_arg2)
          ∧ r.2.mem ((c.tc : Thread Cert.PlainRefIdeal.nD Cert.PlainRefIdeal.τ).loc Cert.PlainRefIdeal.main_arg3) = m' ((c.tc : Thread Cert.PlainRefIdeal.nD Cert.PlainRefIdeal.τ).loc Cert.PlainRefIdeal.main_arg3)
          ∧ r.2.mem ((c.tc : Thread Cert.PlainRefIdeal.nD Cert.PlainRefIdeal.τ).loc Cert.PlainRefIdeal.main_arg4) = m' ((c.tc : Thread Cert.PlainRefIdeal.nD Cert.PlainRefIdeal.τ).loc Cert.PlainRefIdeal.main_arg4))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)) →
    ∃ (v0 : (c : Dev Cert.RouteIdeal.nD) → Buf (Elt Ideal) ((c.tc : Thread Cert.RouteIdeal.nD Cert.RouteIdeal.τ).loc Cert.RouteIdeal.main_v4_0)) (v1 : (c : Dev Cert.RouteIdeal.nD) → Buf (Elt Ideal) ((c.tc : Thread Cert.RouteIdeal.nD Cert.RouteIdeal.τ).loc Cert.RouteIdeal.main_v4_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v4_0) = v0 c
          ∧ r.2.mem ((c.tc : Thread Cert.RouteIdeal.nD Cert.RouteIdeal.τ).loc Cert.RouteIdeal.main_v4_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v75) = v0 c
          ∧ r.2.mem ((c.tc : Thread Cert.RouteRefIdeal.nD Cert.RouteRefIdeal.τ).loc Cert.RouteRefIdeal.main_v78) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v4_0)) (v1 : (c : Dev Cert.LastIdeal.nD) → Buf (Elt Ideal) ((c.tc : Thread Cert.LastIdeal.nD Cert.LastIdeal.τ).loc Cert.LastIdeal.main_v4_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4_0) = v0 c
          ∧ r.2.mem ((c.tc : Thread Cert.LastIdeal.nD Cert.LastIdeal.τ).loc Cert.LastIdeal.main_v4_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v41) = v0 c
          ∧ r.2.mem ((c.tc : Thread Cert.LastRefIdeal.nD Cert.LastRefIdeal.τ).loc Cert.LastRefIdeal.main_v42) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v5) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v1_0)) (v1 : (c : Dev Cert.PreIdeal.nD) → Buf (Elt Ideal) ((c.tc : Thread Cert.PreIdeal.nD Cert.PreIdeal.τ).loc Cert.PreIdeal.main_v1_1)) (v2 : (c : Dev Cert.PreIdeal.nD) → Buf (Elt Ideal) ((c.tc : Thread Cert.PreIdeal.nD Cert.PreIdeal.τ).loc Cert.PreIdeal.main_v1_2)) (v3 : (c : Dev Cert.PreIdeal.nD) → Buf (Elt Ideal) ((c.tc : Thread Cert.PreIdeal.nD Cert.PreIdeal.τ).loc Cert.PreIdeal.main_v1_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1_0) = v0 c
          ∧ r.2.mem ((c.tc : Thread Cert.PreIdeal.nD Cert.PreIdeal.τ).loc Cert.PreIdeal.main_v1_1) = v1 c
          ∧ r.2.mem ((c.tc : Thread Cert.PreIdeal.nD Cert.PreIdeal.τ).loc Cert.PreIdeal.main_v1_2) = v2 c
          ∧ r.2.mem ((c.tc : Thread Cert.PreIdeal.nD Cert.PreIdeal.τ).loc Cert.PreIdeal.main_v1_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v61) = v0 c
          ∧ r.2.mem ((c.tc : Thread Cert.PreRefIdeal.nD Cert.PreRefIdeal.τ).loc Cert.PreRefIdeal.main_v63) = v1 c
          ∧ r.2.mem ((c.tc : Thread Cert.PreRefIdeal.nD Cert.PreRefIdeal.τ).loc Cert.PreRefIdeal.main_v65) = v2 c
          ∧ r.2.mem ((c.tc : Thread Cert.PreRefIdeal.nD Cert.PreRefIdeal.τ).loc Cert.PreRefIdeal.main_v67) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2))

def preserves_Order_OrderIdeal : Prop :=
  True

def algebraic_OrderIdeal_OrderRefIdeal [hOrderIdeal : Cert.OrderIdeal.Facts] [hOrderRefIdeal : Cert.OrderRefIdeal.Facts] : Prop :=
  ∀ (m : (ℓ : Loc Cert.OrderIdeal.nD Cert.OrderIdeal.τ Cert.OrderIdeal.sig) → Buf (Elt Ideal) ℓ) (g : Dev Cert.OrderIdeal.nD → PrngReg)
    (m' : (ℓ : Loc Cert.OrderRefIdeal.nD Cert.OrderRefIdeal.τ Cert.OrderRefIdeal.sig) → Buf (Elt Ideal) ℓ) (g' : Dev Cert.OrderRefIdeal.nD → PrngReg), Pre_OrderIdeal m →
    (∀ c : Dev Cert.OrderIdeal.nD,
      m' ((c.tc : Thread Cert.OrderRefIdeal.nD Cert.OrderRefIdeal.τ).loc Cert.OrderRefIdeal.main_arg0) = m ((c.tc : Thread Cert.OrderIdeal.nD Cert.OrderIdeal.τ).loc Cert.OrderIdeal.main_arg0)) →
    ∃ (v0 : (c : Dev Cert.OrderIdeal.nD) → Buf (Elt Ideal) ((c.tc : Thread Cert.OrderIdeal.nD Cert.OrderIdeal.τ).loc Cert.OrderIdeal.main_v0)),
      θ_run (Cert.OrderIdeal.defs (F := Ideal)) (onTc (τ := Cert.OrderIdeal.τ) (Cert.OrderIdeal.main (F := Ideal))) ⟨m, fun _ => 0, g⟩ (fun r => ∀ c : Dev Cert.OrderIdeal.nD,
          r.2.mem ((c.tc : Thread Cert.OrderIdeal.nD Cert.OrderIdeal.τ).loc Cert.OrderIdeal.main_v0) = v0 c
          ∧ r.2.mem ((c.tc : Thread Cert.OrderIdeal.nD Cert.OrderIdeal.τ).loc Cert.OrderIdeal.main_arg0) = m ((c.tc : Thread Cert.OrderIdeal.nD Cert.OrderIdeal.τ).loc Cert.OrderIdeal.main_arg0))
      ∧ θ_run (Cert.OrderRefIdeal.defs (F := Ideal)) (onTc (τ := Cert.OrderRefIdeal.τ) (Cert.OrderRefIdeal.main (F := Ideal))) ⟨m', fun _ => 0, g'⟩ (fun r => ∀ c : Dev Cert.OrderRefIdeal.nD,
          r.2.mem ((c.tc : Thread Cert.OrderRefIdeal.nD Cert.OrderRefIdeal.τ).loc Cert.OrderRefIdeal.main_v7) = v0 c
          ∧ r.2.mem ((c.tc : Thread Cert.OrderRefIdeal.nD Cert.OrderRefIdeal.τ).loc Cert.OrderRefIdeal.main_arg0) = m' ((c.tc : Thread Cert.OrderRefIdeal.nD Cert.OrderRefIdeal.τ).loc Cert.OrderRefIdeal.main_arg0))

def Claim : Prop :=
  ∃ (hExperts : Cert.Experts.Facts) (hExpertsIdeal : Cert.ExpertsIdeal.Facts) (hExpertsRefIdeal : Cert.ExpertsRefIdeal.Facts) (hGated : Cert.Gated.Facts) (hGatedIdeal : Cert.GatedIdeal.Facts) (hGatedRefIdeal : Cert.GatedRefIdeal.Facts) (hPlain : Cert.Plain.Facts) (hPlainIdeal : Cert.PlainIdeal.Facts) (hPlainRefIdeal : Cert.PlainRefIdeal.Facts) (hRoute : Cert.Route.Facts) (hRouteIdeal : Cert.RouteIdeal.Facts) (hRouteRefIdeal : Cert.RouteRefIdeal.Facts) (hLast : Cert.Last.Facts) (hLastIdeal : Cert.LastIdeal.Facts) (hLastRefIdeal : Cert.LastRefIdeal.Facts) (hMods : Cert.Mods.Facts) (hModsIdeal : Cert.ModsIdeal.Facts) (hModsRefIdeal : Cert.ModsRefIdeal.Facts) (hPre : Cert.Pre.Facts) (hPreIdeal : Cert.PreIdeal.Facts) (hPreRefIdeal : Cert.PreRefIdeal.Facts) (hOrder : Cert.Order.Facts) (hOrderIdeal : Cert.OrderIdeal.Facts) (hOrderRefIdeal : Cert.OrderRefIdeal.Facts) (hPre_experts_named : Cert.Pre_experts_named.Facts),
    quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal) (hPre_experts_named := hPre_experts_named)
    ∧ quiescent_Gated (hGated := hGated)
    ∧ quiescent_GatedIdeal (hGatedIdeal := hGatedIdeal)
    ∧ quiescent_GatedRefIdeal (hGatedRefIdeal := hGatedRefIdeal)
    ∧ quiescent_Plain (hPlain := hPlain)
    ∧ quiescent_PlainIdeal (hPlainIdeal := hPlainIdeal)
    ∧ quiescent_PlainRefIdeal (hPlainRefIdeal := hPlainRefIdeal)
    ∧ quiescent_Route (hRoute := hRoute)
    ∧ quiescent_RouteIdeal (hRouteIdeal := hRouteIdeal)
    ∧ quiescent_RouteRefIdeal (hRouteRefIdeal := hRouteRefIdeal)
    ∧ quiescent_Last (hLast := hLast)
    ∧ quiescent_LastIdeal (hLastIdeal := hLastIdeal)
    ∧ quiescent_LastRefIdeal (hLastRefIdeal := hLastRefIdeal)
    ∧ quiescent_Mods (hMods := hMods)
    ∧ quiescent_ModsIdeal (hModsIdeal := hModsIdeal)
    ∧ quiescent_ModsRefIdeal (hModsRefIdeal := hModsRefIdeal)
    ∧ quiescent_Pre (hPre := hPre)
    ∧ quiescent_PreIdeal (hPreIdeal := hPreIdeal)
    ∧ quiescent_PreRefIdeal (hPreRefIdeal := hPreRefIdeal)
    ∧ quiescent_Order (hOrder := hOrder)
    ∧ quiescent_OrderIdeal (hOrderIdeal := hOrderIdeal)
    ∧ quiescent_OrderRefIdeal (hOrderRefIdeal := hOrderRefIdeal)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Gated_GatedIdeal
    ∧ algebraic_GatedIdeal_GatedRefIdeal (hGatedIdeal := hGatedIdeal) (hGatedRefIdeal := hGatedRefIdeal)
    ∧ preserves_Plain_PlainIdeal
    ∧ algebraic_PlainIdeal_PlainRefIdeal (hPlainIdeal := hPlainIdeal) (hPlainRefIdeal := hPlainRefIdeal)
    ∧ preserves_Route_RouteIdeal
    ∧ algebraic_RouteIdeal_RouteRefIdeal (hRouteIdeal := hRouteIdeal) (hRouteRefIdeal := hRouteRefIdeal)
    ∧ preserves_Last_LastIdeal
    ∧ algebraic_LastIdeal_LastRefIdeal (hLastIdeal := hLastIdeal) (hLastRefIdeal := hLastRefIdeal)
    ∧ preserves_Mods_ModsIdeal
    ∧ algebraic_ModsIdeal_ModsRefIdeal (hModsIdeal := hModsIdeal) (hModsRefIdeal := hModsRefIdeal)
    ∧ preserves_Pre_PreIdeal
    ∧ algebraic_PreIdeal_PreRefIdeal (hPreIdeal := hPreIdeal) (hPreRefIdeal := hPreRefIdeal)
    ∧ preserves_Order_OrderIdeal
    ∧ algebraic_OrderIdeal_OrderRefIdeal (hOrderIdeal := hOrderIdeal) (hOrderRefIdeal := hOrderRefIdeal)
-- ==== Pre_experts_named.lean ====
abbrev S88 : Shape := ⟨1, ![88]⟩
abbrev S1 : Shape := ⟨1, ![1]⟩
abbrev S360448x128 : Shape := ⟨2, ![360448, 128]⟩
abbrev S4x16x1024x1024 : Shape := ⟨4, ![4, 16, 1024, 1024]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S1 32) (main_arg2 : FVec F S360448x128 .f32) (main_arg3 : FVec F S4x16x1024x1024 .f32) (main_arg4 : FVec F S4x16x1024x1024 .f32) (main_arg5 : FVec F S4x16x1024x1024 .f32) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 16#32
  let main_v2 : IVec S88 32 := broadcastInDim S88 ![] bcast_S_S88 main_c_0
  let main_v3 : IVec S88 1 := cmpi .slt main_arg0 main_v2
  let main_v4 : IVec S88 1 := andi main_v1 main_v3
  main_v4
-- ==== Experts.lean ====
abbrev S88 : Shape := ⟨1, ![88]⟩
abbrev S1 : Shape := ⟨1, ![1]⟩
abbrev S360448x128 : Shape := ⟨2, ![360448, 128]⟩
abbrev S4x16x1024x1024 : Shape := ⟨4, ![4, 16, 1024, 1024]⟩
abbrev S4096x128 : Shape := ⟨2, ![4096, 128]⟩
abbrev S1x1x1024x1024 : Shape := ⟨4, ![1, 1, 1024, 1024]⟩
abbrev S1024x1024 : Shape := ⟨2, ![1024, 1024]⟩
abbrev S512x128 : Shape := ⟨2, ![512, 128]⟩
abbrev S512x1024 : Shape := ⟨2, ![512, 1024]⟩

abbrev nBuf : Space → Nat
  | .hbm => 5
  | .vmem => 13
  | .smem => 2
  | _ => 0

abbrev bufTy : (tb : Table) → Fin (tcTables nBuf tb) → BufTy
  | .hbm, ⟨0, _⟩ => ⟨S360448x128, .f32⟩
  | .hbm, ⟨1, _⟩ => ⟨S4x16x1024x1024, .f32⟩
  | .hbm, ⟨2, _⟩ => ⟨S4x16x1024x1024, .f32⟩
  | .hbm, ⟨3, _⟩ => ⟨S4x16x1024x1024, .f32⟩
  | .hbm, ⟨4, _⟩ => ⟨S360448x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S4096x128, .f32⟩
  | .local _ .vmem, ⟨9, _⟩ => ⟨S4096x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S88, .i32⟩
  | .local _ .smem, ⟨1, _⟩ => ⟨S1, .i32⟩
  | _, _ => ⟨S360448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![88], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_cond3 (i : grid0.Coords) (v9 : BitVec 32) : BitVec 1 :=
  let arg0 : BitVec 32 := BitVec.ofNat 32 (i 0).val
  let v10 : BitVec 1 := Scalar.cmpi .slt arg0 v9
  let v_true : BitVec 1 := 1#1
  let v16 : BitVec 1 := Scalar.xori v10 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S88 : Shape := ⟨1, ![88]⟩
abbrev S1 : Shape := ⟨1, ![1]⟩
abbrev S360448x128 : Shape := ⟨2, ![360448, 128]⟩
abbrev S4x16x1024x1024 : Shape := ⟨4, ![4, 16, 1024, 1024]⟩
abbrev S_ : Shape := ⟨0, ![]⟩
abbrev S88x1x1 : Shape := ⟨3, ![88, 1, 1]⟩
abbrev S88x512x1024 : Shape := ⟨3, ![88, 512, 1024]⟩
abbrev S1x16x1024x1024 : Shape := ⟨4, ![1, 16, 1024, 1024]⟩
abbrev S16x1024x1024 : Shape := ⟨3, ![16, 1024, 1024]⟩
abbrev S88x1 : Shape := ⟨2, ![88, 1]⟩
abbrev S88x1024x1024 : Shape := ⟨3, ![88, 1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S88, .i32⟩
  | .hbm, ⟨1, _⟩ => ⟨S1, .i32⟩
  | .hbm, ⟨2, _⟩ => ⟨S360448x128, .f32⟩
  | .hbm, ⟨3, _⟩ => ⟨S4x16x1024x1024, .f32⟩
  | .hbm, ⟨4, _⟩ => ⟨S4x16x1024x1024, .f32⟩
  | .hbm, ⟨5, _⟩ => ⟨S4x16x1024x1024, .f32⟩
  | .hbm, ⟨6, _⟩ => ⟨S88, .i32⟩
  | .hbm, ⟨7, _⟩ => ⟨S_, .i32⟩
  | .hbm, ⟨8, _⟩ => ⟨S88, .i32⟩
  | .hbm, ⟨9, _⟩ => ⟨S88, .i1⟩
  | .hbm, ⟨10, _⟩ => ⟨S88x1x1, .i1⟩
  | .hbm, ⟨11, _⟩ => ⟨S88x512x1024, .f32⟩
  | .hbm, ⟨12, _⟩ => ⟨S_, .f32⟩
  | .hbm, ⟨13, _⟩ => ⟨S_, .f32⟩
  | .hbm, ⟨14, _⟩ => ⟨S88x512x1024, .i1⟩
  | .hbm, ⟨15, _⟩ => ⟨S88x512x1024, .f32⟩
  | .hbm, ⟨16, _⟩ => ⟨S88x512x1024, .f32⟩
  | .hbm, ⟨17, _⟩ => ⟨S1x16x1024x1024, .f32⟩
  | .hbm, ⟨18, _⟩ => ⟨S16x1024x1024, .f32⟩
  | .hbm, ⟨19, _⟩ => ⟨S88x1, .i32⟩
  | .hbm, ⟨20, _⟩ => ⟨S88x1024x1024, .f32⟩
  | .hbm, ⟨21, _⟩ => ⟨S88x512x1024, .f32⟩
  | .hbm, ⟨22, _⟩ => ⟨S88x512x1024, .f32⟩
  | .hbm, ⟨23, _⟩ => ⟨S88x512x1024, .f32⟩
  | .hbm, ⟨24, _⟩ => ⟨S_, .f32⟩
  | .hbm, ⟨25, _⟩ => ⟨S88x512x1024, .f32⟩
  | .hbm, ⟨26, _⟩ => ⟨S88x512x1024, .f32⟩
  | .hbm, ⟨27, _⟩ => ⟨S_, .f32⟩
  | .hbm, ⟨28, _⟩ => ⟨S88x512x1024, .f32⟩
  | .hbm, ⟨29, _⟩ => ⟨S88x512x1024, .f32⟩
  | .hbm, ⟨30, _⟩ => ⟨S88x512x1024, .f32⟩
  | .hbm, ⟨31, _⟩ => ⟨S1x16x1024x1024, .f32⟩
  | .hbm, ⟨32, _⟩ => ⟨S16x1024x1024, .f32⟩
  | .hbm, ⟨33, _⟩ => ⟨S88x1, .i32⟩
  | .hbm, ⟨34, _⟩ => ⟨S88x1024x1024, .f32⟩
  | .hbm, ⟨35, _⟩ => ⟨S88x512x1024, .f32⟩
  | .hbm, ⟨36, _⟩ => ⟨S88x512x1024, .f32⟩
  | .hbm, ⟨37, _⟩ => ⟨S1x16x1024x1024, .f32⟩
  | .hbm, ⟨38, _⟩ => ⟨S16x1024x1024, .f32⟩
  | .hbm, ⟨39, _⟩ => ⟨S88x1, .i32⟩
  | .hbm, ⟨40, _⟩ => ⟨S88x1024x1024, .f32⟩
  | .hbm, ⟨41, _⟩ => ⟨S88x512x1024, .f32⟩
  | .hbm, ⟨42, _⟩ => ⟨S360448x128, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_call2_v0 : Ref sig .tc := ⟨.hbm, 22, rfl⟩
abbrev main_call2_v1 : Ref sig .tc := ⟨.hbm, 23, rfl⟩
abbrev main_call2_cst : Ref sig .tc := ⟨.hbm, 24, rfl⟩
abbrev main_call2_v2 : Ref sig .tc := ⟨.hbm, 25, rfl⟩
abbrev main_call2_v3 : Ref sig .tc := ⟨.hbm, 26, rfl⟩
abbrev main_call2_cst_0 : Ref sig .tc := ⟨.hbm, 27, rfl⟩
abbrev main_call2_v4 : Ref sig .tc := ⟨.hbm, 28, rfl⟩
abbrev main_call2_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call3_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call4_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Gated.lean ====
abbrev S18432x1024 : Shape := ⟨2, ![18432, 1024]⟩
abbrev S16x6x1024 : Shape := ⟨3, ![16, 6, 1024]⟩
abbrev S1024 : Shape := ⟨1, ![1024]⟩
abbrev S1024x3200 : Shape := ⟨2, ![1024, 3200]⟩
abbrev S3200 : Shape := ⟨1, ![3200]⟩
abbrev S1x1024 : Shape := ⟨2, ![1, 1024]⟩
abbrev S1x3200 : Shape := ⟨2, ![1, 3200]⟩
abbrev S18432x3072 : Shape := ⟨2, ![18432, 3072]⟩
abbrev S18432x128 : Shape := ⟨2, ![18432, 128]⟩
abbrev S256x1024 : Shape := ⟨2, ![256, 1024]⟩
abbrev S1x6x1024 : Shape := ⟨3, ![1, 6, 1024]⟩
abbrev S256x3072 : Shape := ⟨2, ![256, 3072]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S1024x3072 : Shape := ⟨2, ![1024, 3072]⟩
abbrev S1x3072 : Shape := ⟨2, ![1, 3072]⟩
abbrev S1024x128 : Shape := ⟨2, ![1024, 128]⟩
abbrev S1x128 : Shape := ⟨2, ![1, 128]⟩

abbrev nBuf : Space → Nat
  | .hbm => 9
  | .vmem => 11
  | .smem => 0
  | _ => 0

abbrev bufTy : (tb : Table) → Fin (tcTables nBuf tb) → BufTy
  | .hbm, ⟨0, _⟩ => ⟨S18432x1024, .f32⟩
  | .hbm, ⟨1, _⟩ => ⟨S16x6x1024, .f32⟩
  | .hbm, ⟨2, _⟩ => ⟨S1024, .f32⟩
  | .hbm, ⟨3, _⟩ => ⟨S1024x3200, .bf16⟩
  | .hbm, ⟨4, _⟩ => ⟨S3200, .f32⟩
  | .hbm, ⟨5, _⟩ => ⟨S1x1024, .f32⟩
  | .hbm, ⟨6, _⟩ => ⟨S1x3200, .f32⟩
  | .hbm, ⟨7, _⟩ => ⟨S18432x3072, .bf16⟩
  | .hbm, ⟨8, _⟩ => ⟨S18432x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3200, .bf16⟩
  | .local _ .vmem, ⟨6, _⟩ => ⟨S1x3200, .f32⟩
  | .local _ .vmem, ⟨7, _⟩ => ⟨S256x3072, .bf16⟩
  | .local _ .vmem, ⟨8, _⟩ => ⟨S256x3072, .bf16⟩
  | .local _ .vmem, ⟨9, _⟩ => ⟨S256x128, .f32⟩
  | .local _ .vmem, ⟨10, _⟩ => ⟨S256x128, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.addi c1_i32_11 v27
  let c0_i32_12 : BitVec 32 := 0#32
  let v29 : BitVec 32 := Scalar.select v10 c0_i32_12 v28
  let c0_i32_13 : BitVec 32 := 0#32
  let c0_i32_14 : BitVec 32 := 0#32
  let c0_i32_15 : BitVec 32 := 0#32
  ![v29.toNat, c0_i32_13.toNat, c0_i32_14.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatedRefIdeal.lean ====
abbrev S18432x1024 : Shape := ⟨2, ![18432, 1024]⟩
abbrev S16x6x1024 : Shape := ⟨3, ![16, 6, 1024]⟩
abbrev S1024 : Shape := ⟨1, ![1024]⟩
abbrev S1024x3200 : Shape := ⟨2, ![1024, 3200]⟩
abbrev S3200 : Shape := ⟨1, ![3200]⟩
abbrev S8x2304x1024 : Shape := ⟨3, ![8, 2304, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S8x2304x3200 : Shape := ⟨3, ![8, 2304, 3200]⟩
abbrev S1x1x3200 : Shape := ⟨3, ![1, 1, 3200]⟩
abbrev S18432x3200 : Shape := ⟨2, ![18432, 3200]⟩
abbrev S18432x3072 : Shape := ⟨2, ![18432, 3072]⟩
abbrev S18432x128 : Shape := ⟨2, ![18432, 128]⟩

abbrev nBuf : Space → Nat
  | .hbm => 76
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S16x6x1024, .f32⟩
  | .hbm, ⟨2, _⟩ => ⟨S1024, .f32⟩
  | .hbm, ⟨3, _⟩ => ⟨S1024x3200, .bf16⟩
  | .hbm, ⟨4, _⟩ => ⟨S3200, .f32⟩
  | .hbm, ⟨5, _⟩ => ⟨S8x2304x1024, .f32⟩
  | .hbm, ⟨6, _⟩ => ⟨S8x256x1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S1x1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S8x1x1024, .f32⟩
  | .hbm, ⟨37, _⟩ => ⟨S8x1024, .f32⟩
  | .hbm, ⟨38, _⟩ => ⟨S8x1x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2304x1024, .f32⟩
  | .hbm, ⟨67, _⟩ => ⟨S1024x3200, .f32⟩
  | .hbm, ⟨68, _⟩ => ⟨S8x2304x3200, .f32⟩
  | .hbm, ⟨69, _⟩ => ⟨S1x1x3200, .f32⟩
  | .hbm, ⟨70, _⟩ => ⟨S8x2304x3200, .f32⟩
  | .hbm, ⟨71, _⟩ => ⟨S8x2304x3200, .f32⟩
  | .hbm, ⟨72, _⟩ => ⟨S18432x3200, .f32⟩
  | .hbm, ⟨73, _⟩ => ⟨S18432x3072, .f32⟩
  | .hbm, ⟨74, _⟩ => ⟨S18432x3072, .bf16⟩
  | .hbm, ⟨75, _⟩ => ⟨S18432x128, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Plain.lean ====
abbrev S18432x1024 : Shape := ⟨2, ![18432, 1024]⟩
abbrev S16x6x1024 : Shape := ⟨3, ![16, 6, 1024]⟩
abbrev S1024 : Shape := ⟨1, ![1024]⟩
abbrev S1024x3072 : Shape := ⟨2, ![1024, 3072]⟩
abbrev S3072 : Shape := ⟨1, ![3072]⟩
abbrev S1x1024 : Shape := ⟨2, ![1, 1024]⟩
abbrev S1x3072 : Shape := ⟨2, ![1, 3072]⟩
abbrev S18432x3072 : Shape := ⟨2, ![18432, 3072]⟩
abbrev S256x1024 : Shape := ⟨2, ![256, 1024]⟩
abbrev S1x6x1024 : Shape := ⟨3, ![1, 6, 1024]⟩
abbrev S256x3072 : Shape := ⟨2, ![256, 3072]⟩
abbrev S1x1x1024 : Shape := ⟨3, ![1, 1, 1024]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S18432x1024, .f32⟩
  | .hbm, ⟨1, _⟩ => ⟨S16x6x1024, .f32⟩
  | .hbm, ⟨2, _⟩ => ⟨S1024, .f32⟩
  | .hbm, ⟨3, _⟩ => ⟨S1024x3072, .bf16⟩
  | .hbm, ⟨4, _⟩ => ⟨S3072, .f32⟩
  | .hbm, ⟨5, _⟩ => ⟨S1x1024, .f32⟩
  | .hbm, ⟨6, _⟩ => ⟨S1x3072, .f32⟩
  | .hbm, ⟨7, _⟩ => ⟨S18432x3072, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x3072, .f32⟩
  | .local _ .vmem, ⟨7, _⟩ => ⟨S256x3072, .bf16⟩
  | .local _ .vmem, ⟨8, _⟩ => ⟨S256x3072, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.addi c1_i32_11 v27
  let c0_i32_12 : BitVec 32 := 0#32
  let v29 : BitVec 32 := Scalar.select v10 c0_i32_12 v28
  let c0_i32_13 : BitVec 32 := 0#32
  let c0_i32_14 : BitVec 32 := 0#32
  let c0_i32_15 : BitVec 32 := 0#32
  ![v29.toNat, c0_i32_13.toNat, c0_i32_14.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlainRefIdeal.lean ====
abbrev S18432x1024 : Shape := ⟨2, ![18432, 1024]⟩
abbrev S16x6x1024 : Shape := ⟨3, ![16, 6, 1024]⟩
abbrev S1024 : Shape := ⟨1, ![1024]⟩
abbrev S1024x3072 : Shape := ⟨2, ![1024, 3072]⟩
abbrev S3072 : Shape := ⟨1, ![3072]⟩
abbrev S8x2304x1024 : Shape := ⟨3, ![8, 2304, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S8x2048 : Shape := ⟨2, ![8, 2048]⟩
abbrev S8x2048x1 : Shape := ⟨3, ![8, 2048, 1]⟩
abbrev S8x2304x3072 : Shape := ⟨3, ![8, 2304, 3072]⟩
abbrev S1x1x3072 : Shape := ⟨3, ![1, 1, 3072]⟩
abbrev S18432x3072 : Shape := ⟨2, ![18432, 3072]⟩

abbrev nBuf : Space → Nat
  | .hbm => 74
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S16x6x1024, .f32⟩
  | .hbm, ⟨2, _⟩ => ⟨S1024, .f32⟩
  | .hbm, ⟨3, _⟩ => ⟨S1024x3072, .bf16⟩
  | .hbm, ⟨4, _⟩ => ⟨S3072, .f32⟩
  | .hbm, ⟨5, _⟩ => ⟨S8x2304x1024, .f32⟩
  | .hbm, ⟨6, _⟩ => ⟨S8x256x1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S1x1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1024, .f32⟩
  | .hbm, ⟨32, _⟩ => ⟨S1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S8x1x1024, .f32⟩
  | .hbm, ⟨37, _⟩ => ⟨S8x1024, .f32⟩
  | .hbm, ⟨38, _⟩ => ⟨S8x1x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2304x1024, .f32⟩
  | .hbm, ⟨67, _⟩ => ⟨S1024x3072, .f32⟩
  | .hbm, ⟨68, _⟩ => ⟨S8x2304x3072, .f32⟩
  | .hbm, ⟨69, _⟩ => ⟨S1x1x3072, .f32⟩
  | .hbm, ⟨70, _⟩ => ⟨S8x2304x3072, .f32⟩
  | .hbm, ⟨71, _⟩ => ⟨S8x2304x3072, .f32⟩
  | .hbm, ⟨72, _⟩ => ⟨S18432x3072, .f32⟩
  | .hbm, ⟨73, _⟩ => ⟨S18432x3072, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Route.lean ====
abbrev S18432x1024 : Shape := ⟨2, ![18432, 1024]⟩
abbrev S16x6x1024 : Shape := ⟨3, ![16, 6, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S16x1 : Shape := ⟨2, ![16, 1]⟩
abbrev S16x128 : Shape := ⟨2, ![16, 128]⟩
abbrev S147456x128 : Shape := ⟨2, ![147456, 128]⟩
abbrev S2x18432 : Shape := ⟨2, ![2, 18432]⟩
abbrev S256x1024 : Shape := ⟨2, ![256, 1024]⟩
abbrev S8192x128 : Shape := ⟨2, ![8192, 128]⟩
abbrev S2x1024 : Shape := ⟨2, ![2, 1024]⟩
abbrev S1x6x1024 : Shape := ⟨3, ![1, 6, 1024]⟩
abbrev S6x1024 : Shape := ⟨2, ![6, 1024]⟩
abbrev S256 : Shape := ⟨1, ![256]⟩
abbrev S256x1 : Shape := ⟨2, ![256, 1]⟩
abbrev S32x1024 : Shape := ⟨2, ![32, 1024]⟩
abbrev S32x256 : Shape := ⟨2, ![32, 256]⟩
abbrev S16x256 : Shape := ⟨2, ![16, 256]⟩
abbrev S256x128 : Shape := ⟨2, ![256, 128]⟩
abbrev S1x256 : Shape := ⟨2, ![1, 256]⟩
abbrev S2x256 : Shape := ⟨2, ![2, 256]⟩
abbrev S256x256 : Shape := ⟨2, ![256, 256]⟩

abbrev nBuf : Space → Nat
  | .hbm => 18
  | .vmem => 34
  | .smem => 0
  | _ => 0

abbrev bufTy : (tb : Table) → Fin (tcTables nBuf tb) → BufTy
  | .hbm, ⟨0, _⟩ => ⟨S18432x1024, .f32⟩
  | .hbm, ⟨1, _⟩ => ⟨S18432x1024, .bf16⟩
  | .hbm, ⟨2, _⟩ => ⟨S16x6x1024, .f32⟩
  | .hbm, ⟨3, _⟩ => ⟨S1024x1024, .bf16⟩
  | .hbm, ⟨4, _⟩ => ⟨S1024, .f32⟩
  | .hbm, ⟨5, _⟩ => ⟨S1024, .f32⟩
  | .hbm, ⟨6, _⟩ => ⟨S16x1024, .f32⟩
  | .hbm, ⟨7, _⟩ => ⟨S16, .f32⟩
  | .hbm, ⟨8, _⟩ => ⟨S1x1024, .f32⟩
  | .hbm, ⟨9, _⟩ => ⟨S1x1024, .f32⟩
  | .hbm, ⟨10, _⟩ => ⟨S16x1, .f32⟩
  | .hbm, ⟨11, _⟩ => ⟨S16x128, .f32⟩
  | .hbm, ⟨12, _⟩ => ⟨S18432x1024, .f32⟩
  | .hbm, ⟨13, _⟩ => ⟨S147456x128, .f32⟩
  | .hbm, ⟨14, _⟩ => ⟨S2x18432, .i32⟩
  | .hbm, ⟨15, _⟩ => ⟨S2x18432, .f32⟩
  | .hbm, ⟨16, _⟩ => ⟨S2x18432, .i32⟩
  | .hbm, ⟨17, _⟩ => ⟨S16x128, .i32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S16x6x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S16x1024, .f32⟩
  | .local _ .vmem, ⟨21, _⟩ => ⟨S16x128, .f32⟩
  | .local _ .vmem, ⟨22, _⟩ => ⟨S1024x1024, .f32⟩
  | .local _ .vmem, ⟨23, _⟩ => ⟨S1024x1024, .f32⟩
  | .local _ .vmem, ⟨24, _⟩ => ⟨S8192x128, .f32⟩
  | .local _ .vmem, ⟨25, _⟩ => ⟨S8192x128, .f32⟩
  | .local _ .vmem, ⟨26, _⟩ => ⟨S2x1024, .i32⟩
  | .local _ .vmem, ⟨27, _⟩ => ⟨S2x1024, .i32⟩
  | .local _ .vmem, ⟨28, _⟩ => ⟨S2x1024, .f32⟩
  | .local _ .vmem, ⟨29, _⟩ => ⟨S2x1024, .f32⟩
  | .local _ .vmem, ⟨30, _⟩ => ⟨S2x1024, .i32⟩
  | .local _ .vmem, ⟨31, _⟩ => ⟨S2x1024, .i32⟩
  | .local _ .vmem, ⟨32, _⟩ => ⟨S16x128, .i32⟩
  | .local _ .vmem, ⟨33, _⟩ => ⟨S16x128, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32

abbrev nD : Nat := 1
abbrev τ : Topo := Topo.v7x

variable {F : FTy → Type} [FloatOps F]

abbrev grid0 : Pipeline.Grid := ⟨1, ![18], ![false]⟩

def k0_off1 (i : grid0.Coords) (c0_i32_1 : BitVec 32) : Fin 3 → Nat :=
  let c4_i32 : BitVec 32 := 4#32
  let arg0 : BitVec 32 := BitVec.ofNat 32 (i 0).val
  let v3 : BitVec 32 := Scalar.muli c4_i32 arg0
  let v4 : BitVec 32 := Scalar.addi v3 c0_i32_1
  let c9_i32 : BitVec 32 := 9#32
  let c0_i32_2 : BitVec 32 := 0#32
  let v5 : BitVec 1 := Scalar.cmpi .eq c9_i32 c0_i32_2
  let c1_i32 : BitVec 32 := 1#32
  let v6 : BitVec 32 := Scalar.select v5 c1_i32 c9_i32
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_6 : BitVec 32 := 1#32
  let v15 : BitVec 1 := Scalar.cmpi .slt v14 c1_i32_6
  let c0_i32_15 : BitVec 32 := 0#32
  let c1_i32_14 : BitVec 32 := 1#32
  let c0_i32_8 : BitVec 32 := 0#32
  let v17 : BitVec 1 := Scalar.cmpi .sgt v4 c0_i32_8
  let v18 : BitVec 32 := Scalar.extui v17
  let c0_i32_9 : BitVec 32 := 0#32
  let v19 : BitVec 1 := Scalar.cmpi .slt v4 c0_i32_9
  let v20 : BitVec 32 := Scalar.extui v19
  let v21 : BitVec 32 := Scalar.subi v18 v20
  let c9_i32_7 : BitVec 32 := 9#32
  let c0_i32_10 : BitVec 32 := 0#32
  let v22 : BitVec 1 := Scalar.cmpi .sgt c9_i32_7 c0_i32_10
  let v23 : BitVec 32 := Scalar.extui v22
  let c0_i32_11 : BitVec 32 := 0#32
  let v24 : BitVec 1 := Scalar.cmpi .slt c9_i32_7 c0_i32_11
  let v25 : BitVec 32 := Scalar.extui v24
  let v26 : BitVec 32 := Scalar.subi v23 v25
  let v27 : BitVec 1 := Scalar.cmpi .ne v21 v26
  let v28 : BitVec 32 := Scalar.remsi v4 c9_i32_7
  let c0_i32_12 : BitVec 32 := 0#32
  let v29 : BitVec 1 := Scalar.cmpi .ne v28 c0_i32_12
  let v30 : BitVec 1 := Scalar.andi v27 v29
  let v16 : BitVec 32 := Scalar.divsi v4 c9_i32_7
  let c1_i32_13 : BitVec 32 := 1#32
  let v31 : BitVec 32 := Scalar.subi v16 c1_i32_13
  let v32 : BitVec 32 := Scalar.select v30 v31 v16
  let v33 : BitVec 32 := Scalar.addi c1_i32_14 v32
  let v34 : BitVec 32 := Scalar.select v15 c0_i32_15 v33
  let v35 : Index := Scalar.indexCast v34
  let c0 : Index := 0#32
  let c0_16 : Index := 0#32
  ![v35.toNat, 0, 0]
def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8192x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1024 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1024 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S16x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== RouteRefIdeal.lean ====
abbrev S18432x1024 : Shape := ⟨2, ![18432, 1024]⟩
abbrev S16x6x1024 : Shape := ⟨3, ![16, 6, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S8x2304x1024 : Shape := ⟨3, ![8, 2304, 1024]⟩
abbrev S1x1x1024 : Shape := ⟨3, ![1, 1, 1024]⟩
abbrev S8x1x1024 : Shape := ⟨3, ![8, 1, 1024]⟩
abbrev S8x1024 : Shape := ⟨2, ![8, 1024]⟩
abbrev S8x256x1024 : Shape := ⟨3, ![8, 256, 1024]⟩
abbrev S8x2048x1024 : Shape := ⟨3, ![8, 2048, 1024]⟩
abbrev S_ : Shape := ⟨0, ![]⟩
abbrev S8x256 : Shape := ⟨2, ![8, 256]⟩
abbrev S8x256x1 : Shape := ⟨3, ![8, 256, 1]⟩
abbrev S8x2048 : Shape := ⟨2, ![8, 2048]⟩
abbrev S8x2048x1 : Shape := ⟨3, ![8, 2048, 1]⟩
abbrev S147456x128 : Shape := ⟨2, ![147456, 128]⟩

abbrev nBuf : Space → Nat
  | .hbm => 95
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S18432x1024, .bf16⟩
  | .hbm, ⟨2, _⟩ => ⟨S16x6x1024, .f32⟩
  | .hbm, ⟨3, _⟩ => ⟨S1024x1024, .bf16⟩
  | .hbm, ⟨4, _⟩ => ⟨S1024, .f32⟩
  | .hbm, ⟨5, _⟩ => ⟨S1024, .f32⟩
  | .hbm, ⟨6, _⟩ => ⟨S16x1024, .f32⟩
  | .hbm, ⟨7, _⟩ => ⟨S16, .f32⟩
  | .hbm, ⟨8, _⟩ => ⟨S8x2304x1024, .f32⟩
  | .hbm, ⟨9, _⟩ => ⟨S8x2304x1024, .bf16⟩
  | .hbm, ⟨10, _⟩ => ⟨S8x2304x1024, .f32⟩
  | .hbm, ⟨11, _⟩ => ⟨S1024x1024, .f32⟩
  | .hbm, ⟨12, _⟩ => ⟨S8x2304x1024, .f32⟩
  | .hbm, ⟨13, _⟩ => ⟨S1x1x1024, .f32⟩
  | .hbm, ⟨14, _⟩ => ⟨S8x2304x1024, .f32⟩
  | .hbm, ⟨15, _⟩ => ⟨S8x2304x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x256x1024, .f32⟩
  | .hbm, ⟨26, _⟩ => ⟨S1x1x1024, .f32⟩
  | .hbm, ⟨27, _⟩ => ⟨S1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x256x1024, .f32⟩
  | .hbm, ⟨39, _⟩ => ⟨S_, .f32⟩
  | .hbm, ⟨40, _⟩ => ⟨S8x256, .f32⟩
  | .hbm, ⟨41, _⟩ => ⟨S8x256x1, .f32⟩
  | .hbm, ⟨42, _⟩ => ⟨S_, .f32⟩
  | .hbm, ⟨43, _⟩ => ⟨S8x256x1, .f32⟩
  | .hbm, ⟨44, _⟩ => ⟨S8x256x1, .f32⟩
  | .hbm, ⟨45, _⟩ => ⟨S_, .f32⟩
  | .hbm, ⟨46, _⟩ => ⟨S8x256x1, .f32⟩
  | .hbm, ⟨47, _⟩ => ⟨S8x256x1, .f32⟩
  | .hbm, ⟨48, _⟩ => ⟨S8x256x1, .f32⟩
  | .hbm, ⟨49, _⟩ => ⟨S8x256x1024, .f32⟩
  | .hbm, ⟨50, _⟩ => ⟨S8x256x1024, .f32⟩
  | .hbm, ⟨51, _⟩ => ⟨S1x1x1024, .f32⟩
  | .hbm, ⟨52, _⟩ => ⟨S8x256x1024, .f32⟩
  | .hbm, ⟨53, _⟩ => ⟨S8x256x1024, .f32⟩
  | .hbm, ⟨54, _⟩ => ⟨S1x1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S1x1x1024, .f32⟩
  | .hbm, ⟨63, _⟩ => ⟨S1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S_, .f32⟩
  | .hbm, ⟨84, _⟩ => ⟨S8x1x1024, .f32⟩
  | .hbm, ⟨85, _⟩ => ⟨S8x1x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2304x1024, .f32⟩
  | .hbm, ⟨91, _⟩ => ⟨S18432x1024, .f32⟩
  | .hbm, ⟨92, _⟩ => ⟨S8x2304x1024, .f32⟩
  | .hbm, ⟨93, _⟩ => ⟨S18432x1024, .f32⟩
  | .hbm, ⟨94, _⟩ => ⟨S147456x128, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== Last.lean ====
abbrev S18432x1024 : Shape := ⟨2, ![18432, 1024]⟩
abbrev S16x6x1024 : Shape := ⟨3, ![16, 6, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S16x1 : Shape := ⟨2, ![16, 1]⟩
abbrev S16x128 : Shape := ⟨2, ![16, 128]⟩
abbrev S16384x1024 : Shape := ⟨2, ![16384, 1024]⟩
abbrev S131072x128 : Shape := ⟨2, ![131072, 128]⟩
abbrev S2x16384 : Shape := ⟨2, ![2, 16384]⟩
abbrev S256x1024 : Shape := ⟨2, ![256, 1024]⟩
abbrev S8192x128 : Shape := ⟨2, ![8192, 128]⟩
abbrev S2x1024 : Shape := ⟨2, ![2, 1024]⟩
abbrev S1x6x1024 : Shape := ⟨3, ![1, 6, 1024]⟩
abbrev S6x1024 : Shape := ⟨2, ![6, 1024]⟩
abbrev S256 : Shape := ⟨1, ![256]⟩
abbrev S256x1 : Shape := ⟨2, ![256, 1]⟩
abbrev S32x1024 : Shape := ⟨2, ![32, 1024]⟩
abbrev S32x256 : Shape := ⟨2, ![32, 256]⟩
abbrev S16x256 : Shape := ⟨2, ![16, 256]⟩
abbrev S256x128 : Shape := ⟨2, ![256, 128]⟩
abbrev S1x256 : Shape := ⟨2, ![1, 256]⟩
abbrev S2x256 : Shape := ⟨2, ![2, 256]⟩
abbrev S256x256 : Shape := ⟨2, ![256, 256]⟩

abbrev nBuf : Space → Nat
  | .hbm => 18
  | .vmem => 34
  | .smem => 0
  | _ => 0

abbrev bufTy : (tb : Table) → Fin (tcTables nBuf tb) → BufTy
  | .hbm, ⟨0, _⟩ => ⟨S18432x1024, .f32⟩
  | .hbm, ⟨1, _⟩ => ⟨S18432x1024, .bf16⟩
  | .hbm, ⟨2, _⟩ => ⟨S16x6x1024, .f32⟩
  | .hbm, ⟨3, _⟩ => ⟨S1024x1024, .bf16⟩
  | .hbm, ⟨4, _⟩ => ⟨S1024, .f32⟩
  | .hbm, ⟨5, _⟩ => ⟨S1024, .f32⟩
  | .hbm, ⟨6, _⟩ => ⟨S16x1024, .f32⟩
  | .hbm, ⟨7, _⟩ => ⟨S16, .f32⟩
  | .hbm, ⟨8, _⟩ => ⟨S1x1024, .f32⟩
  | .hbm, ⟨9, _⟩ => ⟨S1x1024, .f32⟩
  | .hbm, ⟨10, _⟩ => ⟨S16x1, .f32⟩
  | .hbm, ⟨11, _⟩ => ⟨S16x128, .f32⟩
  | .hbm, ⟨12, _⟩ => ⟨S16384x1024, .f32⟩
  | .hbm, ⟨13, _⟩ => ⟨S131072x128, .f32⟩
  | .hbm, ⟨14, _⟩ => ⟨S2x16384, .i32⟩
  | .hbm, ⟨15, _⟩ => ⟨S2x16384, .f32⟩
  | .hbm, ⟨16, _⟩ => ⟨S2x16384, .i32⟩
  | .hbm, ⟨17, _⟩ => ⟨S16x128, .i32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S16x6x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S16x1024, .f32⟩
  | .local _ .vmem, ⟨21, _⟩ => ⟨S16x128, .f32⟩
  | .local _ .vmem, ⟨22, _⟩ => ⟨S1024x1024, .f32⟩
  | .local _ .vmem, ⟨23, _⟩ => ⟨S1024x1024, .f32⟩
  | .local _ .vmem, ⟨24, _⟩ => ⟨S8192x128, .f32⟩
  | .local _ .vmem, ⟨25, _⟩ => ⟨S8192x128, .f32⟩
  | .local _ .vmem, ⟨26, _⟩ => ⟨S2x1024, .i32⟩
  | .local _ .vmem, ⟨27, _⟩ => ⟨S2x1024, .i32⟩
  | .local _ .vmem, ⟨28, _⟩ => ⟨S2x1024, .f32⟩
  | .local _ .vmem, ⟨29, _⟩ => ⟨S2x1024, .f32⟩
  | .local _ .vmem, ⟨30, _⟩ => ⟨S2x1024, .i32⟩
  | .local _ .vmem, ⟨31, _⟩ => ⟨S2x1024, .i32⟩
  | .local _ .vmem, ⟨32, _⟩ => ⟨S16x128, .i32⟩
  | .local _ .vmem, ⟨33, _⟩ => ⟨S16x128, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32

abbrev nD : Nat := 1
abbrev τ : Topo := Topo.v7x

variable {F : FTy → Type} [FloatOps F]

abbrev grid0 : Pipeline.Grid := ⟨1, ![16], ![false]⟩

def k0_off1 (i : grid0.Coords) (c0_i32_1 : BitVec 32) : Fin 3 → Nat :=
  let c1_i32_7 : BitVec 32 := 1#32
  let c4_i32 : BitVec 32 := 4#32
  let arg0 : BitVec 32 := BitVec.ofNat 32 (i 0).val
  let v3 : BitVec 32 := Scalar.muli c4_i32 arg0
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c8_i32 : BitVec 32 := 8#32
  let c0_i32_4 : BitVec 32 := 0#32
  let v11 : BitVec 1 := Scalar.cmpi .sgt c8_i32 c0_i32_4
  let v12 : BitVec 32 := Scalar.extui v11
  let c0_i32_5 : BitVec 32 := 0#32
  let v13 : BitVec 1 := Scalar.cmpi .slt c8_i32 c0_i32_5
  let v14 : BitVec 32 := Scalar.extui v13
  let v15 : BitVec 32 := Scalar.subi v12 v14
  let v16 : BitVec 1 := Scalar.cmpi .ne v10 v15
  let v17 : BitVec 32 := Scalar.remsi v4 c8_i32
  let c0_i32_6 : BitVec 32 := 0#32
  let v18 : BitVec 1 := Scalar.cmpi .ne v17 c0_i32_6
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v22 : BitVec 32 := Scalar.addi c1_i32_7 v21
  let v23 : Index := Scalar.indexCast v22
  let c0 : Index := 0#32
  let c0_8 : Index := 0#32
  ![v23.toNat, 0, 0]
def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32 : BitVec 32 := 9#32
  let v19 : BitVec 32 := Scalar.muli v18 c9_i32
  let c1_i32_5 : BitVec 32 := 1#32
  let v20 : BitVec 32 := Scalar.addi v19 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  let c0_i32_13 : BitVec 32 := 0#32
  ![v31.toNat, c0_i32_12.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32 : BitVec 32 := 9#32
  let v19 : BitVec 32 := Scalar.muli v18 c9_i32
  let c1_i32_5 : BitVec 32 := 1#32
  let v20 : BitVec 32 := Scalar.addi v19 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  let c0_i32_13 : BitVec 32 := 0#32
  ![v31.toNat, c0_i32_12.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c9_i32 : BitVec 32 := 9#32
  let v19 : BitVec 32 := Scalar.muli v18 c9_i32
  let c1_i32_4 : BitVec 32 := 1#32
  let v20 : BitVec 32 := Scalar.addi v19 c1_i32_4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_11 : BitVec 32 := 0#32
  let c0_i32_12 : BitVec 32 := 0#32
  ![v31.toNat, c0_i32_11.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c9_i32 : BitVec 32 := 9#32
  let v19 : BitVec 32 := Scalar.muli v18 c9_i32
  let c1_i32_4 : BitVec 32 := 1#32
  let v20 : BitVec 32 := Scalar.addi v19 c1_i32_4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_11 : BitVec 32 := 0#32
  let c0_i32_12 : BitVec 32 := 0#32
  ![v31.toNat, c0_i32_11.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c9_i32 : BitVec 32 := 9#32
  let v19 : BitVec 32 := Scalar.muli v18 c9_i32
  let c1_i32_5 : BitVec 32 := 1#32
  let v20 : BitVec 32 := Scalar.addi v19 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  let c0_i32_13 : BitVec 32 := 0#32
  ![v31.toNat, c0_i32_12.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c9_i32 : BitVec 32 := 9#32
  let v19 : BitVec 32 := Scalar.muli v18 c9_i32
  let c1_i32_5 : BitVec 32 := 1#32
  let v20 : BitVec 32 := Scalar.addi v19 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  let c0_i32_13 : BitVec 32 := 0#32
  ![v31.toNat, c0_i32_12.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c9_i32 : BitVec 32 := 9#32
  let v19 : BitVec 32 := Scalar.muli v18 c9_i32
  let c1_i32_4 : BitVec 32 := 1#32
  let v20 : BitVec 32 := Scalar.addi v19 c1_i32_4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_11 : BitVec 32 := 0#32
  let c0_i32_12 : BitVec 32 := 0#32
  ![v31.toNat, c0_i32_11.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c9_i32 : BitVec 32 := 9#32
  let v19 : BitVec 32 := Scalar.muli v18 c9_i32
  let c1_i32_4 : BitVec 32 := 1#32
  let v20 : BitVec 32 := Scalar.addi v19 c1_i32_4
  let c8_i32_5 : BitVec 32 := 8#32
  let c0_i32_6 : BitVec 32 := 0#32
  let v21 : BitVec 1 := Scalar.cmpi .eq c8_i32_5 c0_i32_6
  let c1_i32_7 : BitVec 32 := 1#32
  let v22 : BitVec 32 := Scalar.select v21 c1_i32_7 c8_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_11 : BitVec 32 := 0#32
  let c0_i32_12 : BitVec 32 := 0#32
  ![v31.toNat, c0_i32_11.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8192x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1024 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1024 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S16x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== LastRefIdeal.lean ====
abbrev S18432x1024 : Shape := ⟨2, ![18432, 1024]⟩
abbrev S16x6x1024 : Shape := ⟨3, ![16, 6, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S8x2304x1024 : Shape := ⟨3, ![8, 2304, 1024]⟩
abbrev S8x2048x1024 : Shape := ⟨3, ![8, 2048, 1024]⟩
abbrev S1x1x1024 : Shape := ⟨3, ![1, 1, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S16384x1024 : Shape := ⟨2, ![16384, 1024]⟩
abbrev S131072x128 : Shape := ⟨2, ![131072, 128]⟩

abbrev nBuf : Space → Nat
  | .hbm => 55
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S18432x1024, .bf16⟩
  | .hbm, ⟨2, _⟩ => ⟨S16x6x1024, .f32⟩
  | .hbm, ⟨3, _⟩ => ⟨S1024x1024, .bf16⟩
  | .hbm, ⟨4, _⟩ => ⟨S1024, .f32⟩
  | .hbm, ⟨5, _⟩ => ⟨S1024, .f32⟩
  | .hbm, ⟨6, _⟩ => ⟨S16x1024, .f32⟩
  | .hbm, ⟨7, _⟩ => ⟨S16, .f32⟩
  | .hbm, ⟨8, _⟩ => ⟨S8x2304x1024, .f32⟩
  | .hbm, ⟨9, _⟩ => ⟨S8x2048x1024, .f32⟩
  | .hbm, ⟨10, _⟩ => ⟨S8x2304x1024, .bf16⟩
  | .hbm, ⟨11, _⟩ => ⟨S8x2048x1024, .bf16⟩
  | .hbm, ⟨12, _⟩ => ⟨S8x2048x1024, .f32⟩
  | .hbm, ⟨13, _⟩ => ⟨S1024x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S16384x1024, .f32⟩
  | .hbm, ⟨54, _⟩ => ⟨S131072x128, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Mods.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S16x4x6144 : Shape := ⟨3, ![16, 4, 6144]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x6144, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Pre.lean ====
abbrev S18432x3072 : Shape := ⟨2, ![18432, 3072]⟩
abbrev S3x3072 : Shape := ⟨2, ![3, 3072]⟩
abbrev S3072 : Shape := ⟨1, ![3072]⟩
abbrev S1x3072 : Shape := ⟨2, ![1, 3072]⟩
abbrev S2048x1024 : Shape := ⟨2, ![2048, 1024]⟩
abbrev S16384x1024 : Shape := ⟨2, ![16384, 1024]⟩
abbrev S2304x256 : Shape := ⟨2, ![2304, 256]⟩
abbrev S3x256 : Shape := ⟨2, ![3, 256]⟩
abbrev S1x256 : Shape := ⟨2, ![1, 256]⟩
abbrev S256x256 : Shape := ⟨2, ![256, 256]⟩
abbrev S2048x256 : Shape := ⟨2, ![2048, 256]⟩
abbrev S2304x1 : Shape := ⟨2, ![2304, 1]⟩

abbrev nBuf : Space → Nat
  | .hbm => 8
  | .vmem => 26
  | .smem => 0
  | _ => 0

abbrev bufTy : (tb : Table) → Fin (tcTables nBuf tb) → BufTy
  | .hbm, ⟨0, _⟩ => ⟨S18432x3072, .bf16⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S2048x1024, .bf16⟩
  | .hbm, ⟨5, _⟩ => ⟨S16384x1024, .bf16⟩
  | .hbm, ⟨6, _⟩ => ⟨S2048x1024, .bf16⟩
  | .hbm, ⟨7, _⟩ => ⟨S16384x1024, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .bf16⟩
  | .local _ .vmem, ⟨19, _⟩ => ⟨S256x256, .bf16⟩
  | .local _ .vmem, ⟨20, _⟩ => ⟨S2048x256, .bf16⟩
  | .local _ .vmem, ⟨21, _⟩ => ⟨S2048x256, .bf16⟩
  | .local _ .vmem, ⟨22, _⟩ => ⟨S256x256, .bf16⟩
  | .local _ .vmem, ⟨23, _⟩ => ⟨S256x256, .bf16⟩
  | .local _ .vmem, ⟨24, _⟩ => ⟨S2048x256, .bf16⟩
  | .local _ .vmem, ⟨25, _⟩ => ⟨S2048x256, .bf16⟩
  | _, _ => ⟨S18432x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PreRefIdeal.lean ====
abbrev S18432x3072 : Shape := ⟨2, ![18432, 3072]⟩
abbrev S3x3072 : Shape := ⟨2, ![3, 3072]⟩
abbrev S3072 : Shape := ⟨1, ![3072]⟩
abbrev S8x2304x3072 : Shape := ⟨3, ![8, 2304, 3072]⟩
abbrev S8x256x3072 : Shape := ⟨3, ![8, 256, 3072]⟩
abbrev S8x2048x3072 : Shape := ⟨3, ![8, 2048, 3072]⟩
abbrev S_ : Shape := ⟨0, ![]⟩
abbrev S8x258x3072 : Shape := ⟨3, ![8, 258, 3072]⟩
abbrev S1x3072 : Shape := ⟨2, ![1, 3072]⟩
abbrev S1x1x3072 : Shape := ⟨3, ![1, 1, 3072]⟩
abbrev S8x2050x3072 : Shape := ⟨3, ![8, 2050, 3072]⟩
abbrev S8x256x1024 : Shape := ⟨3, ![8, 256, 1024]⟩
abbrev S8x2048x1024 : Shape := ⟨3, ![8, 2048, 1024]⟩
abbrev S2048x1024 : Shape := ⟨2, ![2048, 1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S18432x3072, .bf16⟩
  | .hbm, ⟨1, _⟩ => ⟨S3x3072, .f32⟩
  | .hbm, ⟨2, _⟩ => ⟨S3072, .f32⟩
  | .hbm, ⟨3, _⟩ => ⟨S8x2304x3072, .bf16⟩
  | .hbm, ⟨4, _⟩ => ⟨S8x2304x3072, .f32⟩
  | .hbm, ⟨5, _⟩ => ⟨S8x256x3072, .f32⟩
  | .hbm, ⟨6, _⟩ => ⟨S8x2048x3072, .f32⟩
  | .hbm, ⟨7, _⟩ => ⟨S_, .i32⟩
  | .hbm, ⟨8, _⟩ => ⟨S_, .f32⟩
  | .hbm, ⟨9, _⟩ => ⟨S8x258x3072, .f32⟩
  | .hbm, ⟨10, _⟩ => ⟨S8x256x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S8x256x3072, .f32⟩
  | .hbm, ⟨15, _⟩ => ⟨S8x256x3072, .f32⟩
  | .hbm, ⟨16, _⟩ => ⟨S8x256x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S8x256x3072, .f32⟩
  | .hbm, ⟨21, _⟩ => ⟨S8x256x3072, .f32⟩
  | .hbm, ⟨22, _⟩ => ⟨S8x256x3072, .f32⟩
  | .hbm, ⟨23, _⟩ => ⟨S8x256x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S8x256x3072, .f32⟩
  | .hbm, ⟨28, _⟩ => ⟨S8x256x3072, .f32⟩
  | .hbm, ⟨29, _⟩ => ⟨S8x256x3072, .f32⟩
  | .hbm, ⟨30, _⟩ => ⟨S1x1x3072, .f32⟩
  | .hbm, ⟨31, _⟩ => ⟨S8x256x3072, .f32⟩
  | .hbm, ⟨32, _⟩ => ⟨S8x256x3072, .f32⟩
  | .hbm, ⟨33, _⟩ => ⟨S_, .i32⟩
  | .hbm, ⟨34, _⟩ => ⟨S_, .f32⟩
  | .hbm, ⟨35, _⟩ => ⟨S8x2050x3072, .f32⟩
  | .hbm, ⟨36, _⟩ => ⟨S8x2048x3072, .f32⟩
  | .hbm, ⟨37, _⟩ => ⟨S1x3072, .f32⟩
  | .hbm, ⟨38, _⟩ => ⟨S3072, .f32⟩
  | .hbm, ⟨39, _⟩ => ⟨S1x1x3072, .f32⟩
  | .hbm, ⟨40, _⟩ => ⟨S8x2048x3072, .f32⟩
  | .hbm, ⟨41, _⟩ => ⟨S8x2048x3072, .f32⟩
  | .hbm, ⟨42, _⟩ => ⟨S8x2048x3072, .f32⟩
  | .hbm, ⟨43, _⟩ => ⟨S1x3072, .f32⟩
  | .hbm, ⟨44, _⟩ => ⟨S3072, .f32⟩
  | .hbm, ⟨45, _⟩ => ⟨S1x1x3072, .f32⟩
  | .hbm, ⟨46, _⟩ => ⟨S8x2048x3072, .f32⟩
  | .hbm, ⟨47, _⟩ => ⟨S8x2048x3072, .f32⟩
  | .hbm, ⟨48, _⟩ => ⟨S8x2048x3072, .f32⟩
  | .hbm, ⟨49, _⟩ => ⟨S8x2048x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S8x2048x3072, .f32⟩
  | .hbm, ⟨54, _⟩ => ⟨S8x2048x3072, .f32⟩
  | .hbm, ⟨55, _⟩ => ⟨S8x2048x3072, .f32⟩
  | .hbm, ⟨56, _⟩ => ⟨S1x1x3072, .f32⟩
  | .hbm, ⟨57, _⟩ => ⟨S8x2048x3072, .f32⟩
  | .hbm, ⟨58, _⟩ => ⟨S8x2048x3072, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x256x1024, .f32⟩
  | .hbm, ⟨66, _⟩ => ⟨S8x2048x1024, .f32⟩
  | .hbm, ⟨67, _⟩ => ⟨S2048x1024, .f32⟩
  | .hbm, ⟨68, _⟩ => ⟨S2048x1024, .bf16⟩
  | .hbm, ⟨69, _⟩ => ⟨S16384x1024, .f32⟩
  | .hbm, ⟨70, _⟩ => ⟨S16384x1024, .bf16⟩
  | .hbm, ⟨71, _⟩ => ⟨S2048x1024, .f32⟩
  | .hbm, ⟨72, _⟩ => ⟨S2048x1024, .bf16⟩
  | .hbm, ⟨73, _⟩ => ⟨S16384x1024, .f32⟩
  | .hbm, ⟨74, _⟩ => ⟨S16384x1024, .bf16⟩
  | _, _ => ⟨S18432x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_0 : Ref sig .tc := ⟨.hbm, 33, rfl⟩
abbrev main_call1_v0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩

abbrev nD : Nat := 1
abbrev τ : Topo := Topo.v7x

variable {F : FTy → Type} [FloatOps F]
-- ==== Order.lean ====
abbrev S18432x1024 : Shape := ⟨2, ![18432, 1024]⟩
abbrev S2304x128 : Shape := ⟨2, ![2304, 128]⟩
abbrev S256x128 : Shape := ⟨2, ![256, 128]⟩
abbrev S32x128 : Shape := ⟨2, ![32, 128]⟩

abbrev nBuf : Space → Nat
  | .hbm => 2
  | .vmem => 4
  | .smem => 0
  | _ => 0

abbrev bufTy : (tb : Table) → Fin (tcTables nBuf tb) → BufTy
  | .hbm, ⟨0, _⟩ => ⟨S18432x1024, .f32⟩
  | .hbm, ⟨1, _⟩ => ⟨S18432x1024, .f32⟩
  | .local _ .vmem, ⟨0, _⟩ => ⟨S2304x128, .f32⟩
  | .local _ .vmem, ⟨1, _⟩ => ⟨S2304x128, .f32⟩
  | .local _ .vmem, ⟨2, _⟩ => ⟨S2304x128, .f32⟩
  | .local _ .vmem, ⟨3, _⟩ => ⟨S2304x128, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== OrderRefIdeal.lean ====
abbrev S18432x1024 : Shape := ⟨2, ![18432, 1024]⟩
abbrev S8x2304x1024 : Shape := ⟨3, ![8, 2304, 1024]⟩
abbrev S8x256x1024 : Shape := ⟨3, ![8, 256, 1024]⟩
abbrev S8x2048x1024 : Shape := ⟨3, ![8, 2048, 1024]⟩
abbrev S8x32x64x1024 : Shape := ⟨4, ![8, 32, 64, 1024]⟩
abbrev S8x64x32x1024 : Shape := ⟨4, ![8, 64, 32, 1024]⟩

abbrev nBuf : Space → Nat
  | .hbm => 9
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S8x2304x1024, .f32⟩
  | .hbm, ⟨2, _⟩ => ⟨S8x256x1024, .f32⟩
  | .hbm, ⟨3, _⟩ => ⟨S8x2048x1024, .f32⟩
  | .hbm, ⟨4, _⟩ => ⟨S8x32x64x1024, .f32⟩
  | .hbm, ⟨5, _⟩ => ⟨S8x64x32x1024, .f32⟩
  | .hbm, ⟨6, _⟩ => ⟨S8x2048x1024, .f32⟩
  | .hbm, ⟨7, _⟩ => ⟨S8x2304x1024, .f32⟩
  | .hbm, ⟨8, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Proof.Feed.lean ====
module

public import Idealize.ShloMosaic.Lib.Pointwise

@[expose] public section

noncomputable section

namespace Cert.Feed

open Idealize.ShloMosaic

/-- One coordinate of an expert's gated feed-forward of a token `X`: the gate's projection through its logistic, times the
    up projection, projected down. -/
def feed (X : Fin 1024 → EReal) (W1 W3 W2 : Fin 1024 → Fin 1024 → EReal) (j : Fin 1024) : EReal :=
  ∑ k : Fin 1024, (∑ d, X d * W1 d k) * Ideal.div 1 (1 + Ideal.exp (-∑ d, X d * W1 d k)) * (∑ d, X d * W3 d k) * W2 k j

/-- The feed-forward of the zero token is zero. -/
theorem feed_zero (W1 W3 W2 : Fin 1024 → Fin 1024 → EReal) (j : Fin 1024) : feed (fun _ => 0) W1 W3 W2 j = 0 := by
  unfold feed
  simp only [zero_mul, Finset.sum_const_zero]

/-- The row of the folded token array that holds coordinate `d` of the token whose coordinates fold into row `r`. -/
def rowOf (r : Fin 360448) (d : Fin 1024) : Fin 360448 := ⟨r.val / 8 * 8 + d.val / 128, by omega⟩

/-- That coordinate's lane. -/
def laneOf (d : Fin 1024) : Fin 128 := ⟨d.val % 128, by omega⟩

/-- The token coordinate held by row `r`, lane `l`. -/
def coordOf (r : Fin 360448) (l : Fin 128) : Fin 1024 := ⟨r.val % 8 * 128 + l.val, by omega⟩

/-- The expert a table word names, of the first layer's sixteen. -/
def expertOf (w : BitVec 32) : Fin 16 := ⟨min w.toNat 15, by omega⟩

/-- The folded result: on a used block the feed-forward of the block's tokens through its expert, elsewhere zero. -/
def result (be : Fin 88 → BitVec 32) (n : BitVec 32) (x : Fin 360448 → Fin 128 → EReal)
    (w1 w3 w2 : Fin 4 → Fin 16 → Fin 1024 → Fin 1024 → EReal) (r : Fin 360448) (l : Fin 128) : EReal :=
  if (BitVec.ofNat 32 (r.val / 4096)).slt n = true then
    feed (fun d => x (rowOf r d) (laneOf d)) (w1 0 (expertOf (be ⟨r.val / 4096, by omega⟩)))
      (w3 0 (expertOf (be ⟨r.val / 4096, by omega⟩))) (w2 0 (expertOf (be ⟨r.val / 4096, by omega⟩))) (coordOf r l)
  else 0

/-- A word between zero and fifteen, read signed, is its natural value. -/
theorem word_range (w : BitVec 32) (h0 : (0#32).sle w = true) (h1 : w.slt 16#32 = true) : w.toNat < 16 ∧ w.toInt.toNat = w.toNat := by
  have a := BitVec.sle_iff_toInt_le.mp h0
  have b := BitVec.slt_iff_toInt_lt.mp h1
  have e16 : (16#32).toInt = 16 := by decide
  have e0 : (0#32).toInt = 0 := by decide
  have hc := BitVec.toInt_eq_toNat_cond w
  have hl := w.isLt
  rw [e0] at a
  rw [e16] at b
  split at hc <;> omega

end Cert.Feed

end
-- ==== Proof.RunsIdeal.lean ====
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The block table, the count of used blocks and the three cached weight matrices. -/
abbrev tabE : Memref sig .tc .smem S88 .i32 := Memref.whole main_arg0
abbrev tabN : Memref sig .tc .smem S1 .i32 := Memref.whole main_arg1
abbrev sc1 : Memref sig .tc .vmem S1024x1024 .bf16 := Memref.whole cc0_scratch0
abbrev sc3 : Memref sig .tc .vmem S1024x1024 .bf16 := Memref.whole cc0_scratch1
abbrev sc2 : Memref sig .tc .vmem S1024x1024 .bf16 := Memref.whole cc0_scratch2

/-- The expert named for block `i`, the one named for the block before it, and the count of used blocks, as the body reads them. -/
abbrev wordE (i : grid0.Coords) (T0 : S88.Idx → Elt F .i32) : BitVec 32 :=
  View.readAt (Elt F) tabE.view (Rect.unit (s := S88) (k0_off1 i) S1.size (k0_off1_inb i)).toLoadRect T0 (Shape.Idx.first (numel1_S1.symm ▸ Nat.one_pos))
abbrev wordP (i : grid0.Coords) (T0 : S88.Idx → Elt F .i32) : BitVec 32 :=
  View.readAt (Elt F) tabE.view (Rect.unit (s := S88) (k0_off2 i) S1.size (k0_off2_inb i)).toLoadRect T0 (Shape.Idx.first (numel1_S1.symm ▸ Nat.one_pos))
abbrev wordN (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- The test under which the body refills the cached weights. -/
abbrev condF (i : grid0.Coords) (T0 : S88.Idx → Elt F .i32) (T1 : S1.Idx → Elt F .i32) : BitVec 1 :=
  Scalar.cmpi .ne (Scalar.extui (Scalar.andi (Scalar.ori (Scalar.cmpi .eq (BitVec.ofNat 32 (i 0).val) 0#32)
    (Scalar.cmpi .ne (wordE i T0) (wordP i T0))) (Scalar.cmpi .slt (BitVec.ofNat 32 (i 0).val) (wordN T1)))) 0#32

set_option backward.proofsInPublic true in
set_option maxHeartbeats 8000000 in
/-- The body at a used block whose expert is the one before it: the cached weights stay, the block's rows go through them. -/
noncomputable def runKeep (c : Dev nD) (i : grid0.Coords) (arg3 : Memref sig .tc .vmem S4096x128 .f32) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole)
    (arg7 : Memref sig .tc .vmem S4096x128 .f32) (harg7 : arg7.IsWhole)
    (T0 : S88.Idx → Elt F .i32) (T1 : S1.Idx → Elt F .i32) (x0 : S4096x128.Idx → Elt F .f32)
    (x1 x2 x3 : S1x1x1024x1024.Idx → Elt F .f32) (s1 : Buf (Elt F) ((c : Thread nD τ).loc cc0_scratch0)) (s3 : Buf (Elt F) ((c : Thread nD τ).loc cc0_scratch1)) (s2 : Buf (Elt F) ((c : Thread nD τ).loc cc0_scratch2))
    (hc : ¬(condF i T0 T1 = 1#1)) (h2 : k0_cond2 i (wordN T1) = 1#1) (h3 : ¬(k0_cond3 i (wordN T1) = 1#1)) :
    Σ' (out : List (View.Piece (Elt F) S4096x128 .f32)) (u1 : Buf (Elt F) ((c : Thread nD τ).loc cc0_scratch0)) (u3 : Buf (Elt F) ((c : Thread nD τ).loc cc0_scratch1)), { u2 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (sc1.view.loc (c : Thread nD τ) ↦{fullShare} s1)
          ∗ (sc3.view.loc (c : Thread nD τ) ↦{fullShare} s3)
          ∗ (sc2.view.loc (c : Thread nD τ) ↦{fullShare} s2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ f, arg7.view.loc (c : Thread nD τ) ↦[arg7.view.set]{fullShare} arg7.view.writes (Elt F) f out)
          ∗ (sc1.view.loc (c : Thread nD τ) ↦{fullShare} u1)
          ∗ (sc3.view.loc (c : Thread nD τ) ↦{fullShare} u3)
          ∗ (sc2.view.loc (c : Thread nD τ) ↦{fullShare} u2)) -∗ K ⟨⟩))
        ⊢ wp frame (wpE (defs₀ (F := F)) Variants.none c none) Set.univ
            (cc0_moe_experts i tabE (Memref.isWhole_whole _) tabN (Memref.isWhole_whole _) arg3 harg3 arg4 harg4 arg5 harg5 arg6 harg6 arg7 harg7
              sc1 (Memref.isWhole_whole _) sc3 (Memref.isWhole_whole _) sc2 (Memref.isWhole_whole _)) K } :=
  ⟨_, _, _, _, fun K => by
    unfold owns
    rw [cc0_moe_experts_eq_skeleton]; unfold cc0_moe_experts_skel

    iintro ⟨H0, H1, H2, H3, HT0, HT1, ⟨%d4, %f4, -, HO⟩, HS1, HS3, HS2, Hk⟩
    have hS1 : sc1.IsWhole := Memref.isWhole_whole _
    have hS3 : sc3.IsWhole := Memref.isWhole_whole _
    have hS2 : sc2.IsWhole := Memref.isWhole_whole _
    have hT0 : tabE.IsWhole := Memref.isWhole_whole _
    have hT1 : tabN.IsWhole := Memref.isWhole_whole _
    sl_exec! (disch := first | (guard_target = ¬(Scalar.cmpi .ne _ _ = _); exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO]; · iexists _; iexact HO
    isplitl [HS1]; · iexact HS1
    isplitl [HS3]; · iexact HS3
    iexact HS2⟩

set_option backward.proofsInPublic true in
set_option maxHeartbeats 8000000 in
/-- The body at a used block that opens an expert: the three weights are cached first. -/
noncomputable def runFill (c : Dev nD) (i : grid0.Coords) (arg3 : Memref sig .tc .vmem S4096x128 .f32) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole)
    (arg7 : Memref sig .tc .vmem S4096x128 .f32) (harg7 : arg7.IsWhole)
    (T0 : S88.Idx → Elt F .i32) (T1 : S1.Idx → Elt F .i32) (x0 : S4096x128.Idx → Elt F .f32)
    (x1 x2 x3 : S1x1x1024x1024.Idx → Elt F .f32) (s1 : Buf (Elt F) ((c : Thread nD τ).loc cc0_scratch0)) (s3 : Buf (Elt F) ((c : Thread nD τ).loc cc0_scratch1)) (s2 : Buf (Elt F) ((c : Thread nD τ).loc cc0_scratch2))
    (hc : condF i T0 T1 = 1#1) (h2 : k0_cond2 i (wordN T1) = 1#1) (h3 : ¬(k0_cond3 i (wordN T1) = 1#1)) :
    Σ' (out : List (View.Piece (Elt F) S4096x128 .f32)) (u1 : Buf (Elt F) ((c : Thread nD τ).loc cc0_scratch0)) (u3 : Buf (Elt F) ((c : Thread nD τ).loc cc0_scratch1)), { u2 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (sc1.view.loc (c : Thread nD τ) ↦{fullShare} s1)
          ∗ (sc3.view.loc (c : Thread nD τ) ↦{fullShare} s3)
          ∗ (sc2.view.loc (c : Thread nD τ) ↦{fullShare} s2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ f, arg7.view.loc (c : Thread nD τ) ↦[arg7.view.set]{fullShare} arg7.view.writes (Elt F) f out)
          ∗ (sc1.view.loc (c : Thread nD τ) ↦{fullShare} u1)
          ∗ (sc3.view.loc (c : Thread nD τ) ↦{fullShare} u3)
          ∗ (sc2.view.loc (c : Thread nD τ) ↦{fullShare} u2)) -∗ K ⟨⟩))
        ⊢ wp frame (wpE (defs₀ (F := F)) Variants.none c none) Set.univ
            (cc0_moe_experts i tabE (Memref.isWhole_whole _) tabN (Memref.isWhole_whole _) arg3 harg3 arg4 harg4 arg5 harg5 arg6 harg6 arg7 harg7
              sc1 (Memref.isWhole_whole _) sc3 (Memref.isWhole_whole _) sc2 (Memref.isWhole_whole _)) K } :=
  ⟨_, _, _, _, fun K => by
    unfold owns
    rw [cc0_moe_experts_eq_skeleton]; unfold cc0_moe_experts_skel

    iintro ⟨H0, H1, H2, H3, HT0, HT1, ⟨%d4, %f4, -, HO⟩, HS1, HS3, HS2, Hk⟩
    have hS1 : sc1.IsWhole := Memref.isWhole_whole _
    have hS3 : sc3.IsWhole := Memref.isWhole_whole _
    have hS2 : sc2.IsWhole := Memref.isWhole_whole _
    have hT0 : tabE.IsWhole := Memref.isWhole_whole _
    have hT1 : tabN.IsWhole := Memref.isWhole_whole _
    sl_exec! (disch := first | (guard_target = Scalar.cmpi .ne _ _ = _; exact hc) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO]; · iexists _; iexact HO
    isplitl [HS1]; · iexact HS1
    isplitl [HS3]; · iexact HS3
    iexact HS2⟩

set_option backward.proofsInPublic true in
set_option maxHeartbeats 8000000 in
/-- The body at an unused block: zeros. -/
noncomputable def runSkip (c : Dev nD) (i : grid0.Coords) (arg3 : Memref sig .tc .vmem S4096x128 .f32) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole)
    (arg7 : Memref sig .tc .vmem S4096x128 .f32) (harg7 : arg7.IsWhole)
    (T0 : S88.Idx → Elt F .i32) (T1 : S1.Idx → Elt F .i32) (x0 : S4096x128.Idx → Elt F .f32)
    (x1 x2 x3 : S1x1x1024x1024.Idx → Elt F .f32) (s1 : Buf (Elt F) ((c : Thread nD τ).loc cc0_scratch0)) (s3 : Buf (Elt F) ((c : Thread nD τ).loc cc0_scratch1)) (s2 : Buf (Elt F) ((c : Thread nD τ).loc cc0_scratch2))
    (hc : ¬(condF i T0 T1 = 1#1)) (h2 : ¬(k0_cond2 i (wordN T1) = 1#1)) (h3 : k0_cond3 i (wordN T1) = 1#1) :
    Σ' (out : List (View.Piece (Elt F) S4096x128 .f32)) (u1 : Buf (Elt F) ((c : Thread nD τ).loc cc0_scratch0)) (u3 : Buf (Elt F) ((c : Thread nD τ).loc cc0_scratch1)), { u2 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ d, owns (c : Thread nD τ) arg7 fullShare d)
          ∗ (sc1.view.loc (c : Thread nD τ) ↦{fullShare} s1)
          ∗ (sc3.view.loc (c : Thread nD τ) ↦{fullShare} s3)
          ∗ (sc2.view.loc (c : Thread nD τ) ↦{fullShare} s2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tabE.view.loc (c : Thread nD τ) ↦{fullShare.right} T0)
          ∗ (tabN.view.loc (c : Thread nD τ) ↦{fullShare.right} T1)
          ∗ (∃ f, arg7.view.loc (c : Thread nD τ) ↦[arg7.view.set]{fullShare} arg7.view.writes (Elt F) f out)
          ∗ (sc1.view.loc (c : Thread nD τ) ↦{fullShare} u1)
          ∗ (sc3.view.loc (c : Thread nD τ) ↦{fullShare} u3)
          ∗ (sc2.view.loc (c : Thread nD τ) ↦{fullShare} u2)) -∗ K ⟨⟩))
        ⊢ wp frame (wpE (defs₀ (F := F)) Variants.none c none) Set.univ
            (cc0_moe_experts i tabE (Memref.isWhole_whole _) tabN (Memref.isWhole_whole _) arg3 harg3 arg4 harg4 arg5 harg5 arg6 harg6 arg7 harg7
              sc1 (Memref.isWhole_whole _) sc3 (Memref.isWhole_whole _) sc2 (Memref.isWhole_whole _)) K } :=
  ⟨_, _, _, _, fun K => by
    unfold owns
    rw [cc0_moe_experts_eq_skeleton]; unfold cc0_moe_experts_skel

    iintro ⟨H0, H1, H2, H3, HT0, HT1, ⟨%d4, %f4, -, HO⟩, HS1, HS3, HS2, Hk⟩
    have hS1 : sc1.IsWhole := Memref.isWhole_whole _
    have hS3 : sc3.IsWhole := Memref.isWhole_whole _
    have hS2 : sc2.IsWhole := Memref.isWhole_whole _
    have hT0 : tabE.IsWhole := Memref.isWhole_whole _
    have hT1 : tabN.IsWhole := Memref.isWhole_whole _
    sl_exec! (disch := first | (guard_target = ¬(Scalar.cmpi .ne _ _ = _); exact hc) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO]; · iexists _; iexact HO
    isplitl [HS1]; · iexact HS1
    isplitl [HS3]; · iexact HS3
    iexact HS2⟩

end Cert.ExpertsIdeal.Hand

end
-- ==== Proof.PiecesIdeal.lean ====
module

public import proofs.«01_k».proof.Proof.RunsIdeal
public import Idealize.ShloMosaic.Lib.VecWindow
public import Idealize.ShloMosaic.Lib.Pipeline.Value

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Every eighth row of a block from row `k`: column group `k` of its 512 feature rows. -/
abbrev group (x0 : S4096x128.Idx → Elt F .f32) (r : LoadRect S4096x128) : r.shape.Idx → Elt F .f32 := fun y => x0 (r.idx y)

/-- The feed-forward of a block's 512 rows through the cached weights. -/
def ffn (x0 : S4096x128.Idx → Elt F .f32) (b1 b3 b2 : S1024x1024.Idx → Elt F .bf16) : FVec F S512x1024 .f32 :=
  k0_pay11
    (group x0 (⟨![0, 0], S512x128.size, ![8, 1], inb_S4096x128_S512x128_0_0_s_8_1⟩ : LoadRect S4096x128))
    (group x0 (⟨![1, 0], S512x128.size, ![8, 1], inb_S4096x128_S512x128_1_0_s_8_1⟩ : LoadRect S4096x128))
    (group x0 (⟨![2, 0], S512x128.size, ![8, 1], inb_S4096x128_S512x128_2_0_s_8_1⟩ : LoadRect S4096x128))
    (group x0 (⟨![3, 0], S512x128.size, ![8, 1], inb_S4096x128_S512x128_3_0_s_8_1⟩ : LoadRect S4096x128))
    (group x0 (⟨![4, 0], S512x128.size, ![8, 1], inb_S4096x128_S512x128_4_0_s_8_1⟩ : LoadRect S4096x128))
    (group x0 (⟨![5, 0], S512x128.size, ![8, 1], inb_S4096x128_S512x128_5_0_s_8_1⟩ : LoadRect S4096x128))
    (group x0 (⟨![6, 0], S512x128.size, ![8, 1], inb_S4096x128_S512x128_6_0_s_8_1⟩ : LoadRect S4096x128))
    (group x0 (⟨![7, 0], S512x128.size, ![8, 1], inb_S4096x128_S512x128_7_0_s_8_1⟩ : LoadRect S4096x128))
    b1 b3 b2

/-- What the body stores for the 512 result rows: eight column groups, each on every eighth row. -/
def groups (y : FVec F S512x1024 .f32) : List (View.Piece (Elt F) S4096x128 .f32) :=
  [⟨⟨(⟨![7, 0], S512x128.size, ![8, 1], inb_S4096x128_S512x128_7_0_s_8_1⟩ : LoadRect S4096x128), spos_8_1⟩, extractStridedSlice S512x128 ![0, 896] y slices_S512x1024_o0_896_S512x128⟩,
   ⟨⟨(⟨![6, 0], S512x128.size, ![8, 1], inb_S4096x128_S512x128_6_0_s_8_1⟩ : LoadRect S4096x128), spos_8_1⟩, extractStridedSlice S512x128 ![0, 768] y slices_S512x1024_o0_768_S512x128⟩,
   ⟨⟨(⟨![5, 0], S512x128.size, ![8, 1], inb_S4096x128_S512x128_5_0_s_8_1⟩ : LoadRect S4096x128), spos_8_1⟩, extractStridedSlice S512x128 ![0, 640] y slices_S512x1024_o0_640_S512x128⟩,
   ⟨⟨(⟨![4, 0], S512x128.size, ![8, 1], inb_S4096x128_S512x128_4_0_s_8_1⟩ : LoadRect S4096x128), spos_8_1⟩, extractStridedSlice S512x128 ![0, 512] y slices_S512x1024_o0_512_S512x128⟩,
   ⟨⟨(⟨![3, 0], S512x128.size, ![8, 1], inb_S4096x128_S512x128_3_0_s_8_1⟩ : LoadRect S4096x128), spos_8_1⟩, extractStridedSlice S512x128 ![0, 384] y slices_S512x1024_o0_384_S512x128⟩,
   ⟨⟨(⟨![2, 0], S512x128.size, ![8, 1], inb_S4096x128_S512x128_2_0_s_8_1⟩ : LoadRect S4096x128), spos_8_1⟩, extractStridedSlice S512x128 ![0, 256] y slices_S512x1024_o0_256_S512x128⟩,
   ⟨⟨(⟨![1, 0], S512x128.size, ![8, 1], inb_S4096x128_S512x128_1_0_s_8_1⟩ : LoadRect S4096x128), spos_8_1⟩, extractStridedSlice S512x128 ![0, 128] y slices_S512x1024_o0_128_S512x128⟩,
   ⟨⟨(⟨![0, 0], S512x128.size, ![8, 1], inb_S4096x128_S512x128_0_0_s_8_1⟩ : LoadRect S4096x128), spos_8_1⟩, extractStridedSlice S512x128 ![0, 0] y slices_S512x1024_o0_0_S512x128⟩]

/-- The block the 512 result rows make: row `8 s + k`, lane `l` holds row `s`, feature `128 k + l`. -/
def spread (y : FVec F S512x1024 .f32) : S4096x128.Idx → Elt F .f32 :=
  fun z => y fun a => match a with
    | ⟨0, _⟩ => ⟨(z 0).val / 8, by have : (z 0).val < 4096 := (z 0).isLt; show _ < 512; omega⟩
    | ⟨1, _⟩ => ⟨(z 0).val % 8 * 128 + (z 1).val, by have : (z 1).val < 128 := (z 1).isLt; show _ < 1024; omega⟩

/-- A column group is the block's rows of that group. -/
theorem group_slice (y : FVec F S512x1024 .f32) (k o : ℕ) (hk : k < 8) (ho : o = 128 * k) (inb) (h : S512x1024.Slices ![0, o] S512x128)
    (x : (⟨⟨![k, 0], S512x128.size, ![8, 1], inb⟩, spos_8_1⟩ : Rect S4096x128).shape.Idx) :
    extractStridedSlice S512x128 ![0, o] y h x
      = spread y ((⟨⟨![k, 0], S512x128.size, ![8, 1], inb⟩, spos_8_1⟩ : Rect S4096x128).emb x) := by
  have e0 : (((⟨⟨![k, 0], S512x128.size, ![8, 1], inb⟩, spos_8_1⟩ : Rect S4096x128).emb x) 0).val = k + 8 * (x 0).val := rfl
  have e1 : (((⟨⟨![k, 0], S512x128.size, ![8, 1], inb⟩, spos_8_1⟩ : Rect S4096x128).emb x) 1).val = 0 + 1 * (x 1).val := rfl
  subst ho
  have hx0 : (x 0).val < 512 := (x 0).isLt
  have hx1 : (x 1).val < 128 := (x 1).isLt
  unfold spread
  refine extractStridedSlice_apply _ _ _ _ _ fun a => ?_
  match a with
  | ⟨0, _⟩ =>
    show (_ / 8 : ℕ) = 0 + (x 0).val
    rw [e0]; omega
  | ⟨1, _⟩ =>
    show (_ % 8 * 128 + _ : ℕ) = 128 * k + (x 1).val
    rw [e0, e1]; omega

/-- The eight groups read back are the block, whatever the buffer held. -/
theorem read_groups {κ : Kind} {sp : Space} (v : View sig κ sp S4096x128 .f32) (f : v.ty.Contents (Elt F)) (y : FVec F S512x1024 .f32) :
    v.read (Elt F) (v.writes (Elt F) f (groups y)) = spread y := by
  funext z
  refine View.read_writes_apply_of_pieces v f (spread y) (groups y) ?_ z ?_
  · intro p hp x
    unfold groups at hp
    simp only [List.mem_cons, List.not_mem_nil, _root_.or_false] at hp
    rcases hp with rfl | rfl | rfl | rfl | rfl | rfl | rfl | rfl
    · exact group_slice y 7 896 (by decide) rfl _ slices_S512x1024_o0_896_S512x128 x
    · exact group_slice y 6 768 (by decide) rfl _ slices_S512x1024_o0_768_S512x128 x
    · exact group_slice y 5 640 (by decide) rfl _ slices_S512x1024_o0_640_S512x128 x
    · exact group_slice y 4 512 (by decide) rfl _ slices_S512x1024_o0_512_S512x128 x
    · exact group_slice y 3 384 (by decide) rfl _ slices_S512x1024_o0_384_S512x128 x
    · exact group_slice y 2 256 (by decide) rfl _ slices_S512x1024_o0_256_S512x128 x
    · exact group_slice y 1 128 (by decide) rfl _ slices_S512x1024_o0_128_S512x128 x
    · exact group_slice y 0 0 (by decide) rfl _ slices_S512x1024_o0_0_S512x128 x
  · have hz : ∀ k, (z 0).val % 8 = k → ∀ inb, z ∈ (⟨⟨![k, 0], S512x128.size, ![8, 1], inb⟩, spos_8_1⟩ : Rect S4096x128).set := by
      intro k hk inb
      refine (LoadRect.mem_set _).mpr fun a => ?_
      have h0 : (z 0).val < 4096 := (z 0).isLt
      have h1 : (z 1).val < 128 := (z 1).isLt
      match a with
      | ⟨0, _⟩ => exact ⟨(z 0).val / 8, by show (z 0).val / 8 < 512; omega, by show (z 0).val = k + 8 * ((z 0).val / 8); omega⟩
      | ⟨1, _⟩ => exact ⟨(z 1).val, h1, by show (z 1).val = 0 + 1 * (z 1).val; omega⟩
    have h8 : (z 0).val % 8 < 8 := Nat.mod_lt _ (by decide)
    unfold groups
    simp only [List.mem_cons, exists_eq_or_imp]
    rcases (by omega : (z 0).val % 8 = 0 ∨ (z 0).val % 8 = 1 ∨ (z 0).val % 8 = 2 ∨ (z 0).val % 8 = 3 ∨ (z 0).val % 8 = 4 ∨ (z 0).val % 8 = 5 ∨ (z 0).val % 8 = 6 ∨ (z 0).val % 8 = 7) with h | h | h | h | h | h | h | h
    · exact Or.inr <| Or.inr <| Or.inr <| Or.inr <| Or.inr <| Or.inr <| Or.inr <| Or.inl <| hz 0 h _
    · exact Or.inr <| Or.inr <| Or.inr <| Or.inr <| Or.inr <| Or.inr <| Or.inl <| hz 1 h _
    · exact Or.inr <| Or.inr <| Or.inr <| Or.inr <| Or.inr <| Or.inl <| hz 2 h _
    · exact Or.inr <| Or.inr <| Or.inr <| Or.inr <| Or.inl <| hz 3 h _
    · exact Or.inr <| Or.inr <| Or.inr <| Or.inl <| hz 4 h _
    · exact Or.inr <| Or.inr <| Or.inl <| hz 5 h _
    · exact Or.inr <| Or.inl <| hz 6 h _
    · exact Or.inl <| hz 7 h _

/-- The cached weights the body makes of the blocks it is handed. -/
abbrev cast1 (x1 : S1x1x1024x1024.Idx → Elt F .f32) : S1024x1024.Idx → Elt F .bf16 := k0_pay1 x1
abbrev cast3 (x2 : S1x1x1024x1024.Idx → Elt F .f32) : S1024x1024.Idx → Elt F .bf16 := k0_pay2 x2
abbrev cast2 (x3 : S1x1x1024x1024.Idx → Elt F .f32) : S1024x1024.Idx → Elt F .bf16 := k0_pay3 x3

/-- A load of the whole of a weight scratch reads what it holds. -/
theorem load_w1 (v : View sig .tc .vmem S1024x1024 .bf16) (f : v.ty.Contents (Elt F)) (inb) :
    v.readAt (Elt F) (Rect.unit (s := S1024x1024) ![0, 0] ![1024, 1024] inb).toLoadRect f = v.read (Elt F) f :=
  View.readAt_full v f inb

/-- A load of the whole of a weight window reads the block it holds. -/
theorem load_blk (v : View sig .tc .vmem S1x1x1024x1024 .f32) (f : v.ty.Contents (Elt F)) (inb) :
    v.readAt (Elt F) (Rect.unit (s := S1x1x1024x1024) ![0, 0, 0, 0] ![1, 1, 1024, 1024] inb).toLoadRect f = v.read (Elt F) f :=
  View.readAt_full v f inb

/-- A scratch stored whole reads back as what was stored. -/
theorem load_cov (v : View sig .tc .vmem S1024x1024 .bf16) (inb inb') (w : S1024x1024.Idx → Elt F .bf16) :
    v.readCov [⟨Rect.unit (s := S1024x1024) ![0, 0] ![1024, 1024] inb', w⟩] (Rect.unit (s := S1024x1024) ![0, 0] ![1024, 1024] inb).toLoadRect = w :=
  View.readCov_full v inb inb' w []

/-- A scratch stored whole holds what was stored. -/
theorem store_all (v : View sig .tc .vmem S1024x1024 .bf16) (f : v.ty.Contents (Elt F)) (inb') (w : S1024x1024.Idx → Elt F .bf16) :
    v.read (Elt F) (v.writes (Elt F) f [⟨Rect.unit (s := S1024x1024) ![0, 0] ![1024, 1024] inb', w⟩]) = w :=
  View.read_writes_full v f inb' w []

theorem store_whole0 (w : S1024x1024.Idx → Elt F .bf16) : (View.whole cc0_scratch0).writes (Elt F) (View.whole cc0_scratch0).junk
    [⟨Rect.unit (s := S1024x1024) ![0, 0] ![1024, 1024] inb_S1024x1024_S1024x1024_0_0, w⟩] = w :=
  (View.read_whole (Val := Elt F) cc0_scratch0 _).symm.trans (store_all (F := F) (View.whole cc0_scratch0) (View.whole cc0_scratch0).junk inb_S1024x1024_S1024x1024_0_0 w)

theorem store_whole1 (w : S1024x1024.Idx → Elt F .bf16) : (View.whole cc0_scratch1).writes (Elt F) (View.whole cc0_scratch1).junk
    [⟨Rect.unit (s := S1024x1024) ![0, 0] ![1024, 1024] inb_S1024x1024_S1024x1024_0_0, w⟩] = w :=
  (View.read_whole (Val := Elt F) cc0_scratch1 _).symm.trans (store_all (F := F) (View.whole cc0_scratch1) (View.whole cc0_scratch1).junk inb_S1024x1024_S1024x1024_0_0 w)

theorem store_whole2 (w : S1024x1024.Idx → Elt F .bf16) : (View.whole cc0_scratch2).writes (Elt F) (View.whole cc0_scratch2).junk
    [⟨Rect.unit (s := S1024x1024) ![0, 0] ![1024, 1024] inb_S1024x1024_S1024x1024_0_0, w⟩] = w :=
  (View.read_whole (Val := Elt F) cc0_scratch2 _).symm.trans (store_all (F := F) (View.whole cc0_scratch2) (View.whole cc0_scratch2).junk inb_S1024x1024_S1024x1024_0_0 w)

/-- A used block that keeps its expert stores the feed-forward through the weights already cached. -/
theorem keep_out (c : Dev nD) (i : grid0.Coords) (arg3 : Memref sig .tc .vmem S4096x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S4096x128 .f32) (harg7 : arg7.IsWhole)
    (T0 : S88.Idx → Elt F .i32) (T1 : S1.Idx → Elt F .i32) (x0 : S4096x128.Idx → Elt F .f32) (x1 x2 x3 : S1x1x1024x1024.Idx → Elt F .f32)
    (s1 : Buf (Elt F) ((c : Thread nD τ).loc cc0_scratch0)) (s3 : Buf (Elt F) ((c : Thread nD τ).loc cc0_scratch1)) (s2 : Buf (Elt F) ((c : Thread nD τ).loc cc0_scratch2))
    (hc : ¬(condF i T0 T1 = 1#1)) (h2 : k0_cond2 i (wordN T1) = 1#1) (h3 : ¬(k0_cond3 i (wordN T1) = 1#1)) :
    (runKeep c i arg3 harg3 arg4 harg4 arg5 harg5 arg6 harg6 arg7 harg7 T0 T1 x0 x1 x2 x3 s1 s3 s2 hc h2 h3).1 = groups (ffn x0 s1 s3 s2) := by
  unfold runKeep; dsimp only
  unfold runKeep.sl.r_4 runKeep.sl.r_3
  unfold groups ffn
  simp only [View.readAt_rep, load_w1]
  rfl

theorem hs1 (arg4 : Memref sig .tc .vmem S1x1x1024x1024 .f32) (x : S1x1x1024x1024.Idx → Elt F .f32) :
    runFill.sl.HS1_1 arg4 x = [⟨Rect.unit (s := S1024x1024) ![0, 0] ![1024, 1024] inb_S1024x1024_S1024x1024_0_0, cast1 x⟩] := by
  unfold runFill.sl.HS1_1
  simp only [load_blk, View.read_rep]

/-- A block that opens an expert leaves its weights, cast, in the scratch. -/
theorem fill_w1 (c : Dev nD) (i : grid0.Coords) (arg3 : Memref sig .tc .vmem S4096x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S4096x128 .f32) (harg7 : arg7.IsWhole)
    (T0 : S88.Idx → Elt F .i32) (T1 : S1.Idx → Elt F .i32) (x0 : S4096x128.Idx → Elt F .f32) (x1 x2 x3 : S1x1x1024x1024.Idx → Elt F .f32)
    (s1 : Buf (Elt F) ((c : Thread nD τ).loc cc0_scratch0)) (s3 : Buf (Elt F) ((c : Thread nD τ).loc cc0_scratch1)) (s2 : Buf (Elt F) ((c : Thread nD τ).loc cc0_scratch2))
    (hc : condF i T0 T1 = 1#1) (h2 : k0_cond2 i (wordN T1) = 1#1) (h3 : ¬(k0_cond3 i (wordN T1) = 1#1)) :
    (runFill c i arg3 harg3 arg4 harg4 arg5 harg5 arg6 harg6 arg7 harg7 T0 T1 x0 x1 x2 x3 s1 s3 s2 hc h2 h3).2.1 = cast1 x1 := by
  unfold runFill; dsimp only
  rw [hs1]
  exact store_whole0 (cast1 x1)

theorem hs3 (arg4 : Memref sig .tc .vmem S1x1x1024x1024 .f32) (x : S1x1x1024x1024.Idx → Elt F .f32) :
    runFill.sl.HS3_1 arg4 x = [⟨Rect.unit (s := S1024x1024) ![0, 0] ![1024, 1024] inb_S1024x1024_S1024x1024_0_0, cast3 x⟩] := by
  unfold runFill.sl.HS3_1
  simp only [load_blk, View.read_rep]

/-- A block that opens an expert leaves its weights, cast, in the scratch. -/
theorem fill_w3 (c : Dev nD) (i : grid0.Coords) (arg3 : Memref sig .tc .vmem S4096x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S4096x128 .f32) (harg7 : arg7.IsWhole)
    (T0 : S88.Idx → Elt F .i32) (T1 : S1.Idx → Elt F .i32) (x0 : S4096x128.Idx → Elt F .f32) (x1 x2 x3 : S1x1x1024x1024.Idx → Elt F .f32)
    (s1 : Buf (Elt F) ((c : Thread nD τ).loc cc0_scratch0)) (s3 : Buf (Elt F) ((c : Thread nD τ).loc cc0_scratch1)) (s2 : Buf (Elt F) ((c : Thread nD τ).loc cc0_scratch2))
    (hc : condF i T0 T1 = 1#1) (h2 : k0_cond2 i (wordN T1) = 1#1) (h3 : ¬(k0_cond3 i (wordN T1) = 1#1)) :
    (runFill c i arg3 harg3 arg4 harg4 arg5 harg5 arg6 harg6 arg7 harg7 T0 T1 x0 x1 x2 x3 s1 s3 s2 hc h2 h3).2.2.1 = cast3 x2 := by
  unfold runFill; dsimp only
  rw [hs3]
  exact store_whole1 (cast3 x2)

theorem hs2 (arg4 : Memref sig .tc .vmem S1x1x1024x1024 .f32) (x : S1x1x1024x1024.Idx → Elt F .f32) :
    runFill.sl.HS2_1 arg4 x = [⟨Rect.unit (s := S1024x1024) ![0, 0] ![1024, 1024] inb_S1024x1024_S1024x1024_0_0, cast2 x⟩] := by
  unfold runFill.sl.HS2_1
  simp only [load_blk, View.read_rep]

/-- A block that opens an expert leaves its weights, cast, in the scratch. -/
theorem fill_w2 (c : Dev nD) (i : grid0.Coords) (arg3 : Memref sig .tc .vmem S4096x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S4096x128 .f32) (harg7 : arg7.IsWhole)
    (T0 : S88.Idx → Elt F .i32) (T1 : S1.Idx → Elt F .i32) (x0 : S4096x128.Idx → Elt F .f32) (x1 x2 x3 : S1x1x1024x1024.Idx → Elt F .f32)
    (s1 : Buf (Elt F) ((c : Thread nD τ).loc cc0_scratch0)) (s3 : Buf (Elt F) ((c : Thread nD τ).loc cc0_scratch1)) (s2 : Buf (Elt F) ((c : Thread nD τ).loc cc0_scratch2))
    (hc : condF i T0 T1 = 1#1) (h2 : k0_cond2 i (wordN T1) = 1#1) (h3 : ¬(k0_cond3 i (wordN T1) = 1#1)) :
    (runFill c i arg3 harg3 arg4 harg4 arg5 harg5 arg6 harg6 arg7 harg7 T0 T1 x0 x1 x2 x3 s1 s3 s2 hc h2 h3).2.2.2.1 = cast2 x3 := by
  unfold runFill; dsimp only
  rw [hs2]
  exact store_whole2 (cast2 x3)

/-- A used block that opens an expert stores the feed-forward through the weights it has just cached. -/
theorem fill_out (c : Dev nD) (i : grid0.Coords) (arg3 : Memref sig .tc .vmem S4096x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S4096x128 .f32) (harg7 : arg7.IsWhole)
    (T0 : S88.Idx → Elt F .i32) (T1 : S1.Idx → Elt F .i32) (x0 : S4096x128.Idx → Elt F .f32) (x1 x2 x3 : S1x1x1024x1024.Idx → Elt F .f32)
    (s1 : Buf (Elt F) ((c : Thread nD τ).loc cc0_scratch0)) (s3 : Buf (Elt F) ((c : Thread nD τ).loc cc0_scratch1)) (s2 : Buf (Elt F) ((c : Thread nD τ).loc cc0_scratch2))
    (hc : condF i T0 T1 = 1#1) (h2 : k0_cond2 i (wordN T1) = 1#1) (h3 : ¬(k0_cond3 i (wordN T1) = 1#1)) :
    (runFill c i arg3 harg3 arg4 harg4 arg5 harg5 arg6 harg6 arg7 harg7 T0 T1 x0 x1 x2 x3 s1 s3 s2 hc h2 h3).1 = groups (ffn x0 (cast1 x1) (cast3 x2) (cast2 x3)) := by
  unfold runFill; dsimp only
  unfold runFill.sl.r_4 runFill.sl.r_3
  unfold runFill.sl.v29 runFill.sl.v31 runFill.sl.v43
  unfold groups ffn
  simp only [hs1, hs3, hs2, load_cov, View.readAt_rep]
  rfl

/-- An unused block stores zeros. -/
theorem skip_out (c : Dev nD) (i : grid0.Coords) (arg3 : Memref sig .tc .vmem S4096x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S4096x128 .f32) (harg7 : arg7.IsWhole)
    (T0 : S88.Idx → Elt F .i32) (T1 : S1.Idx → Elt F .i32) (x0 : S4096x128.Idx → Elt F .f32) (x1 x2 x3 : S1x1x1024x1024.Idx → Elt F .f32)
    (s1 : Buf (Elt F) ((c : Thread nD τ).loc cc0_scratch0)) (s3 : Buf (Elt F) ((c : Thread nD τ).loc cc0_scratch1)) (s2 : Buf (Elt F) ((c : Thread nD τ).loc cc0_scratch2))
    (hc : ¬(condF i T0 T1 = 1#1)) (h2 : ¬(k0_cond2 i (wordN T1) = 1#1)) (h3 : k0_cond3 i (wordN T1) = 1#1) :
    (runSkip c i arg3 harg3 arg4 harg4 arg5 harg5 arg6 harg6 arg7 harg7 T0 T1 x0 x1 x2 x3 s1 s3 s2 hc h2 h3).1 = [⟨Rect.unit (s := S4096x128) ![0, 0] S4096x128.size inb_S4096x128_S4096x128_0_0, k0_pay10⟩] := by
  unfold runSkip; dsimp only
  unfold runSkip.sl.HO_1
  rfl

end Cert.ExpertsIdeal.Hand

end
-- ==== Proof.WordsIdeal.lean ====
module

public import proofs.«01_k».proof.Proof.PiecesIdeal

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Block `n`'s place in the table. -/
abbrev blkIx (n : ℕ) (h : n < 88) : S88.Idx := fun a => match a with | ⟨0, _⟩ => ⟨n, h⟩

/-- The count's place in its one-word table. -/
abbrev oneIx : S1.Idx := fun a => match a with | ⟨0, _⟩ => ⟨0, Nat.one_pos⟩

theorem crd_lt (i : grid0.Coords) : (i 0).val < 88 := (i 0).isLt

theorem off1_eq : ∀ i : grid0.Coords, k0_off1 i 0 = (i 0).val := by decide +kernel
theorem off2_eq : ∀ i : grid0.Coords, k0_off2 i 0 = (i 0).val - 1 := by decide +kernel

/-- The body's first word is the table's at the point. -/
theorem wordE_eq (i : grid0.Coords) (T0 : S88.Idx → Elt F .i32) : wordE i T0 = T0 (blkIx (i 0).val (crd_lt i)) := by
  show T0 _ = T0 _
  refine congrArg T0 (funext fun a => ?_)
  match a with
  | ⟨0, _⟩ => exact Fin.ext (by show k0_off1 i 0 + 1 * 0 = (i 0).val; rw [off1_eq]; omega)

/-- Its second word is the table's at the point before. -/
theorem wordP_eq (i : grid0.Coords) (T0 : S88.Idx → Elt F .i32) :
    wordP i T0 = T0 (blkIx ((i 0).val - 1) (Nat.lt_of_le_of_lt (Nat.sub_le _ _) (crd_lt i))) := by
  show T0 _ = T0 _
  refine congrArg T0 (funext fun a => ?_)
  match a with
  | ⟨0, _⟩ => exact Fin.ext (by show k0_off2 i 0 + 1 * 0 = (i 0).val - 1; rw [off2_eq]; omega)

/-- The count word is the one-word table's. -/
theorem wordN_eq (T1 : S1.Idx → Elt F .i32) : wordN T1 = T1 oneIx := by
  show T1 _ = T1 _
  refine congrArg T1 (funext fun a => ?_)
  match a with
  | ⟨0, _⟩ => exact Fin.ext rfl

/-- Block `n` is used: its number is below the count, as signed words. -/
abbrev usedN (n : ℕ) (w : BitVec 32) : Bool := (BitVec.ofNat 32 n).slt w

theorem bit_ne (b : BitVec 1) : (Scalar.cmpi .ne (Scalar.extui b : BitVec 32) 0#32 = 1#1) ↔ b = 1#1 := by
  revert b; decide

theorem slt_bit (x w : BitVec 32) : (Scalar.cmpi .slt x w = 1#1) ↔ x.slt w = true := by
  show (BitVec.ofBool (x.slt w) = 1#1) ↔ _
  cases x.slt w <;> decide

theorem xor_bit (b : BitVec 1) : (Scalar.xori b 1#1 = 1#1) ↔ ¬ b = 1#1 := by
  revert b; decide

theorem and_bit (b c : BitVec 1) : (Scalar.andi b c = 1#1) ↔ b = 1#1 ∧ c = 1#1 := by
  revert b c; decide

theorem or_bit (b c : BitVec 1) : (Scalar.ori b c = 1#1) ↔ b = 1#1 ∨ c = 1#1 := by
  revert b c; decide

theorem eq_bit (x w : BitVec 32) : (Scalar.cmpi .eq x w = 1#1) ↔ x = w := by
  show (BitVec.ofBool (x == w) = 1#1) ↔ _
  rw [← beq_iff_eq (a := x) (b := w)]
  cases x == w <;> decide

theorem ne_bit (x w : BitVec 32) : (Scalar.cmpi .ne x w = 1#1) ↔ ¬ x = w := by
  show (BitVec.ofBool (x != w) = 1#1) ↔ _
  have h : (x != w) = true ↔ ¬ x = w := bne_iff_ne
  rw [← h]
  cases x != w <;> decide

/-- The feed-forward runs at a used block. -/
theorem cond2_iff (i : grid0.Coords) (w : BitVec 32) : k0_cond2 i w = 1#1 ↔ usedN (i 0).val w = true := by
  unfold k0_cond2
  exact (bit_ne _).trans (slt_bit _ _)

/-- The zeroing runs at an unused block. -/
theorem cond3_iff (i : grid0.Coords) (w : BitVec 32) : k0_cond3 i w = 1#1 ↔ ¬ usedN (i 0).val w = true := by
  unfold k0_cond3
  exact (bit_ne _).trans ((xor_bit _).trans (not_congr (slt_bit _ _)))

/-- The weights are cached anew at a used block that is the first or whose expert is not the one before it. -/
theorem condF_iff (i : grid0.Coords) (T0 : S88.Idx → Elt F .i32) (T1 : S1.Idx → Elt F .i32) :
    condF i T0 T1 = 1#1 ↔ ((i 0).val = 0 ∨ ¬ wordE i T0 = wordP i T0) ∧ usedN (i 0).val (wordN T1) = true := by
  refine (bit_ne _).trans ((and_bit _ _).trans (and_congr ((or_bit _ _).trans (or_congr ?_ (ne_bit _ _))) (slt_bit _ _)))
  refine (eq_bit _ _).trans ?_
  have h := crd_lt i
  constructor
  · intro e
    have := congrArg BitVec.toNat e
    simp only [BitVec.toNat_ofNat] at this
    omega
  · intro e; rw [e]

/-- A block before a used one is used. -/
theorem used_pred (n : ℕ) (h : n < 88) (w : BitVec 32) (hu : usedN n w = true) : usedN (n - 1) w = true := by
  unfold usedN at *
  rw [BitVec.slt_iff_toInt_lt] at *
  have e : ∀ k, k < 88 → (BitVec.ofNat 32 k).toInt = k := fun k hk => by
    rw [BitVec.toInt_eq_toNat_cond]; simp only [BitVec.toNat_ofNat]; omega
  rw [e n h] at hu
  rw [e (n - 1) (by omega)]
  omega

end Cert.ExpertsIdeal.Hand

end
-- ==== Proof.FrameIdeal.lean ====
module

public import proofs.«01_k».proof.Proof.WordsIdeal
public import Idealize.ShloMosaic.PureOps.BitExact

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds library's resource algebra, embedded whole. -/
abbrev EP : Emb (UR sig nD τ) 𝕄 := emb₁

variable (m : (ℓ : Loc nD τ sig) → Buf (Elt F) ℓ) (ρ : Dev nD → PrngReg)

set_option backward.proofsInPublic true in
/-- The two tables as the launch memory holds them. -/
def pf : pre0.Contents (Elt F) := fun
  | ⟨0, _⟩ => m (((0 : Dev nD) : Thread nD τ).loc main_arg0)
  | ⟨1, _⟩ => m (((0 : Dev nD) : Thread nD τ).loc main_arg1)
  | ⟨_ + 2, h⟩ => absurd h (by simp)

/-- The block table and the count. -/
abbrev T0 : S88.Idx → Elt F .i32 := m (((0 : Dev nD) : Thread nD τ).loc main_arg0)
abbrev T1 : S1.Idx → Elt F .i32 := m (((0 : Dev nD) : Thread nD τ).loc main_arg1)

variable (ok : ok0 (pf m))

/-- The tables as admissible contents, and the pipeline at them. -/
def adm : (pcfg0 (F := F)).Adm := ⟨pf m, ok⟩
abbrev cfgA : Pipeline.Cfg sig Λ₀ := cfg0 (F := F) (adm m ok)
abbrev pcs : Fin 1 → Pipeline.Cfg sig Λ₀ := Pipeline.pin (pcfgs (F := F)) fun _ => adm m ok

/-- Point `t`'s coordinates. -/
abbrev crd (t : Fin (cfgA m ok).N) : (cfgA m ok).grid.Coords := (cfgA m ok).grid.coords t

theorem coords_val : ∀ t : Fin grid0.N, (grid0.coords t 0).val = t.val := by decide +kernel

theorem crd_val (t : Fin (cfgA m ok).N) : (crd m ok t 0).val = t.val := coords_val t

abbrev ms_0 (t : Fin (cfgA m ok).N) : Memref sig .tc .vmem S4096x128 .f32 := spec0_0.stage ((cfgA m ok).slots t (0 : Fin 5))
abbrev hs_0 (t : Fin (cfgA m ok).N) : (ms_0 m ok t).IsWhole := hstage0_0 (((cfgA m ok).slots t (0 : Fin 5)).cast nbuf0_0)
abbrev ms_1 (t : Fin (cfgA m ok).N) : Memref sig .tc .vmem S1x1x1024x1024 .f32 := spec0_1.stage ((cfgA m ok).slots t (1 : Fin 5))
abbrev hs_1 (t : Fin (cfgA m ok).N) : (ms_1 m ok t).IsWhole := hstage0_1 (((cfgA m ok).slots t (1 : Fin 5)).cast nbuf0_1)
abbrev ms_2 (t : Fin (cfgA m ok).N) : Memref sig .tc .vmem S1x1x1024x1024 .f32 := spec0_2.stage ((cfgA m ok).slots t (2 : Fin 5))
abbrev hs_2 (t : Fin (cfgA m ok).N) : (ms_2 m ok t).IsWhole := hstage0_2 (((cfgA m ok).slots t (2 : Fin 5)).cast nbuf0_2)
abbrev ms_3 (t : Fin (cfgA m ok).N) : Memref sig .tc .vmem S1x1x1024x1024 .f32 := spec0_3.stage ((cfgA m ok).slots t (3 : Fin 5))
abbrev hs_3 (t : Fin (cfgA m ok).N) : (ms_3 m ok t).IsWhole := hstage0_3 (((cfgA m ok).slots t (3 : Fin 5)).cast nbuf0_3)
abbrev ms_4 (t : Fin (cfgA m ok).N) : Memref sig .tc .vmem S4096x128 .f32 := spec0_4.stage ((cfgA m ok).slots t (4 : Fin 5))
abbrev hs_4 (t : Fin (cfgA m ok).N) : (ms_4 m ok t).IsWhole := hstage0_4 (((cfgA m ok).slots t (4 : Fin 5)).cast nbuf0_4)

/-- Window `w`'s block at point `t`, read off its array at launch. -/
def iblk (c : Dev nD) (w : Fin (cfgA m ok).W) (t : Fin (cfgA m ok).N) : (((cfgA m ok).win w).xblock (crd m ok t)).Idx → Elt F ((cfgA m ok).win w).elt :=
  (((cfgA m ok).win w).blk t).view.read (Elt F) ((s₀ m ρ).mem (((cfgA m ok).win w).arr.view.loc (c : Thread nD τ)))

/-- The block of rows and the three weight blocks of point `t`. -/
abbrev xin (c : Dev nD) (t : Fin (cfgA m ok).N) : S4096x128.Idx → Elt F .f32 := iblk m ρ ok c (0 : Fin 5) t
abbrev win1 (c : Dev nD) (t : Fin (cfgA m ok).N) : S1x1x1024x1024.Idx → Elt F .f32 := iblk m ρ ok c (1 : Fin 5) t
abbrev win3 (c : Dev nD) (t : Fin (cfgA m ok).N) : S1x1x1024x1024.Idx → Elt F .f32 := iblk m ρ ok c (2 : Fin 5) t
abbrev win2 (c : Dev nD) (t : Fin (cfgA m ok).N) : S1x1x1024x1024.Idx → Elt F .f32 := iblk m ρ ok c (3 : Fin 5) t

/-- Point `t`'s block is used. -/
abbrev usedAt (t : Fin (cfgA m ok).N) : Bool := usedN (crd m ok t 0).val (wordN (T1 m))

/-- What the body leaves in point `t`'s output block: the feed-forward of its rows through its expert, or zeros. -/
def outAt (c : Dev nD) (t : Fin (cfgA m ok).N) : S4096x128.Idx → Elt F .f32 :=
  if usedAt m ok t = true then
    spread (ffn (xin m ρ ok c t) (cast1 (win1 m ρ ok c t)) (cast3 (win3 m ρ ok c t)) (cast2 (win2 m ρ ok c t)))
  else k0_pay10

/-- Equal table words give equal weight blocks. -/
theorem win1_congr (c : Dev nD) (t t' : Fin (cfgA m ok).N) (h : wordE (crd m ok t) (T0 m) = wordE (crd m ok t') (T0 m)) :
    win1 m ρ ok c t = win1 m ρ ok c t' := by
  have e : cc0_transform_1 k0_off1_inb numel1_S1 (pf m) (crd m ok t) = cc0_transform_1 k0_off1_inb numel1_S1 (pf m) (crd m ok t') :=
    congrArg (fun w : BitVec 32 => ![0, w.toNat, 0, 0]) h
  funext y
  show (s₀ m ρ).mem _ _ = (s₀ m ρ).mem _ _
  refine congrArg _ (funext fun a => Fin.ext ?_)
  exact congrArg (fun f : Fin 4 → ℕ => f a * S1x1x1024x1024.size a + 1 * (y a).val) e
theorem win3_congr (c : Dev nD) (t t' : Fin (cfgA m ok).N) (h : wordE (crd m ok t) (T0 m) = wordE (crd m ok t') (T0 m)) :
    win3 m ρ ok c t = win3 m ρ ok c t' := by
  have e : cc0_transform_2 k0_off1_inb numel1_S1 (pf m) (crd m ok t) = cc0_transform_2 k0_off1_inb numel1_S1 (pf m) (crd m ok t') :=
    congrArg (fun w : BitVec 32 => ![0, w.toNat, 0, 0]) h
  funext y
  show (s₀ m ρ).mem _ _ = (s₀ m ρ).mem _ _
  refine congrArg _ (funext fun a => Fin.ext ?_)
  exact congrArg (fun f : Fin 4 → ℕ => f a * S1x1x1024x1024.size a + 1 * (y a).val) e
theorem win2_congr (c : Dev nD) (t t' : Fin (cfgA m ok).N) (h : wordE (crd m ok t) (T0 m) = wordE (crd m ok t') (T0 m)) :
    win2 m ρ ok c t = win2 m ρ ok c t' := by
  have e : cc0_transform_3 k0_off1_inb numel1_S1 (pf m) (crd m ok t) = cc0_transform_3 k0_off1_inb numel1_S1 (pf m) (crd m ok t') :=
    congrArg (fun w : BitVec 32 => ![0, w.toNat, 0, 0]) h
  funext y
  show (s₀ m ρ).mem _ _ = (s₀ m ρ).mem _ _
  refine congrArg _ (funext fun a => Fin.ext ?_)
  exact congrArg (fun f : Fin 4 → ℕ => f a * S1x1x1024x1024.size a + 1 * (y a).val) e

/-- What the scratches must hold after a used point. -/
def Held (c : Dev nD) (t : Fin (cfgA m ok).N) (a1 : Buf (Elt F) ((c : Thread nD τ).loc cc0_scratch0)) (a3 : Buf (Elt F) ((c : Thread nD τ).loc cc0_scratch1))
    (a2 : Buf (Elt F) ((c : Thread nD τ).loc cc0_scratch2)) : Prop :=
  usedAt m ok t = true → a1 = cast1 (win1 m ρ ok c t) ∧ a3 = cast3 (win3 m ρ ok c t) ∧ a2 = cast2 (win2 m ρ ok c t)

/-- The invariant before point `t`: after a used point the scratches hold that point's weights; the body's halves of the tables. -/
def Phi (c : Dev nD) (t : Fin ((cfgA m ok).N + 1)) : sProp 𝕄 :=
  iprop(∃ a1, ∃ a3, ∃ a2, ⌜∀ h : t.val ≠ 0, Held m ρ ok c ⟨t.val - 1, by have := t.isLt; omega⟩ a1 a3 a2⌝
    ∗ (sc1.view.loc (c : Thread nD τ) ↦{fullShare} a1) ∗ (sc3.view.loc (c : Thread nD τ) ↦{fullShare} a3) ∗ (sc2.view.loc (c : Thread nD τ) ↦{fullShare} a2)
    ∗ (tabE.view.loc (c : Thread nD τ) ↦{fullShare.right} T0 m) ∗ (tabN.view.loc (c : Thread nD τ) ↦{fullShare.right} T1 m))

/-- The proof data of the one pipeline on core `c`. -/
def dats (_ : Fin 1) (c : Dev nD) : Dat τ (Elt F) Unit ℕ (UR sig nD τ) ℕ (cfgA m ok) c where
  A w := (s₀ m ρ).mem (((cfgA m ok).win w).arr.view.loc (c : Thread nD τ))
  after w t := match w with
    | ⟨0, _⟩ => iblk m ρ ok c (0 : Fin 5) t
    | ⟨1, _⟩ => iblk m ρ ok c (1 : Fin 5) t
    | ⟨2, _⟩ => iblk m ρ ok c (2 : Fin 5) t
    | ⟨3, _⟩ => iblk m ρ ok c (3 : Fin 5) t
    | ⟨4, _⟩ => outAt m ρ ok c t
  Φ t := Phi m ρ ok c t
  q _ := fullShare
  owed _ := 0

theorem after_0 (c : Dev nD) (t : Fin (cfgA m ok).N) : (dats m ρ ok 0 c).after (0 : Fin 5) t = iblk m ρ ok c (0 : Fin 5) t := rfl
theorem after_1 (c : Dev nD) (t : Fin (cfgA m ok).N) : (dats m ρ ok 0 c).after (1 : Fin 5) t = iblk m ρ ok c (1 : Fin 5) t := rfl
theorem after_2 (c : Dev nD) (t : Fin (cfgA m ok).N) : (dats m ρ ok 0 c).after (2 : Fin 5) t = iblk m ρ ok c (2 : Fin 5) t := rfl
theorem after_3 (c : Dev nD) (t : Fin (cfgA m ok).N) : (dats m ρ ok 0 c).after (3 : Fin 5) t = iblk m ρ ok c (3 : Fin 5) t := rfl
theorem after_4 (c : Dev nD) (t : Fin (cfgA m ok).N) : (dats m ρ ok 0 c).after (4 : Fin 5) t = outAt m ρ ok c t := rfl

/-- Input window 0 holds its block when the body runs. -/
theorem before_0 (c : Dev nD) (t : Fin (cfgA m ok).N) (d) : (dats m ρ ok 0 c).before (0 : Fin 5) t d = iblk m ρ ok c (0 : Fin 5) t :=
  ((dats m ρ ok 0 c).before_in_eq_fetched (0 : Fin 5) rfl (fun _ => rfl) (fun _ _ _ => rfl) (fun t => by rw [after_0]; unfold Dat.blockOf iblk; rfl) t d).trans
    (by unfold Dat.fetched Dat.blockOf iblk; rfl)

/-- Input window 1 holds its block when the body runs. -/
theorem before_1 (c : Dev nD) (t : Fin (cfgA m ok).N) (d) : (dats m ρ ok 0 c).before (1 : Fin 5) t d = iblk m ρ ok c (1 : Fin 5) t :=
  ((dats m ρ ok 0 c).before_in_eq_fetched (1 : Fin 5) rfl (fun _ => rfl) (fun _ _ _ => rfl) (fun t => by rw [after_1]; unfold Dat.blockOf iblk; rfl) t d).trans
    (by unfold Dat.fetched Dat.blockOf iblk; rfl)

/-- Input window 2 holds its block when the body runs. -/
theorem before_2 (c : Dev nD) (t : Fin (cfgA m ok).N) (d) : (dats m ρ ok 0 c).before (2 : Fin 5) t d = iblk m ρ ok c (2 : Fin 5) t :=
  ((dats m ρ ok 0 c).before_in_eq_fetched (2 : Fin 5) rfl (fun _ => rfl) (fun _ _ _ => rfl) (fun t => by rw [after_2]; unfold Dat.blockOf iblk; rfl) t d).trans
    (by unfold Dat.fetched Dat.blockOf iblk; rfl)

/-- Input window 3 holds its block when the body runs. -/
theorem before_3 (c : Dev nD) (t : Fin (cfgA m ok).N) (d) : (dats m ρ ok 0 c).before (3 : Fin 5) t d = iblk m ρ ok c (3 : Fin 5) t :=
  ((dats m ρ ok 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output block is stored at every point. -/
theorem live (t : Fin (cfgA m ok).N) : (cfgA m ok).idle (4 : Fin 5) ((cfgA m ok).grid.coords t) = false := by
  show (!(k0_cond2 (crd m ok t) ((pf m).atD 1 ![0]) == 1#1) && !(k0_cond3 (crd m ok t) ((pf m).atD 1 ![0]) == 1#1)) = false
  generalize (pf m).atD 1 ![0] = w
  by_cases h : usedN (crd m ok t 0).val w = true
  · rw [(cond2_iff (crd m ok t) w).mpr h]; rfl
  · rw [(cond3_iff (crd m ok t) w).mpr h, Bool.and_eq_false_iff]; exact .inr rfl

/-- The body at point `t` on its staging memrefs. -/
abbrev bodyAt (t : Fin (cfgA m ok).N) : Prog (TpuEff nD τ sig (Elt F) Λ₀ .tc) PUnit :=
  cc0_moe_experts (crd m ok t) tabE (Memref.isWhole_whole _) tabN (Memref.isWhole_whole _) (ms_0 m ok t) (hs_0 m ok t) (ms_1 m ok t) (hs_1 m ok t) (ms_2 m ok t) (hs_2 m ok t)
    (ms_3 m ok t) (hs_3 m ok t) (ms_4 m ok t) (hs_4 m ok t) sc1 (Memref.isWhole_whole _) sc3 (Memref.isWhole_whole _) sc2 (Memref.isWhole_whole _)

/-- What the body is handed at point `t`, the blocks named. -/
abbrev preAt (c : Dev nD) (t : Fin (cfgA m ok).N) : sProp 𝕄 :=
  iprop(Phi m ρ ok c t.castSucc ∗ (dats m ρ ok 0 c).owesAt () t.castSucc
        ∗ (∃ d : S4096x128.Idx → Elt F .f32, owns (c : Thread nD τ) (ms_0 m ok t) fullShare (xin m ρ ok c t))
        ∗ (∃ d : S1x1x1024x1024.Idx → Elt F .f32, owns (c : Thread nD τ) (ms_1 m ok t) fullShare (win1 m ρ ok c t))
        ∗ (∃ d : S1x1x1024x1024.Idx → Elt F .f32, owns (c : Thread nD τ) (ms_2 m ok t) fullShare (win3 m ρ ok c t))
        ∗ (∃ d : S1x1x1024x1024.Idx → Elt F .f32, owns (c : Thread nD τ) (ms_3 m ok t) fullShare (win2 m ρ ok c t))
        ∗ (∃ d : S4096x128.Idx → Elt F .f32, owns (c : Thread nD τ) (ms_4 m ok t) fullShare ((dats m ρ ok 0 c).before (4 : Fin 5) t d)))

/-- What it gives back. -/
abbrev postAt (c : Dev nD) (t : Fin (cfgA m ok).N) : sProp 𝕄 :=
  iprop(Phi m ρ ok c t.succ ∗ (dats m ρ ok 0 c).owesAt () t.castSucc
        ∗ owns (c : Thread nD τ) (ms_0 m ok t) fullShare (xin m ρ ok c t)
        ∗ owns (c : Thread nD τ) (ms_1 m ok t) fullShare (win1 m ρ ok c t)
        ∗ owns (c : Thread nD τ) (ms_2 m ok t) fullShare (win3 m ρ ok c t)
        ∗ owns (c : Thread nD τ) (ms_3 m ok t) fullShare (win2 m ρ ok c t)
        ∗ owns (c : Thread nD τ) (ms_4 m ok t) fullShare (outAt m ρ ok c t))

set_option maxHeartbeats 4000000 in
/-- The body at a used point that opens an expert. -/
theorem body_fill (c : Dev nD) (t : Fin (cfgA m ok).N) (hu : usedAt m ok t = true) (hf : (crd m ok t 0).val = 0 ∨ ¬ wordE (crd m ok t) (T0 m) = wordP (crd m ok t) (T0 m)) :
    preAt m ρ ok c t ⊢ wp frame (wpE (defs₀ (F := F)) Variants.none c none) Set.univ (bodyAt m ok t) fun _ => postAt m ρ ok c t := by
  unfold preAt postAt Phi
  iintro ⟨⟨%a1, %a3, %a2, %ha, HS1, HS3, HS2, HT0, HT1⟩, Ho, ⟨%d0, H0⟩, ⟨%d1, H1⟩, ⟨%d2, H2⟩, ⟨%d3, H3⟩, ⟨%d4, H4⟩⟩
  iapply ((runFill c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 ((condF_iff _ _ _).mpr ⟨hf, hu⟩) ((cond2_iff _ _).mpr hu) (fun e => (cond3_iff _ _).mp e hu)).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS1]; · iexact HS1
  isplitl [HS3]; · iexact HS3
  isplitl [HS2]; · iexact HS2
  iintro ⟨H0, H1, H2, H3, HT0, HT1, ⟨%e4, H4⟩, HS1, HS3, HS2⟩
  isplitl [HS1 HS3 HS2 HT0 HT1]
  · iexists _, _, _
    isplitr; swap
    · isplitl [HS1]; · iexact HS1
      isplitl [HS3]; · iexact HS3
      isplitl [HS2]; · iexact HS2
      isplitl [HT0]; · iexact HT0
      iexact HT1
    · ipureintro
      intro hn
      exact fun _ => ⟨fill_w1 c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 ((condF_iff _ _ _).mpr ⟨hf, hu⟩) ((cond2_iff _ _).mpr hu) (fun e => (cond3_iff _ _).mp e hu), fill_w3 c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 ((condF_iff _ _ _).mpr ⟨hf, hu⟩) ((cond2_iff _ _).mpr hu) (fun e => (cond3_iff _ _).mp e hu),
        fill_w2 c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 ((condF_iff _ _ _).mpr ⟨hf, hu⟩) ((cond2_iff _ _).mpr hu) (fun e => (cond3_iff _ _).mp e hu)⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    rw [fill_out c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 ((condF_iff _ _ _).mpr ⟨hf, hu⟩) ((cond2_iff _ _).mpr hu) (fun e => (cond3_iff _ _).mp e hu), read_groups]
    unfold outAt; rw [if_pos hu]

/-- At a used point that keeps its expert the scratches already hold its weights. -/
theorem held_keep (c : Dev nD) (t : Fin (cfgA m ok).N) (hu : usedAt m ok t = true)
    (hf : ¬ ((crd m ok t 0).val = 0 ∨ ¬ wordE (crd m ok t) (T0 m) = wordP (crd m ok t) (T0 m))) (a1 a3 a2)
    (ha : ∀ h : t.castSucc.val ≠ 0, Held m ρ ok c ⟨t.castSucc.val - 1, by have := t.castSucc.isLt; omega⟩ a1 a3 a2) :
    a1 = cast1 (win1 m ρ ok c t) ∧ a3 = cast3 (win3 m ρ ok c t) ∧ a2 = cast2 (win2 m ρ ok c t) := by
  have h0 : (crd m ok t 0).val ≠ 0 := fun h => hf (.inl h)
  have hw : wordE (crd m ok t) (T0 m) = wordP (crd m ok t) (T0 m) := by
    by_contra h; exact hf (.inr h)
  have ht : t.val ≠ 0 := fun h => h0 ((crd_val m ok t).trans h)
  have hp : t.val - 1 < (cfgA m ok).N := by have := t.isLt; omega
  have hv : (crd m ok ⟨t.val - 1, hp⟩ 0).val = (crd m ok t 0).val - 1 := by rw [crd_val, crd_val]
  have hu' : usedAt m ok ⟨t.val - 1, hp⟩ = true := by
    unfold usedAt; rw [hv]; exact used_pred _ (crd_lt _) _ hu
  have he : wordE (crd m ok t) (T0 m) = wordE (crd m ok ⟨t.val - 1, hp⟩) (T0 m) := by
    rw [hw, wordP_eq, wordE_eq]
    refine congrArg (T0 m) (funext fun a => ?_)
    match a with
    | ⟨0, _⟩ => exact Fin.ext hv.symm
  obtain ⟨e1, e3, e2⟩ := ha ht hu'
  rw [win1_congr m ρ ok c t _ he, win3_congr m ρ ok c t _ he, win2_congr m ρ ok c t _ he]
  exact ⟨e1, e3, e2⟩

set_option maxHeartbeats 4000000 in
/-- The body at a used point that keeps its expert. -/
theorem body_keep (c : Dev nD) (t : Fin (cfgA m ok).N) (hu : usedAt m ok t = true) (hf : ¬ ((crd m ok t 0).val = 0 ∨ ¬ wordE (crd m ok t) (T0 m) = wordP (crd m ok t) (T0 m))) :
    preAt m ρ ok c t ⊢ wp frame (wpE (defs₀ (F := F)) Variants.none c none) Set.univ (bodyAt m ok t) fun _ => postAt m ρ ok c t := by
  unfold preAt postAt Phi
  iintro ⟨⟨%a1, %a3, %a2, %ha, HS1, HS3, HS2, HT0, HT1⟩, Ho, ⟨%d0, H0⟩, ⟨%d1, H1⟩, ⟨%d2, H2⟩, ⟨%d3, H3⟩, ⟨%d4, H4⟩⟩
  have ha' := held_keep m ρ ok c t hu hf a1 a3 a2 ha
  iapply ((runKeep c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 (fun e => hf ((condF_iff _ _ _).mp e).1) ((cond2_iff _ _).mpr hu) (fun e => (cond3_iff _ _).mp e hu)).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS1]; · iexact HS1
  isplitl [HS3]; · iexact HS3
  isplitl [HS2]; · iexact HS2
  iintro ⟨H0, H1, H2, H3, HT0, HT1, ⟨%e4, H4⟩, HS1, HS3, HS2⟩
  isplitl [HS1 HS3 HS2 HT0 HT1]
  · iexists _, _, _
    isplitr; swap
    · isplitl [HS1]; · iexact HS1
      isplitl [HS3]; · iexact HS3
      isplitl [HS2]; · iexact HS2
      isplitl [HT0]; · iexact HT0
      iexact HT1
    · ipureintro
      intro hn
      exact fun _ => ⟨ha'.1, ha'.2.1, ha'.2.2⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    rw [keep_out c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 (fun e => hf ((condF_iff _ _ _).mp e).1) ((cond2_iff _ _).mpr hu) (fun e => (cond3_iff _ _).mp e hu), read_groups]
    unfold outAt; rw [if_pos hu, ha'.1, ha'.2.1, ha'.2.2]

set_option maxHeartbeats 4000000 in
/-- The body at an unused point. -/
theorem body_skip (c : Dev nD) (t : Fin (cfgA m ok).N) (hu : ¬ usedAt m ok t = true) :
    preAt m ρ ok c t ⊢ wp frame (wpE (defs₀ (F := F)) Variants.none c none) Set.univ (bodyAt m ok t) fun _ => postAt m ρ ok c t := by
  unfold preAt postAt Phi
  iintro ⟨⟨%a1, %a3, %a2, %ha, HS1, HS3, HS2, HT0, HT1⟩, Ho, ⟨%d0, H0⟩, ⟨%d1, H1⟩, ⟨%d2, H2⟩, ⟨%d3, H3⟩, ⟨%d4, H4⟩⟩
  iapply ((runSkip c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 (fun e => hu ((condF_iff _ _ _).mp e).2) (fun e => hu ((cond2_iff _ _).mp e)) ((cond3_iff _ _).mpr hu)).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS1]; · iexact HS1
  isplitl [HS3]; · iexact HS3
  isplitl [HS2]; · iexact HS2
  iintro ⟨H0, H1, H2, H3, HT0, HT1, ⟨%e4, H4⟩, HS1, HS3, HS2⟩
  isplitl [HS1 HS3 HS2 HT0 HT1]
  · iexists _, _, _
    isplitr; swap
    · isplitl [HS1]; · iexact HS1
      isplitl [HS3]; · iexact HS3
      isplitl [HS2]; · iexact HS2
      isplitl [HT0]; · iexact HT0
      iexact HT1
    · ipureintro
      intro hn
      exact fun h => absurd h hu
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    rw [skip_out c (crd m ok t) (ms_0 m ok t) (hs_0 m ok t) (ms_1 m ok t) (hs_1 m ok t) (ms_2 m ok t) (hs_2 m ok t) (ms_3 m ok t) (hs_3 m ok t) (ms_4 m ok t) (hs_4 m ok t) (T0 m) (T1 m) (xin m ρ ok c t) (win1 m ρ ok c t) (win3 m ρ ok c t) (win2 m ρ ok c t) a1 a3 a2 (fun e => hu ((condF_iff _ _ _).mp e).2) (fun e => hu ((cond2_iff _ _).mp e)) ((cond3_iff _ _).mpr hu)]
    unfold outAt; rw [if_neg hu]
    exact View.read_writes_full _ _ _ _ _

set_option maxHeartbeats 4000000 in
/-- The body's obligation, at every point. -/
theorem body_obligation (c : Dev nD) : BodyObligation (dats m ρ ok 0 c) (defs₀ (F := F)) Variants.none () Set.univ := fun t => by
  rw [bigSep_W0, bigSep_W0]
  rewrite [live m ok t]
  simp only [before_0, before_1, before_2, before_3, after_0, after_1, after_2, after_3, after_4]
  by_cases hu : usedAt m ok t = true
  · by_cases hf : (crd m ok t 0).val = 0 ∨ ¬ wordE (crd m ok t) (T0 m) = wordP (crd m ok t) (T0 m)
    · exact body_fill m ρ ok c t hu hf
    · exact body_keep m ρ ok c t hu hf
  · exact body_skip m ρ ok c t hu

/-- The rounds library's launch element. -/
def u₀ : UR sig nD τ :=
  initOf (Pipeline.cells (pcs m ok) ((launch0 (F := F)).cellOf_inj fun _ => adm m ok))
    (Pipeline.launchToks (pcs m ok) ((launch0 (F := F)).cellOf_inj fun _ => adm m ok))

theorem share_eq (c : Dev nD) (w : Fin (cfgA m ok).W) : (dats m ρ ok 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratches; -/
theorem phi0_intro (c : Dev nD) :
    iprop(BI.emp ∗ Pipeline.prefHeld pre0 c (fun _ => fullShare.right) (adm m ok).1 ∗ Pipeline.scopedRest spec0 c) ⊢ (dats m ρ ok 0 c).Φ 0 := by
  rw [prefHeld_eq, scopedRest0_eq, show (dats m ρ ok 0 c).Φ 0 = Phi m ρ ok c 0 from rfl]
  unfold Phi
  iintro ⟨-, ⟨HT0, HT1⟩, ⟨%a0, HS0⟩, ⟨%a1, HS1⟩, ⟨%a2, HS2⟩⟩
  iexists a0, a1, a2
  isplitr
  · ipureintro; intro h; exact absurd rfl h
  isplitl [HS0]; · iexact HS0
  isplitl [HS1]; · iexact HS1
  isplitl [HS2]; · iexact HS2
  isplitl [HT0]; · iexact HT0
  iexact HT1

/-- at the last point it gives the scratches back. -/
theorem phiN_exit (c : Dev nD) : (dats m ρ ok 0 c).Φ (Fin.last (cfgA m ok).N) ⊢ iprop(BI.emp ∗ Pipeline.scopedRest spec0 c) := by
  rw [scopedRest0_eq, show (dats m ρ ok 0 c).Φ (Fin.last (cfgA m ok).N) = Phi m ρ ok c (Fin.last _) from rfl]
  unfold Phi
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array ends at what the pipeline writes back, every table at what it held. -/
def QC : PUnit × MemSt nD τ sig (Elt F) → Prop := fun r =>
  ∀ c : Dev nD, (∀ w : Fin (cfgA m ok).W, r.2.mem (((cfgA m ok).win w).arr.view.loc (c : Thread nD τ)) = (dats m ρ ok 0 c).arrAt w (cfgA m ok).N)
    ∧ ∀ j, r.2.mem ((c : Thread nD τ).loc (pre0.ref j)) = (adm m ok).1 j

theorem V_pre (c : Dev nD) (j : Fin 2) : m ((c : Thread nD τ).loc (pre0.ref j)) = (adm m ok).1 j := by
  obtain rfl : c = 0 := Subsingleton.elim _ _
  fin_cases j
  · rfl
  · rfl

set_option backward.isDefEq.respectTransparency.types false in
set_option maxHeartbeats 4000000 in
/-- Every weakly fair execution terminates, with each array at its computed contents and every counter at zero. -/
theorem run_main_quiescent : θ_run (defs (F := F)) (onTc (τ := τ) (main (F := F))) (s₀ m ρ) (fun r => QC m ρ ok r ∧ r.2.sem = fun _ => 0) :=
  Pipeline.θ_run_region_noSem_pf_quiescent pcfgs (fun _ => adm m ok) (dats m ρ ok) () ((launch0 (F := F)).cellOf_inj fun _ => adm m ok) (0 : Fin 1)
    (launch0 (F := F)).win.to₀ (launch0 (F := F)).pre EP defs₀ Variants.none m ρ main
    (hbody := fun c => (body_obligation m ρ ok c).loose) (hne := (launch0 (F := F)).block_pos)
    (harr := (launch0 (F := F)).arr_whole) (hstage := (launch0 (F := F)).stage_whole) (howed := fun _ _ => rfl)
    (u₀ := u₀ m ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m ok) (dats m ρ ok) 0 (launch0 (F := F)).win.arr_inj c (launch0 (F := F)).arr_whole
      (share_eq m ρ ok c) _ _ fun _ => rfl)
    (hpf := V_pre m ok)
    (X := fun _ => iprop(emp)) (Y := fun _ => iprop(emp)) (Z := fun _ => iprop(emp))
    (hX := fun c => by rw [unscopedRestP0_eq]; iintro -; isplitr <;> iempintro)
    (hin := phi0_intro m ρ ok)
    (hout := phiN_exit m ρ ok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main : θ_run (defs (F := F)) (onTc (τ := τ) (main (F := F))) (s₀ m ρ) (QC m ρ ok) :=
  (θ_run defs _ _).mono (fun _ h => h.1) (run_main_quiescent m ρ ok)

include ok in
/-- The argument arrays end unchanged. -/
theorem unchanged :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (V_pre m ok c 0).symm, ((h c).2 1).trans (V_pre m ok c 1).symm,
    ((h c).1 (0 : Fin 5)).trans ((dats m ρ ok 0 c).arrAt_in (0 : Fin 5) rfl _), ((h c).1 (1 : Fin 5)).trans ((dats m ρ ok 0 c).arrAt_in (1 : Fin 5) rfl _),
    ((h c).1 (2 : Fin 5)).trans ((dats m ρ ok 0 c).arrAt_in (2 : Fin 5) rfl _), ((h c).1 (3 : Fin 5)).trans ((dats m ρ ok 0 c).arrAt_in (3 : Fin 5) rfl _)⟩) (run_main m ρ ok)

include ok in
/-- The frame: execution terminates, faults nowhere, leaves the arguments and every counter as they were. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ ok) ((θ_run defs _ _).mono (fun _ h => h.2) (run_main_quiescent m ρ ok))

end Cert.ExpertsIdeal.Hand

end
-- ==== Proof.OkIdeal.lean ====
module

public import proofs.«01_k».proof.Proof.FrameIdeal
public import proofs.«01_k».proof.Proof.Feed
public import proofs.«01_k».proof.Proof.Gen.Pre_experts_named

@[expose] public section

set_option maxRecDepth 16384

noncomputable section

namespace Cert.ExpertsIdeal.Hand

open Cert.ExpertsIdeal Cert.ExpertsIdeal.Gen Cert.Feed
open Idealize.ShloMosaic
open Idealize.ShloMosaic.TcCoe

variable {F : FTy → Type} [FloatOps F]

/-- A table the precondition holds of names experts only, and its words read signed are their natural values. -/
theorem named (a0 : IVec S88 32) (a1 : IVec S1 32) (a2 : FVec F S360448x128 .f32) (a3 a4 a5 : FVec F S4x16x1024x1024 .f32)
    (h : Cert.Pre_experts_named.fn (F := F) a0 a1 a2 a3 a4 a5 = fun _ => 1#1) (x : S88.Idx) :
    (a0 x).toNat < 16 ∧ (a0 x).toInt.toNat = (a0 x).toNat := by
  have e := congrFun h x
  change (BitVec.ofBool ((0#32).sle (a0 x))) &&& (BitVec.ofBool ((a0 x).slt 16#32)) = 1#1 at e
  refine word_range _ ?_ ?_
  · rcases h0 : (0#32).sle (a0 x) with _ | _
    · rw [h0] at e; rcases h1 : (a0 x).slt 16#32 with _ | _ <;> rw [h1] at e <;> exact absurd e (by decide)
    · rfl
  · rcases h1 : (a0 x).slt 16#32 with _ | _
    · rw [h1] at e; rcases h0 : (0#32).sle (a0 x) with _ | _ <;> rw [h0] at e <;> exact absurd e (by decide)
    · rfl

variable (m : (ℓ : Loc nD τ sig) → Buf (Elt F) ℓ)

/-- A point's block index stays inside the stack when the table names experts only. -/
theorem inside (h : ∀ x, (T0 m x).toNat < 16) (i : grid0.Coords) (a : Fin 4) :
    ((![0, (wordE i (T0 m)).toNat, 0, 0] : Fin 4 → ℕ) a + 1) * S1x1x1024x1024.size a ≤ S4x16x1024x1024.size a := by
  have hw : (wordE i (T0 m)).toNat < 16 := by rw [wordE_eq]; exact h _
  match a with
  | ⟨0, _⟩ => exact (by decide : (0 + 1) * 1 ≤ 4)
  | ⟨1, _⟩ => show ((wordE i (T0 m)).toNat + 1) * 1 ≤ 16; omega
  | ⟨2, _⟩ => exact (by decide : (0 + 1) * 1024 ≤ 1024)
  | ⟨3, _⟩ => exact (by decide : (0 + 1) * 1024 ≤ 1024)

/-- The weight windows are inside their arrays when the table names experts only. -/
theorem ok_of (h : ∀ x, (T0 m x).toNat < 16) : ok0 (pf m) :=
  ⟨fun i => ⟨inside m h i, .inl rfl⟩, fun i => ⟨inside m h i, .inl rfl⟩, fun i => ⟨inside m h i, .inl rfl⟩⟩

end Cert.ExpertsIdeal.Hand

end
-- ==== Proof.PayIdeal.lean ====
module

public import proofs.«01_k».proof.Proof.PiecesIdeal
public import proofs.«01_k».proof.Proof.Feed

@[expose] public section

set_option maxRecDepth 16384

noncomputable section

namespace Cert.ExpertsIdeal.Hand

open Cert.ExpertsIdeal Cert.ExpertsIdeal.Gen Cert.Feed
open Idealize.ShloMosaic

/-- Eight column groups side by side, read at a column: its group at the column within it. -/
theorem groups_apply (v : Fin 8 → S512x128.Idx → Elt Ideal .f32) (r : Fin 512) (j : Fin 1024) :
    concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩]
        concatenates_S512x128_S512x128_S512x128_S512x128_S512x128_S512x128_S512x128_S512x128_S512x1024_d1 (ix2 r j)
      = v ⟨j.val / 128, by omega⟩ (ix2 r (laneOf j)) := by
  refine concatenate_ofFn_apply (t := S512x1024) (s₁ := S512x128) 1 v _ rfl 128 rfl (ix2 r j) ⟨j.val / 128, by omega⟩ rfl _ rfl ?_
  intro b hb
  match b with
  | ⟨0, _⟩ => rfl
  | ⟨1, _⟩ => exact absurd rfl hb

/-- The body's product chain at an index is the feed-forward of that row. -/
theorem pay11_apply (v : Fin 8 → S512x128.Idx → Elt Ideal .f32) (b1 b3 b2 : S1024x1024.Idx → Elt Ideal .bf16) (r : Fin 512) (j : Fin 1024) :
    k0_pay11 (F := Ideal) (v 0) (v 1) (v 2) (v 3) (v 4) (v 5) (v 6) (v 7) b1 b3 b2 (ix2 r j)
      = feed (fun d => v ⟨d.val / 128, by omega⟩ (ix2 r (laneOf d))) (fun d k => b1 (ix2 d k)) (fun d k => b3 (ix2 d k)) (fun k j => b2 (ix2 k j)) j := by
  unfold k0_pay11
  generalize hX : concatenate S512x1024 1 _ _ = X
  have hx : ∀ d : Fin 1024, X (ix2 r d) = v ⟨d.val / 128, by omega⟩ (ix2 r (laneOf d)) := fun d => by
    rw [← hX]; exact groups_apply v r d
  pointwise
  unfold feed
  simp only [hx, zero_sub]

/-- The feed-forward of a block of folded rows, at a row of tokens and a coordinate. -/
theorem ffn_apply (x0 : S4096x128.Idx → Elt Ideal .f32) (b1 b3 b2 : S1024x1024.Idx → Elt Ideal .bf16) (r : Fin 512) (j : Fin 1024) :
    ffn (F := Ideal) x0 b1 b3 b2 (ix2 r j)
      = feed (fun d => x0 (ix2 (⟨r.val * 8 + d.val / 128, by omega⟩ : Fin 4096) (laneOf d)))
          (fun d k => b1 (ix2 d k)) (fun d k => b3 (ix2 d k)) (fun k j => b2 (ix2 k j)) j := by
  let v : Fin 8 → S512x128.Idx → Elt Ideal .f32 := fun k y =>
    x0 (ix2 (⟨(y 0).val * 8 + k.val, by have h : (y 0).val < 512 := (y 0).isLt; omega⟩ : Fin 4096) (y 1 : Fin 128))
  have e : ∀ (k : ℕ) (hk : k < 8) (h), group (F := Ideal) x0 (⟨![k, 0], S512x128.size, ![8, 1], h⟩ : LoadRect S4096x128) = v ⟨k, hk⟩ := by
    intro k hk h
    funext y
    refine congrArg x0 (funext fun a => Fin.ext ?_)
    match a with
    | ⟨0, _⟩ => show k + 8 * (y 0).val = (y 0).val * 8 + k; omega
    | ⟨1, _⟩ => show 0 + 1 * (y 1).val = (y 1).val; omega
  unfold ffn
  rw [e 0 (by omega), e 1 (by omega), e 2 (by omega), e 3 (by omega), e 4 (by omega), e 5 (by omega), e 6 (by omega), e 7 (by omega)]
  exact pay11_apply v b1 b3 b2 r j

/-- A weight block cast for the cache keeps its entries. -/
theorem cast1_apply (w : S1x1x1024x1024.Idx → Elt Ideal .f32) (d k : Fin 1024) :
    cast1 (F := Ideal) w (ix2 d k) = w (ix4 (0 : Fin 1) (0 : Fin 1) d k) := by
  pointwise [cast1, k0_pay1]
theorem cast3_apply (w : S1x1x1024x1024.Idx → Elt Ideal .f32) (d k : Fin 1024) :
    cast3 (F := Ideal) w (ix2 d k) = w (ix4 (0 : Fin 1) (0 : Fin 1) d k) := by
  pointwise [cast3, k0_pay2]
theorem cast2_apply (w : S1x1x1024x1024.Idx → Elt Ideal .f32) (d k : Fin 1024) :
    cast2 (F := Ideal) w (ix2 d k) = w (ix4 (0 : Fin 1) (0 : Fin 1) d k) := by
  pointwise [cast2, k0_pay3]

/-- Rows folded eight to a token, read at a folded row and lane. -/
theorem spread_apply (y : S512x1024.Idx → Elt Ideal .f32) (r : Fin 4096) (l : Fin 128) :
    spread (F := Ideal) y (ix2 r l) = y (ix2 (⟨r.val / 8, by omega⟩ : Fin 512) (⟨r.val % 8 * 128 + l.val, by omega⟩ : Fin 1024)) := by
  unfold spread
  refine congrArg y (funext fun a => ?_)
  match a with
  | ⟨0, _⟩ => rfl
  | ⟨1, _⟩ => rfl

/-- A skipped block's fill is zero. -/
theorem skip_apply (y : S4096x128.Idx) : k0_pay10 (F := Ideal) y = 0 := by
  pointwise [k0_pay10]

end Cert.ExpertsIdeal.Hand

end
-- ==== Proof.KernelValue.lean ====
module

public import proofs.«01_k».proof.Proof.FrameIdeal
public import proofs.«01_k».proof.Proof.PayIdeal
public import Idealize.ShloMosaic.Lib.Pipeline.ValueKit.Geometry

@[expose] public section

set_option maxRecDepth 16384

noncomputable section

namespace Cert.ExpertsIdeal.Hand

open Cert.ExpertsIdeal Cert.ExpertsIdeal.Gen Cert.Feed
open Idealize.ShloMosaic
open Idealize.ShloMosaic.TcCoe Idealize.SL.Sem
open Idealize.ShloMosaic.Pipeline (Dat)

variable (m : (ℓ : Loc nD τ sig) → Buf (Elt Ideal) ℓ) (ρ : Dev nD → PrngReg) (ok : ok0 (pf m))

/-- The arguments at launch. -/
abbrev argX (c : Dev nD) : S360448x128.Idx → Elt Ideal .f32 := m ((c : Thread nD τ).loc main_arg2)
abbrev argW1 (c : Dev nD) : S4x16x1024x1024.Idx → Elt Ideal .f32 := m ((c : Thread nD τ).loc main_arg3)
abbrev argW3 (c : Dev nD) : S4x16x1024x1024.Idx → Elt Ideal .f32 := m ((c : Thread nD τ).loc main_arg4)
abbrev argW2 (c : Dev nD) : S4x16x1024x1024.Idx → Elt Ideal .f32 := m ((c : Thread nD τ).loc main_arg5)

/-- The result the kernel's array ends at. -/
def out (c : Dev nD) : S360448x128.Idx → Elt Ideal .f32 := fun y =>
  result (fun b => T0 m (ix1 b)) (T1 m (ix1 (0 : Fin 1))) (fun r l => argX m c (ix2 r l))
    (fun n e d k => argW1 m c (ix4 n e d k)) (fun n e d k => argW3 m c (ix4 n e d k)) (fun n e d k => argW2 m c (ix4 n e d k))
    (y 0 : Fin 360448) (y 1 : Fin 128)

theorem t_lt (t : Fin (cfgA m ok).N) : t.val < 88 := t.isLt

/-- The word a point's weight blocks go by. -/
abbrev tword (t : Fin (cfgA m ok).N) : BitVec 32 := T0 m (ix1 (⟨t.val, t_lt m ok t⟩ : Fin 88))

theorem index0 : ∀ t : Fin grid0.N, cc0_transform_0 (grid0.coords t) = ![t.val, 0] := by decide +kernel
theorem index4 : ∀ t : Fin grid0.N, cc0_transform_4 (grid0.coords t) = ![t.val, 0] := by decide +kernel
theorem flush4 : ∀ t : Fin grid0.N, Pipeline.Window.flushOf grid0 true cc0_transform_4 t = true := by decide +kernel

/-- A block of rows at an index is the array at that block's row. -/
theorem xin_apply (c : Dev nD) (t : Fin (cfgA m ok).N) (r : Fin 4096) (l : Fin 128) :
    xin m ρ ok c t (ix2 r l) = argX m c (ix2 (⟨t.val * 4096 + r.val, by have := t_lt m ok t; omega⟩ : Fin 360448) l) := by
  show m _ _ = m _ _
  refine congrArg _ (funext fun a => Fin.ext ?_)
  have e := index0 t
  match a with
  | ⟨0, _⟩ =>
    have e0 : cc0_transform_0 (crd m ok t) 0 = t.val := congrFun e 0
    show cc0_transform_0 (crd m ok t) 0 * 4096 + 1 * r.val = t.val * 4096 + r.val
    rw [e0]; omega
  | ⟨1, _⟩ =>
    have e1 : cc0_transform_0 (crd m ok t) 1 = 0 := congrFun e 1
    show cc0_transform_0 (crd m ok t) 1 * 128 + 1 * l.val = l.val
    rw [e1]; omega

theorem word_eq (t : Fin (cfgA m ok).N) : wordE (crd m ok t) (T0 m) = tword m ok t := by
  rw [wordE_eq]
  refine congrArg (T0 m) (funext fun a => ?_)
  match a with
  | ⟨0, _⟩ => exact Fin.ext (crd_val m ok t)

/-- A gate weight block at an index is the named expert's entry. -/
theorem win1_apply (c : Dev nD) (t : Fin (cfgA m ok).N) (h : (tword m ok t).toNat < 16) (d k : Fin 1024) :
    win1 m ρ ok c t (ix4 (0 : Fin 1) (0 : Fin 1) d k) = argW1 m c (ix4 (0 : Fin 4) (expertOf (tword m ok t)) d k) := by
  show m _ _ = m _ _
  refine congrArg _ (funext fun a => Fin.ext ?_)
  match a with
  | ⟨0, _⟩ => rfl
  | ⟨1, _⟩ =>
    show (wordE (crd m ok t) (T0 m)).toNat * 1 + 1 * 0 = min (tword m ok t).toNat 15
    rw [word_eq]; omega
  | ⟨2, _⟩ => show 0 * 1024 + 1 * d.val = d.val; omega
  | ⟨3, _⟩ => show 0 * 1024 + 1 * k.val = k.val; omega

/-- An up weight block at an index is the named expert's entry. -/
theorem win3_apply (c : Dev nD) (t : Fin (cfgA m ok).N) (h : (tword m ok t).toNat < 16) (d k : Fin 1024) :
    win3 m ρ ok c t (ix4 (0 : Fin 1) (0 : Fin 1) d k) = argW3 m c (ix4 (0 : Fin 4) (expertOf (tword m ok t)) d k) := by
  show m _ _ = m _ _
  refine congrArg _ (funext fun a => Fin.ext ?_)
  match a with
  | ⟨0, _⟩ => rfl
  | ⟨1, _⟩ =>
    show (wordE (crd m ok t) (T0 m)).toNat * 1 + 1 * 0 = min (tword m ok t).toNat 15
    rw [word_eq]; omega
  | ⟨2, _⟩ => show 0 * 1024 + 1 * d.val = d.val; omega
  | ⟨3, _⟩ => show 0 * 1024 + 1 * k.val = k.val; omega

/-- A down weight block at an index is the named expert's entry. -/
theorem win2_apply (c : Dev nD) (t : Fin (cfgA m ok).N) (h : (tword m ok t).toNat < 16) (d k : Fin 1024) :
    win2 m ρ ok c t (ix4 (0 : Fin 1) (0 : Fin 1) d k) = argW2 m c (ix4 (0 : Fin 4) (expertOf (tword m ok t)) d k) := by
  show m _ _ = m _ _
  refine congrArg _ (funext fun a => Fin.ext ?_)
  match a with
  | ⟨0, _⟩ => rfl
  | ⟨1, _⟩ =>
    show (wordE (crd m ok t) (T0 m)).toNat * 1 + 1 * 0 = min (tword m ok t).toNat 15
    rw [word_eq]; omega
  | ⟨2, _⟩ => show 0 * 1024 + 1 * d.val = d.val; omega
  | ⟨3, _⟩ => show 0 * 1024 + 1 * k.val = k.val; omega

/-- What the body leaves in a point's block is the result's block. -/
theorem outAt_apply (c : Dev nD) (t : Fin (cfgA m ok).N) (h : (tword m ok t).toNat < 16) (r : Fin 4096) (l : Fin 128) :
    outAt m ρ ok c t (ix2 r l)
      = out m c (ix2 (⟨t.val * 4096 + r.val, by have := t_lt m ok t; omega⟩ : Fin 360448) l) := by
  have ht := t_lt m ok t
  have hb : (t.val * 4096 + r.val) / 4096 = t.val := by omega
  have hu : usedAt m ok t = (BitVec.ofNat 32 t.val).slt (T1 m (ix1 (0 : Fin 1))) := by
    show (BitVec.ofNat 32 (crd m ok t 0).val).slt (wordN (T1 m)) = _
    rw [crd_val, wordN_eq]
    refine congrArg _ (congrArg (T1 m) (funext fun a => ?_))
    match a with
    | ⟨0, _⟩ => rfl
  show outAt m ρ ok c t (ix2 r l) = result _ _ _ _ _ _ (⟨t.val * 4096 + r.val, _⟩ : Fin 360448) l
  unfold outAt result
  rw [hu]
  simp only [hb]
  by_cases hs : (BitVec.ofNat 32 t.val).slt (T1 m (ix1 (0 : Fin 1))) = true
  · rw [if_pos hs, if_pos hs, spread_apply, ffn_apply]
    simp only [cast1_apply, cast3_apply, cast2_apply, win1_apply m ρ ok c t h, win3_apply m ρ ok c t h, win2_apply m ρ ok c t h, xin_apply]
    have hrow : ∀ d : Fin 1024, (⟨t.val * 4096 + (r.val / 8 * 8 + d.val / 128), by omega⟩ : Fin 360448)
        = rowOf ⟨t.val * 4096 + r.val, by omega⟩ d := fun d => Fin.ext (by simp only [rowOf]; omega)
    have hcol : (⟨r.val % 8 * 128 + l.val, by omega⟩ : Fin 1024) = coordOf ⟨t.val * 4096 + r.val, by omega⟩ l :=
      Fin.ext (by simp only [coordOf]; omega)
    simp only [hrow, hcol]
  · rw [if_neg hs, if_neg hs]
    exact skip_apply _

/-- The output array ends at the result. -/
theorem arr_out (c : Dev nD) (h : ∀ b : Fin 88, (T0 m (ix1 b)).toNat < 16) :
    (dats m ρ ok 0 c).arrAt (4 : Fin 5) (cfgA m ok).N = out m c := by
  refine (dats m ρ ok 0 c).arrAt_eq_of_emb (4 : Fin 5) (out m c) (fun t hf y => ?_) fun i => ?_
  · show outAt m ρ ok c t y = out m c _
    obtain ⟨r, l, rfl⟩ : ∃ (r : Fin 4096) (l : Fin 128), y = ix2 r l := ⟨y 0, y 1, eq_ix2 y⟩
    rw [outAt_apply m ρ ok c t (h _)]
    refine congrArg (out m c) (funext fun a => Fin.ext ?_)
    have e := index4 t
    match a with
    | ⟨0, _⟩ =>
      have e0 : cc0_transform_4 (crd m ok t) 0 = t.val := congrFun e 0
      show t.val * 4096 + r.val = cc0_transform_4 (crd m ok t) 0 * 4096 + 1 * r.val
      rw [e0]; omega
    | ⟨1, _⟩ =>
      have e1 : cc0_transform_4 (crd m ok t) 1 = 0 := congrFun e 1
      show l.val = cc0_transform_4 (crd m ok t) 1 * 128 + 1 * l.val
      rw [e1]; omega
  · obtain ⟨r, l, rfl⟩ : ∃ (r : Fin 360448) (l : Fin 128), i = ix2 r l := ⟨i 0, i 1, eq_ix2 i⟩
    have hr := r.isLt
    refine ⟨⟨r.val / 4096, by show r.val / 4096 < 88; omega⟩, flush4 _, ?_⟩
    generalize ht : (⟨r.val / 4096, _⟩ : Fin (cfgA m ok).N) = t
    have htv : t.val = r.val / 4096 := by rw [← ht]
    have he : (((cfgA m ok).win (4 : Fin 5)).blk t).view.emb (ix2 (⟨r.val % 4096, by omega⟩ : Fin 4096) l : S4096x128.Idx) = (ix2 r l : S360448x128.Idx) := by
      funext a; refine Fin.ext ?_
      have e := index4 t
      match a with
      | ⟨0, _⟩ =>
        have e0 : cc0_transform_4 (crd m ok t) 0 = t.val := congrFun e 0
        show cc0_transform_4 (crd m ok t) 0 * 4096 + 1 * (r.val % 4096) = r.val
        rw [e0, htv]; omega
      | ⟨1, _⟩ =>
        have e1 : cc0_transform_4 (crd m ok t) 1 = 0 := congrFun e 1
        show cc0_transform_4 (crd m ok t) 1 * 128 + 1 * l.val = l.val
        rw [e1]; omega
    rw [← he]
    exact (((cfgA m ok).win (4 : Fin 5)).blk t).view.emb_mem_set _

include ok in
/-- Every run of the kernel ends with its array at the result, the arguments unchanged. -/
theorem kernel_run (h : ∀ b : Fin 88, (T0 m (ix1 b)).toNat < 16) :
    θ_run (defs (F := Ideal)) (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr.1 c).1 (4 : Fin 5)).trans (arr_out m ρ ok c h), hr.2 c⟩)
    (θ_run_and (run_main m ρ ok) (unchanged m ρ ok))

end Cert.ExpertsIdeal.Hand

end
-- ==== Proof.RefValue.lean ====
module

public import proofs.«01_k».proof.Proof.Gen.ExpertsRefIdeal.Run
public import proofs.«01_k».proof.Proof.Feed

@[expose] public section

set_option maxRecDepth 16384

noncomputable section

namespace Cert.ExpertsRefIdeal.Hand

open Cert.ExpertsRefIdeal Cert.ExpertsRefIdeal.Gen Cert.Feed
open Idealize.ShloMosaic

/-- The stacked weights of the blocks' experts, at a block: the named expert's matrix, the name clamped to the sixteen. -/
theorem take_apply (x : S16x1024x1024.Idx → Elt Ideal .f32) (t : S88.Idx → BitVec 32) (b : Fin 88) (d k : Fin 1024) :
    Host.gather gather_S16x1024x1024_S88x1_S88x1024x1024_12_0_n_n_0_1_110241024 x (broadcastInDim S88x1 ![0] bcast_S88_S88x1_0 t) (ix3 b d k)
      = x (ix3 (⟨min (t (ix1 b)).toInt.toNat 15, by omega⟩ : Fin 16) d k) := by
  unfold Host.gather
  congr 1
  let g := gather_S16x1024x1024_S88x1_S88x1024x1024_12_0_n_n_0_1_110241024
  have hsi : ∀ h, g.siIdx (ix3 b d k) ⟨0, h⟩ = (ix2 b (0 : Fin 1) : S88x1.Idx) := fun h => by
    funext b; refine Fin.ext ?_
    match b with
    | ⟨0, _⟩ => rfl
    | ⟨1, _⟩ => rfl
  have ht : broadcastInDim S88x1 ![0] bcast_S88_S88x1_0 t (ix2 b (0 : Fin 1)) = t (ix1 b) := by pointwise
  have h0 : g.start (ix3 b d k) (broadcastInDim S88x1 ![0] bcast_S88_S88x1_0 t) (0 : Fin 3) = min (t (ix1 b)).toInt.toNat 15 := by
    unfold GatherDims.start
    rw [dif_pos (show (0 : Fin 3) ∈ g.startIndexMap from List.mem_singleton.mpr rfl)]
    have e := (congrArg (broadcastInDim S88x1 ![0] bcast_S88_S88x1_0 t) (hsi Nat.one_pos)).trans ht
    exact congrArg (fun w : BitVec 32 => min w.toInt.toNat 15) e
  have h1 : g.start (ix3 b d k) (broadcastInDim S88x1 ![0] bcast_S88_S88x1_0 t) (1 : Fin 3) = 0 := by
    unfold GatherDims.start
    exact dif_neg (fun h => absurd (List.mem_singleton.mp h) (by decide))
  have h2 : g.start (ix3 b d k) (broadcastInDim S88x1 ![0] bcast_S88_S88x1_0 t) (2 : Fin 3) = 0 := by
    unfold GatherDims.start
    exact dif_neg (fun h => absurd (List.mem_singleton.mp h) (by decide))
  have hb : ∀ a : Fin 3, g.batchCoord (ix3 b d k) a = 0 := fun a => GatherDims.batchCoord_eq_zero _ _ _ List.not_mem_nil
  have o0 : g.offCoord (ix3 b d k) (0 : Fin 3) = 0 :=
    GatherDims.offCoord_eq_zero _ _ _ (fun h => ((GatherDims.mem_sKept _ _).mp h).1 (List.mem_singleton.mpr rfl))
  have o1 : g.offCoord (ix3 b d k) (1 : Fin 3) = d.val := rfl
  have o2 : g.offCoord (ix3 b d k) (2 : Fin 3) = k.val := rfl
  funext a
  refine Fin.ext ?_
  match a with
  | ⟨0, _⟩ => show g.start _ _ (0 : Fin 3) + g.batchCoord _ (0 : Fin 3) + g.offCoord _ (0 : Fin 3) = min (t (ix1 b)).toInt.toNat 15; rw [h0, hb, o0]; rfl
  | ⟨1, _⟩ => show g.start _ _ (1 : Fin 3) + g.batchCoord _ (1 : Fin 3) + g.offCoord _ (1 : Fin 3) = d.val; rw [h1, hb, o1]; omega
  | ⟨2, _⟩ => show g.start _ _ (2 : Fin 3) + g.batchCoord _ (2 : Fin 3) + g.offCoord _ (2 : Fin 3) = k.val; rw [h2, hb, o2]; omega

/-- The first layer's experts out of the stack of layers. -/
theorem layer_apply (x : S4x16x1024x1024.Idx → Elt Ideal .f32) (e : Fin 16) (d k : Fin 1024) :
    shapeCast S16x1024x1024 (extractStridedSlice S1x16x1024x1024 ![0, 0, 0, 0] x slices_S4x16x1024x1024_S1x16x1024x1024_0_0_0_0)
      shapeCasts_S1x16x1024x1024_S16x1024x1024 (ix3 e d k) = x (ix4 (0 : Fin 4) e d k) := by
  pointwise

/-- A batched product at an index. -/
theorem mul_apply (L : FVec Ideal S88x512x1024 .f32) (R : FVec Ideal S88x1024x1024 .f32) (b : Fin 88) (r : Fin 512) (j : Fin 1024) :
    (Host.dotGeneral (F := Ideal) dot_S88x512x1024_S88x1024x1024_S88x512x1024_2_1_1_2_0_0 none L R : FVec Ideal S88x512x1024 .f32) (ix3 b r j)
      = ∑ k : Fin 1024, (L (ix3 b r k) : EReal) * (R (ix3 b k j) : EReal) := by
  pointwise

/-- The tokens of the used blocks, unused blocks zero, at an index. -/
theorem tokens_apply (a1 : S1.Idx → BitVec 32) (x : FVec Ideal S360448x128 .f32) (b : Fin 88) (r : Fin 512) (d : Fin 1024) :
    (select (broadcastInDim S88x512x1024 ![0, 1, 2] bcast_S88x1x1_S88x512x1024_0_1_2 (broadcastInDim S88x1x1 ![0] bcast_S88_S88x1x1_0 (cmpi .slt (iotaInDim S88 32 0) (broadcastInDim S88 ![] bcast_S_S88 (shapeCast _ a1 shapeCasts_S1_S_)))))
        (shapeCast _ x shapeCasts_S360448x128_S88x512x1024) (broadcastInDim S88x512x1024 ![] bcast_S_S88x512x1024 (id (constant S_ .f32 0x00000000#32))) : FVec Ideal S88x512x1024 .f32) (ix3 b r d)
      = if (BitVec.ofNat 32 b.val).slt (a1 (ix1 (0 : Fin 1))) = true then
          x (ix2 (⟨b.val * 4096 + r.val * 8 + d.val / 128, by omega⟩ : Fin 360448) (laneOf d)) else 0 := by
  have hz : ∀ i : S_.Idx, (id (constant (F := Ideal) S_ .f32 0x00000000#32) : FVec Ideal S_ .f32) i = 0 := fun i => by
    show constant (F := Ideal) S_ .f32 0x00000000#32 i = 0
    pointwise
  pointwise
  rw [hz]
  unfold Scalar.select IntOp.cmpi
  rcases h : (BitVec.ofNat 32 b.val).slt (a1 (ix1 0)) with _ | _
  · simp
  · simp; rfl

/-- The gate's logistic, at an index. -/
theorem gate_apply (A : FVec Ideal S88x512x1024 .f32) (i : S88x512x1024.Idx) :
    (mulf A (Host.divf (broadcastInDim S88x512x1024 ![] bcast_S_S88x512x1024 (constant S_ .f32 0x3F800000#32)) (addf (broadcastInDim S88x512x1024 ![] bcast_S_S88x512x1024 (constant S_ .f32 0x3F800000#32)) (Host.exp (Host.negf A)))) : FVec Ideal S88x512x1024 .f32) i
      = (A i : EReal) * Ideal.div 1 (1 + Ideal.exp (-A i)) := by
  pointwise

/-- The folded array, at a folded row and lane: the row's token and coordinate. -/
theorem fold_apply (A : FVec Ideal S88x512x1024 .f32) (r : Fin 360448) (l : Fin 128) :
    shapeCast S360448x128 A shapeCasts_S88x512x1024_S360448x128 (ix2 r l)
      = A (ix3 (⟨r.val / 4096, by omega⟩ : Fin 88) (⟨r.val % 4096 / 8, by omega⟩ : Fin 512) (coordOf r l)) := by
  pointwise
  refine congrArg A (congr (congr (congrArg ix3 ?_) ?_) ?_) <;> refine Fin.ext ?_ <;> simp only [coordOf] <;> omega

/-- The tokens entering the experts. -/
def tokens (a1 : S1.Idx → BitVec 32) (x : FVec Ideal S360448x128 .f32) : FVec Ideal S88x512x1024 .f32 :=
  select (broadcastInDim S88x512x1024 ![0, 1, 2] bcast_S88x1x1_S88x512x1024_0_1_2 (broadcastInDim S88x1x1 ![0] bcast_S88_S88x1x1_0 (cmpi .slt (iotaInDim S88 32 0) (broadcastInDim S88 ![] bcast_S_S88 (shapeCast _ a1 shapeCasts_S1_S_)))))
        (shapeCast _ x shapeCasts_S360448x128_S88x512x1024) (broadcastInDim S88x512x1024 ![] bcast_S_S88x512x1024 (id (constant S_ .f32 0x00000000#32)))

/-- The blocks' matrices out of a weight stack. -/
def taken (w : FVec Ideal S4x16x1024x1024 .f32) (t : S88.Idx → BitVec 32) : FVec Ideal S88x1024x1024 .f32 :=
  Host.gather gather_S16x1024x1024_S88x1_S88x1024x1024_12_0_n_n_0_1_110241024
    (shapeCast S16x1024x1024 (extractStridedSlice S1x16x1024x1024 ![0, 0, 0, 0] w slices_S4x16x1024x1024_S1x16x1024x1024_0_0_0_0) shapeCasts_S1x16x1024x1024_S16x1024x1024)
    (broadcastInDim S88x1 ![0] bcast_S88_S88x1_0 t)

/-- The batched product. -/
def prod (L : FVec Ideal S88x512x1024 .f32) (R : FVec Ideal S88x1024x1024 .f32) : FVec Ideal S88x512x1024 .f32 :=
  Host.dotGeneral (F := Ideal) dot_S88x512x1024_S88x1024x1024_S88x512x1024_2_1_1_2_0_0 none L R

/-- The gate. -/
def gate (A : FVec Ideal S88x512x1024 .f32) : FVec Ideal S88x512x1024 .f32 :=
  mulf A (Host.divf (broadcastInDim S88x512x1024 ![] bcast_S_S88x512x1024 (constant S_ .f32 0x3F800000#32)) (addf (broadcastInDim S88x512x1024 ![] bcast_S_S88x512x1024 (constant S_ .f32 0x3F800000#32)) (Host.exp (Host.negf A))))

theorem tokens_at (a1 : S1.Idx → BitVec 32) (x : FVec Ideal S360448x128 .f32) (b : Fin 88) (r : Fin 512) (d : Fin 1024) :
    tokens a1 x (ix3 b r d) = if (BitVec.ofNat 32 b.val).slt (a1 (ix1 (0 : Fin 1))) = true then
      x (ix2 (⟨b.val * 4096 + r.val * 8 + d.val / 128, by omega⟩ : Fin 360448) (laneOf d)) else 0 := tokens_apply a1 x b r d
theorem prod_apply (L : FVec Ideal S88x512x1024 .f32) (R : FVec Ideal S88x1024x1024 .f32) (b : Fin 88) (r : Fin 512) (j : Fin 1024) :
    prod L R (ix3 b r j) = ∑ k : Fin 1024, (L (ix3 b r k) : EReal) * (R (ix3 b k j) : EReal) := mul_apply L R b r j
theorem gate_at (A : FVec Ideal S88x512x1024 .f32) (i : S88x512x1024.Idx) :
    gate A i = (A i : EReal) * Ideal.div 1 (1 + Ideal.exp (-A i)) := gate_apply A i

/-- The reference's result of its arguments. -/
def refTerm (a0 : S88.Idx → BitVec 32) (a1 : S1.Idx → BitVec 32) (x : FVec Ideal S360448x128 .f32) (w1 w3 w2 : FVec Ideal S4x16x1024x1024 .f32) :
    FVec Ideal S360448x128 .f32 :=
  shapeCast S360448x128
    (prod (mulf (gate (prod (tokens a1 x) (taken w1 a0))) (prod (tokens a1 x) (taken w3 a0))) (taken w2 a0))
    shapeCasts_S88x512x1024_S360448x128

/-- A block's matrix at an entry, for a word that names an expert. -/
theorem taken_apply (w : FVec Ideal S4x16x1024x1024 .f32) (t : S88.Idx → BitVec 32) (b : Fin 88)
    (h : (t (ix1 b)).toInt.toNat = (t (ix1 b)).toNat) (d k : Fin 1024) :
    taken w t (ix3 b d k) = w (ix4 (0 : Fin 4) (expertOf (t (ix1 b))) d k) := by
  unfold taken
  rw [take_apply, layer_apply]
  simp only [h, expertOf]

/-- The reference's result at a folded row and lane. -/
theorem refTerm_apply (a0 : S88.Idx → BitVec 32) (a1 : S1.Idx → BitVec 32) (x : FVec Ideal S360448x128 .f32) (w1 w3 w2 : FVec Ideal S4x16x1024x1024 .f32)
    (h : ∀ b : Fin 88, (a0 (ix1 b)).toInt.toNat = (a0 (ix1 b)).toNat) (r : Fin 360448) (l : Fin 128) :
    refTerm a0 a1 x w1 w3 w2 (ix2 r l)
      = result (fun b => a0 (ix1 b)) (a1 (ix1 (0 : Fin 1))) (fun r l => x (ix2 r l))
          (fun n e d k => w1 (ix4 n e d k)) (fun n e d k => w3 (ix4 n e d k)) (fun n e d k => w2 (ix4 n e d k)) r l := by
  have hm : ∀ (A B : FVec Ideal S88x512x1024 .f32) i, (mulf A B : FVec Ideal S88x512x1024 .f32) i = (A i : EReal) * (B i : EReal) := fun _ _ _ => rfl
  unfold refTerm
  rw [fold_apply]
  simp only [prod_apply, hm, gate_at, tokens_at, taken_apply _ _ _ (h _)]
  unfold result
  by_cases hu : (BitVec.ofNat 32 (r.val / 4096)).slt (a1 (ix1 (0 : Fin 1))) = true
  · simp only [hu, if_true]
    have hr : ∀ d : Fin 1024, (⟨r.val / 4096 * 4096 + r.val % 4096 / 8 * 8 + d.val / 128, by omega⟩ : Fin 360448) = rowOf r d := fun d =>
      Fin.ext (by simp only [rowOf]; omega)
    simp only [hr]
    rfl
  · simp only [hu, Bool.false_eq_true, if_false, zero_mul, Finset.sum_const_zero]

open Idealize.ShloMosaic.TcCoe Idealize.SL.Sem in
/-- Every run of the reference ends with its result at that term of the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = refTerm (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ExpertsRefIdeal.Value.run (F := Ideal) m ρ

end Cert.ExpertsRefIdeal.Hand

end
-- ==== Proof.Project.lean ====
module

public import Idealize.ShloMosaic.Lib.Pointwise

@[expose] public section

noncomputable section

namespace Cert.Project

open Idealize.ShloMosaic

/-- One coordinate of a normalised token: the token over its root mean square, times the gain, scaled and shifted. -/
def normed (X G sh sc : Fin 1024 → EReal) (d : Fin 1024) : EReal :=
  X d * Ideal.rsqrt (Ideal.div (∑ k, X k * X k) (Ideal.ofBits FTy.f32 1149239296#32) + Ideal.ofBits FTy.f32 897988541#32) * G d * (1 + sc d) + sh d

/-- The modulation a row goes by: the first on the context, which opens every sequence, then the sequence's own. -/
def modOf (r : Fin 18432) : Fin 16 := if r.val % 2304 < 256 then 0 else ⟨1 + r.val / 2304, by omega⟩

/-- The place in the stream of row `r` of the sequences alone. -/
def seqRow (r : Fin 16384) : Fin 18432 := ⟨r.val / 2048 * 2304 + (256 + r.val % 2048), by omega⟩

/-- The projection of row `r` to a column with weights `w` and bias `b`. -/
def project (x : Fin 18432 → Fin 1024 → EReal) (mods : Fin 16 → Fin 6 → Fin 1024 → EReal) (g : Fin 1024 → EReal)
    (w : Fin 1024 → EReal) (b : EReal) (r : Fin 18432) : EReal :=
  (∑ d, normed (x r) g (mods (modOf r) 0) (mods (modOf r) 1) d * w d) + b

/-- One entry of the sums: the stream plus the gate times the projection. -/
def mixed (x : Fin 18432 → Fin 1024 → EReal) (y : Fin 18432 → Fin 1024 → EReal) (mods : Fin 16 → Fin 6 → Fin 1024 → EReal)
    (w : Fin 1024 → Fin 1024 → EReal) (b : Fin 1024 → EReal) (r : Fin 18432) (n : Fin 1024) : EReal :=
  x r n + mods (modOf r) 2 n * ((∑ d, y r d * w d n) + b n)

/-- One modulation of a conditioning row: the row times its logistic, projected. -/
def modulation (x w : Fin 1024 → EReal) (b : EReal) : EReal := (∑ d, x d * Ideal.div 1 (1 + Ideal.exp (-x d)) * w d) + b

/-- The places in the stream of row `q` of a sequence's whole stretch and of row `r` of the context rows alone. -/
def stretchRow (b : Fin 8) (q : Fin 2304) : Fin 18432 := ⟨b.val * 2304 + q.val, by omega⟩
def ctxRow (r : Fin 2048) : Fin 18432 := ⟨r.val / 256 * 2304 + r.val % 256, by omega⟩

/-- The convolution over three rows, which crosses neither into another sequence nor between context and sequence. -/
def shortConv (p : Fin 18432 → Fin 3072 → EReal) (w : Fin 3 → Fin 3072 → EReal) (b : Fin 3072 → EReal) (r : Fin 18432) (n : Fin 3072) : EReal :=
  (if r.val % 2304 = 0 ∨ r.val % 2304 = 256 then 0 else p ⟨r.val - 1, by omega⟩ n) * w 0 n + p r n * w 1 n
    + (if r.val % 2304 = 255 ∨ r.val % 2304 = 2303 then 0 else p ⟨(r.val + 1) % 18432, by omega⟩ n) * w 2 n + b n

/-- Column `n` of the `k`-th third. -/
def third (k : Fin 3) (n : Fin 1024) : Fin 3072 := ⟨k.val * 1024 + n.val, by omega⟩

end Cert.Project

end
-- ==== Proof.PayGated.lean ====
module

public import proofs.«01_k».proof.Proof.Gen.GatedIdeal.Skeleton
public import proofs.«01_k».proof.Proof.Project
public import Idealize.ShloMosaic.Lib.Pointwise

@[expose] public section

set_option maxRecDepth 16384

noncomputable section

namespace Cert.GatedIdeal.Hand

open Cert.GatedIdeal Cert.GatedIdeal.Gen Cert.Project
open Idealize.ShloMosaic

theorem norm_apply (x : S256x1024.Idx → Elt Ideal .f32) (g : S1x1024.Idx → Elt Ideal .f32) (sh sc : S1x1x1024.Idx → Elt Ideal .f32) (r : Fin 256) (d : Fin 1024) :
    k0_pay2 (F := Ideal) x g sh sc (ix2 r d)
      = normed (fun k => x (ix2 r k)) (fun k => g (ix2 (0 : Fin 1) k)) (fun k => sh (ix3 (0 : Fin 1) (0 : Fin 1) k)) (fun k => sc (ix3 (0 : Fin 1) (0 : Fin 1) k)) d := by
  pointwise [k0_pay2]
  rfl

theorem main_apply (x : S256x1024.Idx → Elt Ideal .f32) (g : S1x1024.Idx → Elt Ideal .f32) (sh sc : S1x1x1024.Idx → Elt Ideal .f32)
    (w : S1024x3072.Idx → Elt Ideal .bf16) (b : S1x3072.Idx → Elt Ideal .f32) (r : Fin 256) (n : Fin 3072) :
    k0_pay3 (F := Ideal) x g sh sc w b (ix2 r n) = (∑ d : Fin 1024, (k0_pay2 (F := Ideal) x g sh sc (ix2 r d) : EReal) * w (ix2 d n)) + b (ix2 (0 : Fin 1) n) := by
  unfold k0_pay3
  generalize k0_pay2 (F := Ideal) x g sh sc = H
  pointwise

theorem extra_apply (h : S256x1024.Idx → Elt Ideal .bf16)
    (w : S1024x128.Idx → Elt Ideal .bf16) (b : S1x128.Idx → Elt Ideal .f32) (r : Fin 256) (n : Fin 128) :
    k0_pay1 (F := Ideal) h w b (ix2 r n) = (∑ d : Fin 1024, (h (ix2 r d) : EReal) * w (ix2 d n)) + b (ix2 (0 : Fin 1) n) := by
  pointwise [k0_pay1]

end Cert.GatedIdeal.Hand

end
-- ==== Proof.KernelGated.lean ====
module

public import proofs.«01_k».proof.Proof.PayGated
public import proofs.«01_k».proof.Proof.Gen.GatedIdeal.Value
public import Idealize.ShloMosaic.Lib.Pipeline.ValueKit.Geometry

@[expose] public section

set_option maxRecDepth 16384

noncomputable section

namespace Cert.GatedIdeal.Hand

open Cert.GatedIdeal Cert.GatedIdeal.Gen Cert.Project
open Idealize.ShloMosaic
open Idealize.ShloMosaic.TcCoe Idealize.SL.Sem
open Idealize.ShloMosaic.Pipeline (Dat)

variable (m : (ℓ : Loc nD τ sig) → Buf (Elt Ideal) ℓ) (ρ : Dev nD → PrngReg)

/-- The arguments at launch. -/
abbrev argX (c : Dev nD) : S18432x1024.Idx → Elt Ideal .f32 := m ((c : Thread nD τ).loc main_arg0)
abbrev argM (c : Dev nD) : S16x6x1024.Idx → Elt Ideal .f32 := m ((c : Thread nD τ).loc main_arg1)
abbrev argG (c : Dev nD) : S1024.Idx → Elt Ideal .f32 := m ((c : Thread nD τ).loc main_arg2)
abbrev argW (c : Dev nD) : S1024x3200.Idx → Elt Ideal .bf16 := m ((c : Thread nD τ).loc main_arg3)
abbrev argB (c : Dev nD) : S3200.Idx → Elt Ideal .f32 := m ((c : Thread nD τ).loc main_arg4)

/-- The projection of a row to a column of all. -/
def atCol (c : Dev nD) (r : Fin 18432) (n : Fin 3200) : EReal :=
  project (fun r k => argX m c (ix2 r k)) (fun i j k => argM m c (ix3 i j k)) (fun k => argG m c (ix1 k))
    (fun k => argW m c (ix2 k n)) (argB m c (ix1 n)) r

/-- The two results. -/
def outMain (c : Dev nD) : S18432x3072.Idx → Elt Ideal .bf16 := fun y => atCol m c (y 0 : Fin 18432) ⟨(y 1 : Fin 3072).val, by have : (y 1).val < 3072 := (y 1).isLt; omega⟩
def outExtra (c : Dev nD) : S18432x128.Idx → Elt Ideal .f32 := fun y => atCol m c (y 0 : Fin 18432) ⟨3072 + (y 1 : Fin 128).val, by have : (y 1).val < 128 := (y 1).isLt; omega⟩

theorem t_lt (t : Fin cfg0.N) : t.val < 72 := t.isLt

/-- A tile's row in the stream. -/
def rowAt (t : Fin cfg0.N) (r : Fin 256) : Fin 18432 := ⟨t.val * 256 + r.val, by have := t_lt t; omega⟩

theorem index0 : ∀ t : Fin grid0.N, win0_0.index t = ![t.val, 0] := by decide +kernel
theorem index1 : ∀ t : Fin grid0.N, win0_1.index t = ![if t.val % 9 = 0 then 0 else 1 + t.val / 9, 0, 0] := by decide +kernel
theorem index5 : ∀ t : Fin grid0.N, win0_5.index t = ![t.val, 0] := by decide +kernel
theorem index6 : ∀ t : Fin grid0.N, win0_6.index t = ![t.val, 0] := by decide +kernel

/-- A tile lies wholly in the context or wholly in a sequence, so its rows share a modulation. -/
theorem modOf_rowAt (t : Fin cfg0.N) (r : Fin 256) : (modOf (rowAt t r)).val = if t.val % 9 = 0 then 0 else 1 + t.val / 9 := by
  have h := t_lt t
  unfold modOf
  show (if (t.val * 256 + r.val) % 2304 < 256 then (0 : Fin 16) else ⟨1 + (t.val * 256 + r.val) / 2304, _⟩).val = _
  split <;> split <;> first | rfl | (simp only []; omega) | (exfalso; omega)

theorem blkX (c : Dev nD) (t : Fin cfg0.N) (r : Fin 256) (k : Fin 1024) : iblk m c 0 t (ix2 r k) = argX m c (ix2 (rowAt t r) k) := by
  show V m c main_arg0 _ = _
  rw [V_main_arg0]
  refine congrArg (argX m c) (funext fun a => Fin.ext ?_)
  match a with
  | ⟨0, _⟩ =>
    have e : win0_0.index t 0 = t.val := congrFun (index0 t) 0
    show win0_0.index t 0 * 256 + 1 * r.val = t.val * 256 + r.val
    rw [e]; omega
  | ⟨1, _⟩ =>
    have e : win0_0.index t 1 = 0 := congrFun (index0 t) 1
    show win0_0.index t 1 * 1024 + 1 * k.val = k.val
    rw [e]; omega

theorem blkM (c : Dev nD) (t : Fin cfg0.N) (r : Fin 256) (j : Fin 6) (k : Fin 1024) :
    iblk m c 1 t (ix3 (0 : Fin 1) j k) = argM m c (ix3 (modOf (rowAt t r)) j k) := by
  show V m c main_arg1 _ = _
  rw [V_main_arg1]
  refine congrArg (argM m c) (funext fun a => Fin.ext ?_)
  match a with
  | ⟨0, _⟩ =>
    have e : win0_1.index t 0 = if t.val % 9 = 0 then 0 else 1 + t.val / 9 := congrFun (index1 t) 0
    show win0_1.index t 0 * 1 + 1 * 0 = (modOf (rowAt t r)).val
    rw [e, modOf_rowAt]; omega
  | ⟨1, _⟩ =>
    have e : win0_1.index t 1 = 0 := congrFun (index1 t) 1
    show win0_1.index t 1 * 6 + 1 * j.val = j.val
    rw [e]; omega
  | ⟨2, _⟩ =>
    have e : win0_1.index t 2 = 0 := congrFun (index1 t) 2
    show win0_1.index t 2 * 1024 + 1 * k.val = k.val
    rw [e]; omega

theorem V_gain (c : Dev nD) : V m c main_v0 = (shapeCast S1x1024 (argG m c) shapeCasts_S1024_S1x1024 : S1x1024.Idx → Elt Ideal .f32) := by
  unfold V hostOps0
  after_results
  rfl

theorem V_bias (c : Dev nD) : V m c main_v1 = (shapeCast S1x3200 (argB m c) shapeCasts_S3200_S1x3200 : S1x3200.Idx → Elt Ideal .f32) := by
  unfold V hostOps0
  after_results
  rfl

theorem blkG (c : Dev nD) (t : Fin cfg0.N) (k : Fin 1024) : iblk m c 2 t (ix2 (0 : Fin 1) k) = argG m c (ix1 k) := by
  show V m c main_v0 _ = _
  rw [V_gain]
  have e : ((cfg0.win 2).blk t).view.emb (ix2 (0 : Fin 1) k : S1x1024.Idx) = (ix2 (0 : Fin 1) k : S1x1024.Idx) := by
    funext a; refine Fin.ext ?_
    match a with
    | ⟨0, _⟩ => rfl
    | ⟨1, _⟩ => show 0 * 1024 + 1 * k.val = k.val; omega
  refine (congrArg (shapeCast S1x1024 (argG m c) shapeCasts_S1024_S1x1024) e).trans ?_
  pointwise

theorem blkB (c : Dev nD) (t : Fin cfg0.N) (n : Fin 3200) : iblk m c 4 t (ix2 (0 : Fin 1) n) = argB m c (ix1 n) := by
  show V m c main_v1 _ = _
  rw [V_bias]
  have e : ((cfg0.win 4).blk t).view.emb (ix2 (0 : Fin 1) n : S1x3200.Idx) = (ix2 (0 : Fin 1) n : S1x3200.Idx) := by
    funext a; refine Fin.ext ?_
    match a with
    | ⟨0, _⟩ => rfl
    | ⟨1, _⟩ => show 0 * 3200 + 1 * n.val = n.val; omega
  refine (congrArg (shapeCast S1x3200 (argB m c) shapeCasts_S3200_S1x3200) e).trans ?_
  pointwise

theorem blkW (c : Dev nD) (t : Fin cfg0.N) (k : Fin 1024) (n : Fin 3200) : iblk m c 3 t (ix2 k n) = argW m c (ix2 k n) := by
  show V m c main_arg3 _ = _
  rw [V_main_arg3]
  refine congrArg (argW m c) (funext fun a => Fin.ext ?_)
  match a with
  | ⟨0, _⟩ => show 0 * 1024 + 1 * k.val = k.val; omega
  | ⟨1, _⟩ => show 0 * 3200 + 1 * n.val = n.val; omega

/-- The normalised rows of a tile. -/
theorem tile_norm (c : Dev nD) (t : Fin cfg0.N) (r : Fin 256) (d : Fin 1024) :
    k0_pay2 (F := Ideal) (View.ld (iblk m c 0 t) r0_0) (View.ld (iblk m c 2 t) r0_1) (View.ld (iblk m c 1 t) r0_2) (View.ld (iblk m c 1 t) r0_3) (ix2 r d)
      = normed (fun k => argX m c (ix2 (rowAt t r) k)) (fun k => argG m c (ix1 k)) (fun k => argM m c (ix3 (modOf (rowAt t r)) (0 : Fin 6) k))
          (fun k => argM m c (ix3 (modOf (rowAt t r)) (1 : Fin 6) k)) d := by
  rw [norm_apply]
  have e0 : ∀ k : Fin 1024, (View.ld (iblk m c 0 t) r0_0 : S256x1024.Idx → Elt Ideal .f32) (ix2 r k) = argX m c (ix2 (rowAt t r) k) := fun k =>
    (congrArg (iblk m c 0 t) (funext fun a => by
      match a with
      | ⟨0, _⟩ => exact Fin.ext (by show 0 + 1 * r.val = r.val; omega)
      | ⟨1, _⟩ => exact Fin.ext (by show 0 + 1 * k.val = k.val; omega))).trans (blkX m c t r k)
  have e1 : ∀ k : Fin 1024, (View.ld (iblk m c 2 t) r0_1 : S1x1024.Idx → Elt Ideal .f32) (ix2 (0 : Fin 1) k) = argG m c (ix1 k) := fun k =>
    (congrArg (iblk m c 2 t) (funext fun a => by
      match a with
      | ⟨0, _⟩ => rfl
      | ⟨1, _⟩ => exact Fin.ext (by show 0 + 1 * k.val = k.val; omega))).trans (blkG m c t k)
  have e2 : ∀ k : Fin 1024, (View.ld (iblk m c 1 t) r0_2 : S1x1x1024.Idx → Elt Ideal .f32) (ix3 (0 : Fin 1) (0 : Fin 1) k) = argM m c (ix3 (modOf (rowAt t r)) (0 : Fin 6) k) := fun k =>
    (congrArg (iblk m c 1 t) (funext fun a => by
      match a with
      | ⟨0, _⟩ => rfl
      | ⟨1, _⟩ => rfl
      | ⟨2, _⟩ => exact Fin.ext (by show 0 + 1 * k.val = k.val; omega))).trans (blkM m c t r 0 k)
  have e3 : ∀ k : Fin 1024, (View.ld (iblk m c 1 t) r0_3 : S1x1x1024.Idx → Elt Ideal .f32) (ix3 (0 : Fin 1) (0 : Fin 1) k) = argM m c (ix3 (modOf (rowAt t r)) (1 : Fin 6) k) := fun k =>
    (congrArg (iblk m c 1 t) (funext fun a => by
      match a with
      | ⟨0, _⟩ => rfl
      | ⟨1, _⟩ => rfl
      | ⟨2, _⟩ => exact Fin.ext (by show 0 + 1 * k.val = k.val; omega))).trans (blkM m c t r 1 k)
  simp only [e0, e1, e2, e3]

/-- What a point leaves in its main tile. -/
theorem tile_main (c : Dev nD) (t : Fin cfg0.N) (r : Fin 256) (n : Fin 3072) :
    out0_5 (iblk m c 0 t) (iblk m c 1 t) (iblk m c 2 t) (iblk m c 3 t) (iblk m c 4 t) (ix2 r n) = outMain m c (ix2 (rowAt t r) n) := by
  unfold out0_5
  rw [View.canon_unit_zero (funext fun a => by match a with | ⟨0, _⟩ => rfl | ⟨1, _⟩ => rfl), main_apply]
  show _ = atCol m c (rowAt t r) ⟨n.val, _⟩
  unfold atCol project
  refine congr (congrArg HAdd.hAdd (Finset.sum_congr rfl fun d _ => congr (congrArg HMul.hMul (tile_norm m c t r d)) ?_)) ?_
  · exact (congrArg (iblk m c 3 t) (funext fun a => by
      match a with
      | ⟨0, _⟩ => exact Fin.ext (by show 0 + 1 * d.val = d.val; omega)
      | ⟨1, _⟩ => exact Fin.ext (by show 0 + 1 * n.val = n.val; omega))).trans (blkW m c t d ⟨n.val, by omega⟩)
  · exact (congrArg (iblk m c 4 t) (funext fun a => by
      match a with
      | ⟨0, _⟩ => rfl
      | ⟨1, _⟩ => exact Fin.ext (by show 0 + 1 * n.val = n.val; omega))).trans (blkB m c t ⟨n.val, by omega⟩)

/-- What it leaves in its tile of extra columns. -/
theorem tile_extra (c : Dev nD) (t : Fin cfg0.N) (r : Fin 256) (n : Fin 128) :
    out0_6 (iblk m c 0 t) (iblk m c 1 t) (iblk m c 2 t) (iblk m c 3 t) (iblk m c 4 t) (ix2 r n) = outExtra m c (ix2 (rowAt t r) n) := by
  unfold out0_6
  rw [View.canon_unit_zero (funext fun a => by match a with | ⟨0, _⟩ => rfl | ⟨1, _⟩ => rfl), extra_apply]
  show _ = atCol m c (rowAt t r) ⟨3072 + n.val, _⟩
  unfold atCol project
  refine congr (congrArg HAdd.hAdd (Finset.sum_congr rfl fun d _ => congr (congrArg HMul.hMul (tile_norm m c t r d)) ?_)) ?_
  · exact (congrArg (iblk m c 3 t) (funext fun a => by
      match a with
      | ⟨0, _⟩ => exact Fin.ext (by show 0 + 1 * d.val = d.val; omega)
      | ⟨1, _⟩ => exact Fin.ext (by show 3072 + 1 * n.val = 3072 + n.val; omega))).trans (blkW m c t d ⟨3072 + n.val, by omega⟩)
  · exact (congrArg (iblk m c 4 t) (funext fun a => by
      match a with
      | ⟨0, _⟩ => rfl
      | ⟨1, _⟩ => exact Fin.ext (by show 3072 + 1 * n.val = 3072 + n.val; omega))).trans (blkB m c t ⟨3072 + n.val, by omega⟩)

/-- The main array ends at the main columns. -/
theorem arr_main (c : Dev nD) : (dats m 0 c).arrAt 5 cfg0.N = outMain m c := by
  refine (dats m 0 c).arrAt_eq_of_covers 5 _ (by decide +kernel) fun t hf y => ?_
  show (dats m 0 c).after 5 t y = outMain m c _
  rw [after0_5]
  obtain ⟨r, n, rfl⟩ : ∃ (r : Fin 256) (n : Fin 3072), y = ix2 r n := ⟨y 0, y 1, eq_ix2 y⟩
  refine (tile_main m c t r n).trans (congrArg (outMain m c) (funext fun a => Fin.ext ?_))
  match a with
  | ⟨0, _⟩ =>
    have e : win0_5.index t 0 = t.val := congrFun (index5 t) 0
    show t.val * 256 + r.val = win0_5.index t 0 * 256 + 1 * r.val
    rw [e]; omega
  | ⟨1, _⟩ =>
    have e : win0_5.index t 1 = 0 := congrFun (index5 t) 1
    show n.val = win0_5.index t 1 * 3072 + 1 * n.val
    rw [e]; omega

/-- The other array ends at the extra columns. -/
theorem arr_extra (c : Dev nD) : (dats m 0 c).arrAt 6 cfg0.N = outExtra m c := by
  refine (dats m 0 c).arrAt_eq_of_covers 6 _ (by decide +kernel) fun t hf y => ?_
  show (dats m 0 c).after 6 t y = outExtra m c _
  rw [after0_6]
  obtain ⟨r, n, rfl⟩ : ∃ (r : Fin 256) (n : Fin 128), y = ix2 r n := ⟨y 0, y 1, eq_ix2 y⟩
  refine (tile_extra m c t r n).trans (congrArg (outExtra m c) (funext fun a => Fin.ext ?_))
  match a with
  | ⟨0, _⟩ =>
    have e : win0_6.index t 0 = t.val := congrFun (index6 t) 0
    show t.val * 256 + r.val = win0_6.index t 0 * 256 + 1 * r.val
    rw [e]; omega
  | ⟨1, _⟩ =>
    have e : win0_6.index t 1 = 0 := congrFun (index6 t) 1
    show n.val = win0_6.index t 1 * 128 + 1 * n.val
    rw [e]; omega

end Cert.GatedIdeal.Hand

end
-- ==== Proof.KernelPlain.lean ====
module

public import proofs.«01_k».proof.Proof.PayGated
public import proofs.«01_k».proof.Proof.Gen.PlainIdeal.Value
public import Idealize.ShloMosaic.Lib.Pipeline.ValueKit.Geometry

@[expose] public section

set_option maxRecDepth 16384

noncomputable section

namespace Cert.PlainIdeal.Hand

open Cert.PlainIdeal Cert.PlainIdeal.Gen Cert.Project
open Idealize.ShloMosaic
open Idealize.ShloMosaic.TcCoe Idealize.SL.Sem
open Idealize.ShloMosaic.Pipeline (Dat)

variable (m : (ℓ : Loc nD τ sig) → Buf (Elt Ideal) ℓ) (ρ : Dev nD → PrngReg)

/-- The arguments at launch. -/
abbrev argX (c : Dev nD) : S18432x1024.Idx → Elt Ideal .f32 := m ((c : Thread nD τ).loc main_arg0)
abbrev argM (c : Dev nD) : S16x6x1024.Idx → Elt Ideal .f32 := m ((c : Thread nD τ).loc main_arg1)
abbrev argG (c : Dev nD) : S1024.Idx → Elt Ideal .f32 := m ((c : Thread nD τ).loc main_arg2)
abbrev argW (c : Dev nD) : S1024x3072.Idx → Elt Ideal .bf16 := m ((c : Thread nD τ).loc main_arg3)
abbrev argB (c : Dev nD) : S3072.Idx → Elt Ideal .f32 := m ((c : Thread nD τ).loc main_arg4)

/-- The projection of a row to a column. -/
def atCol (c : Dev nD) (r : Fin 18432) (n : Fin 3072) : EReal :=
  project (fun r k => argX m c (ix2 r k)) (fun i j k => argM m c (ix3 i j k)) (fun k => argG m c (ix1 k))
    (fun k => argW m c (ix2 k n)) (argB m c (ix1 n)) r

/-- The result. -/
def out (c : Dev nD) : S18432x3072.Idx → Elt Ideal .bf16 := fun y => atCol m c (y 0 : Fin 18432) (y 1 : Fin 3072)

/-- The body's payload is that of the projection with extra columns, on its main columns. -/
theorem pay_eq : @k0_pay1 Ideal _ = @Cert.GatedIdeal.Gen.k0_pay3 Ideal _ := rfl

theorem t_lt (t : Fin cfg0.N) : t.val < 72 := t.isLt

/-- A tile's row in the stream. -/
def rowAt (t : Fin cfg0.N) (r : Fin 256) : Fin 18432 := ⟨t.val * 256 + r.val, by have := t_lt t; omega⟩

theorem index0 : ∀ t : Fin grid0.N, win0_0.index t = ![t.val, 0] := by decide +kernel
theorem index1 : ∀ t : Fin grid0.N, win0_1.index t = ![if t.val % 9 = 0 then 0 else 1 + t.val / 9, 0, 0] := by decide +kernel
theorem index5 : ∀ t : Fin grid0.N, win0_5.index t = ![t.val, 0] := by decide +kernel

/-- A tile lies wholly in the context or wholly in a sequence, so its rows share a modulation. -/
theorem modOf_rowAt (t : Fin cfg0.N) (r : Fin 256) : (modOf (rowAt t r)).val = if t.val % 9 = 0 then 0 else 1 + t.val / 9 := by
  have h := t_lt t
  unfold modOf
  show (if (t.val * 256 + r.val) % 2304 < 256 then (0 : Fin 16) else ⟨1 + (t.val * 256 + r.val) / 2304, _⟩).val = _
  split <;> split <;> first | rfl | (simp only []; omega) | (exfalso; omega)

theorem blkX (c : Dev nD) (t : Fin cfg0.N) (r : Fin 256) (k : Fin 1024) : iblk m c 0 t (ix2 r k) = argX m c (ix2 (rowAt t r) k) := by
  show V m c main_arg0 _ = _
  rw [V_main_arg0]
  refine congrArg (argX m c) (funext fun a => Fin.ext ?_)
  match a with
  | ⟨0, _⟩ =>
    have e : win0_0.index t 0 = t.val := congrFun (index0 t) 0
    show win0_0.index t 0 * 256 + 1 * r.val = t.val * 256 + r.val
    rw [e]; omega
  | ⟨1, _⟩ =>
    have e : win0_0.index t 1 = 0 := congrFun (index0 t) 1
    show win0_0.index t 1 * 1024 + 1 * k.val = k.val
    rw [e]; omega

theorem blkM (c : Dev nD) (t : Fin cfg0.N) (r : Fin 256) (j : Fin 6) (k : Fin 1024) :
    iblk m c 1 t (ix3 (0 : Fin 1) j k) = argM m c (ix3 (modOf (rowAt t r)) j k) := by
  show V m c main_arg1 _ = _
  rw [V_main_arg1]
  refine congrArg (argM m c) (funext fun a => Fin.ext ?_)
  match a with
  | ⟨0, _⟩ =>
    have e : win0_1.index t 0 = if t.val % 9 = 0 then 0 else 1 + t.val / 9 := congrFun (index1 t) 0
    show win0_1.index t 0 * 1 + 1 * 0 = (modOf (rowAt t r)).val
    rw [e, modOf_rowAt]; omega
  | ⟨1, _⟩ =>
    have e : win0_1.index t 1 = 0 := congrFun (index1 t) 1
    show win0_1.index t 1 * 6 + 1 * j.val = j.val
    rw [e]; omega
  | ⟨2, _⟩ =>
    have e : win0_1.index t 2 = 0 := congrFun (index1 t) 2
    show win0_1.index t 2 * 1024 + 1 * k.val = k.val
    rw [e]; omega

theorem V_gain (c : Dev nD) : V m c main_v0 = (shapeCast S1x1024 (argG m c) shapeCasts_S1024_S1x1024 : S1x1024.Idx → Elt Ideal .f32) := by
  unfold V hostOps0
  after_results
  rfl

theorem V_bias (c : Dev nD) : V m c main_v1 = (shapeCast S1x3072 (argB m c) shapeCasts_S3072_S1x3072 : S1x3072.Idx → Elt Ideal .f32) := by
  unfold V hostOps0
  after_results
  rfl

theorem blkG (c : Dev nD) (t : Fin cfg0.N) (k : Fin 1024) : iblk m c 2 t (ix2 (0 : Fin 1) k) = argG m c (ix1 k) := by
  show V m c main_v0 _ = _
  rw [V_gain]
  have e : ((cfg0.win 2).blk t).view.emb (ix2 (0 : Fin 1) k : S1x1024.Idx) = (ix2 (0 : Fin 1) k : S1x1024.Idx) := by
    funext a; refine Fin.ext ?_
    match a with
    | ⟨0, _⟩ => rfl
    | ⟨1, _⟩ => show 0 * 1024 + 1 * k.val = k.val; omega
  refine (congrArg (shapeCast S1x1024 (argG m c) shapeCasts_S1024_S1x1024) e).trans ?_
  pointwise

theorem blkB (c : Dev nD) (t : Fin cfg0.N) (n : Fin 3072) : iblk m c 4 t (ix2 (0 : Fin 1) n) = argB m c (ix1 n) := by
  show V m c main_v1 _ = _
  rw [V_bias]
  have e : ((cfg0.win 4).blk t).view.emb (ix2 (0 : Fin 1) n : S1x3072.Idx) = (ix2 (0 : Fin 1) n : S1x3072.Idx) := by
    funext a; refine Fin.ext ?_
    match a with
    | ⟨0, _⟩ => rfl
    | ⟨1, _⟩ => show 0 * 3072 + 1 * n.val = n.val; omega
  refine (congrArg (shapeCast S1x3072 (argB m c) shapeCasts_S3072_S1x3072) e).trans ?_
  pointwise

theorem blkW (c : Dev nD) (t : Fin cfg0.N) (k : Fin 1024) (n : Fin 3072) : iblk m c 3 t (ix2 k n) = argW m c (ix2 k n) := by
  show V m c main_arg3 _ = _
  rw [V_main_arg3]
  refine congrArg (argW m c) (funext fun a => Fin.ext ?_)
  match a with
  | ⟨0, _⟩ => show 0 * 1024 + 1 * k.val = k.val; omega
  | ⟨1, _⟩ => show 0 * 3072 + 1 * n.val = n.val; omega

/-- The normalised rows of a tile. -/
theorem tile_norm (c : Dev nD) (t : Fin cfg0.N) (r : Fin 256) (d : Fin 1024) :
    Cert.GatedIdeal.Gen.k0_pay2 (F := Ideal) (View.ld (iblk m c 0 t) r0_0) (View.ld (iblk m c 2 t) r0_1) (View.ld (iblk m c 1 t) r0_2) (View.ld (iblk m c 1 t) r0_3) (ix2 r d)
      = normed (fun k => argX m c (ix2 (rowAt t r) k)) (fun k => argG m c (ix1 k)) (fun k => argM m c (ix3 (modOf (rowAt t r)) (0 : Fin 6) k))
          (fun k => argM m c (ix3 (modOf (rowAt t r)) (1 : Fin 6) k)) d := by
  rw [Cert.GatedIdeal.Hand.norm_apply]
  have e0 : ∀ k : Fin 1024, (View.ld (iblk m c 0 t) r0_0 : S256x1024.Idx → Elt Ideal .f32) (ix2 r k) = argX m c (ix2 (rowAt t r) k) := fun k =>
    (congrArg (iblk m c 0 t) (funext fun a => by
      match a with
      | ⟨0, _⟩ => exact Fin.ext (by show 0 + 1 * r.val = r.val; omega)
      | ⟨1, _⟩ => exact Fin.ext (by show 0 + 1 * k.val = k.val; omega))).trans (blkX m c t r k)
  have e1 : ∀ k : Fin 1024, (View.ld (iblk m c 2 t) r0_1 : S1x1024.Idx → Elt Ideal .f32) (ix2 (0 : Fin 1) k) = argG m c (ix1 k) := fun k =>
    (congrArg (iblk m c 2 t) (funext fun a => by
      match a with
      | ⟨0, _⟩ => rfl
      | ⟨1, _⟩ => exact Fin.ext (by show 0 + 1 * k.val = k.val; omega))).trans (blkG m c t k)
  have e2 : ∀ k : Fin 1024, (View.ld (iblk m c 1 t) r0_2 : S1x1x1024.Idx → Elt Ideal .f32) (ix3 (0 : Fin 1) (0 : Fin 1) k) = argM m c (ix3 (modOf (rowAt t r)) (0 : Fin 6) k) := fun k =>
    (congrArg (iblk m c 1 t) (funext fun a => by
      match a with
      | ⟨0, _⟩ => rfl
      | ⟨1, _⟩ => rfl
      | ⟨2, _⟩ => exact Fin.ext (by show 0 + 1 * k.val = k.val; omega))).trans (blkM m c t r 0 k)
  have e3 : ∀ k : Fin 1024, (View.ld (iblk m c 1 t) r0_3 : S1x1x1024.Idx → Elt Ideal .f32) (ix3 (0 : Fin 1) (0 : Fin 1) k) = argM m c (ix3 (modOf (rowAt t r)) (1 : Fin 6) k) := fun k =>
    (congrArg (iblk m c 1 t) (funext fun a => by
      match a with
      | ⟨0, _⟩ => rfl
      | ⟨1, _⟩ => rfl
      | ⟨2, _⟩ => exact Fin.ext (by show 0 + 1 * k.val = k.val; omega))).trans (blkM m c t r 1 k)
  simp only [e0, e1, e2, e3]

/-- What a point leaves in its tile. -/
theorem tile_out (c : Dev nD) (t : Fin cfg0.N) (r : Fin 256) (n : Fin 3072) :
    out0_5 (iblk m c 0 t) (iblk m c 1 t) (iblk m c 2 t) (iblk m c 3 t) (iblk m c 4 t) (ix2 r n) = out m c (ix2 (rowAt t r) n) := by
  unfold out0_5
  rw [View.canon_unit_zero (funext fun a => by match a with | ⟨0, _⟩ => rfl | ⟨1, _⟩ => rfl), pay_eq, Cert.GatedIdeal.Hand.main_apply]
  show _ = atCol m c (rowAt t r) n
  unfold atCol project
  refine congr (congrArg HAdd.hAdd (Finset.sum_congr rfl fun d _ => congr (congrArg HMul.hMul (tile_norm m c t r d)) ?_)) ?_
  · exact (congrArg (iblk m c 3 t) (funext fun a => by
      match a with
      | ⟨0, _⟩ => exact Fin.ext (by show 0 + 1 * d.val = d.val; omega)
      | ⟨1, _⟩ => exact Fin.ext (by show 0 + 1 * n.val = n.val; omega))).trans (blkW m c t d n)
  · exact (congrArg (iblk m c 4 t) (funext fun a => by
      match a with
      | ⟨0, _⟩ => rfl
      | ⟨1, _⟩ => exact Fin.ext (by show 0 + 1 * n.val = n.val; omega))).trans (blkB m c t n)

/-- The array ends at the projection. -/
theorem arr_out (c : Dev nD) : (dats m 0 c).arrAt 5 cfg0.N = out m c := by
  refine (dats m 0 c).arrAt_eq_of_covers 5 _ (by decide +kernel) fun t hf y => ?_
  show (dats m 0 c).after 5 t y = out m c _
  rw [after0_5]
  obtain ⟨r, n, rfl⟩ : ∃ (r : Fin 256) (n : Fin 3072), y = ix2 r n := ⟨y 0, y 1, eq_ix2 y⟩
  refine (tile_out m c t r n).trans (congrArg (out m c) (funext fun a => Fin.ext ?_))
  match a with
  | ⟨0, _⟩ =>
    have e : win0_5.index t 0 = t.val := congrFun (index5 t) 0
    show t.val * 256 + r.val = win0_5.index t 0 * 256 + 1 * r.val
    rw [e]; omega
  | ⟨1, _⟩ =>
    have e : win0_5.index t 1 = 0 := congrFun (index5 t) 1
    show n.val = win0_5.index t 1 * 3072 + 1 * n.val
    rw [e]; omega

end Cert.PlainIdeal.Hand

end
-- ==== Proof.FrameRoute.lean ====
module

public import proofs.«01_k».proof.Proof.RunRoute
public import Idealize.ShloMosaic.Lib.Pipeline.TableIdle

@[expose] public section

set_option maxRecDepth 16384
set_option Elab.async false

noncomputable section

namespace Cert.Route.Hand

open Cert.Route Cert.Route.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write four arrays and no other. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by assumption)))
theorem V_main_arg0 (c : Dev nD) : V m c main_arg0 = m ((c : Thread nD τ).loc main_arg0) :=
  V_of_ne m c main_arg0 (by decide) (by decide) (by decide) (by decide)
theorem V_main_arg1 (c : Dev nD) : V m c main_arg1 = m ((c : Thread nD τ).loc main_arg1) :=
  V_of_ne m c main_arg1 (by decide) (by decide) (by decide) (by decide)
theorem V_main_arg2 (c : Dev nD) : V m c main_arg2 = m ((c : Thread nD τ).loc main_arg2) :=
  V_of_ne m c main_arg2 (by decide) (by decide) (by decide) (by decide)
theorem V_main_arg3 (c : Dev nD) : V m c main_arg3 = m ((c : Thread nD τ).loc main_arg3) :=
  V_of_ne m c main_arg3 (by decide) (by decide) (by decide) (by decide)
theorem V_main_arg4 (c : Dev nD) : V m c main_arg4 = m ((c : Thread nD τ).loc main_arg4) :=
  V_of_ne m c main_arg4 (by decide) (by decide) (by decide) (by decide)
theorem V_main_arg5 (c : Dev nD) : V m c main_arg5 = m ((c : Thread nD τ).loc main_arg5) :=
  V_of_ne m c main_arg5 (by decide) (by decide) (by decide) (by decide)
theorem V_main_arg6 (c : Dev nD) : V m c main_arg6 = m ((c : Thread nD τ).loc main_arg6) :=
  V_of_ne m c main_arg6 (by decide) (by decide) (by decide) (by decide)
theorem V_main_arg7 (c : Dev nD) : V m c main_arg7 = m ((c : Thread nD τ).loc main_arg7) :=
  V_of_ne m c main_arg7 (by decide) (by decide) (by decide) (by decide)

set_option maxHeartbeats 8000000 in
/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
abbrev st0_13 (t : Fin cfg0.N) := (cfg0.win 13).stage (cfg0.slots t 13)
abbrev st0_14 (t : Fin cfg0.N) := (cfg0.win 14).stage (cfg0.slots t 14)
abbrev st0_15 (t : Fin cfg0.N) := (cfg0.win 15).stage (cfg0.slots t 15)
abbrev st0_16 (t : Fin cfg0.N) := (cfg0.win 16).stage (cfg0.slots t 16)
abbrev st0_17 (t : Fin cfg0.N) := (cfg0.win 17).stage (cfg0.slots t 17)
abbrev st0_18 (t : Fin cfg0.N) := (cfg0.win 18).stage (cfg0.slots t 18)
abbrev st0_19 (t : Fin cfg0.N) := (cfg0.win 19).stage (cfg0.slots t 19)

set_option maxHeartbeats 8000000 in
/-- The body at point `t`, on what the pipeline calls it with. -/
abbrev bodyAt0 (t : Fin cfg0.N) : Prog (TpuEff nD τ sig (Elt F) Λ₀ .tc) PUnit :=
  cc0_out_route (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) scR (Memref.isWhole_whole _)

/-- The windows nothing is said of. -/
def forgets0 : Fin 20 → Bool := fun w => decide (14 ≤ w.val)

/-- The proof data: the arrays as the kernel finds them, what the body leaves in each window, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨n + 20, h⟩ => absurd (show n + 20 < 20 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare (d))
    ∗ (∃ d, owns (c : Thread nD τ) (st0_15 t) fullShare (d))
    ∗ (∃ d, owns (c : Thread nD τ) (st0_16 t) fullShare (d))
    ∗ (∃ d, owns (c : Thread nD τ) (st0_17 t) fullShare (d))
    ∗ (∃ d, owns (c : Thread nD τ) (st0_18 t) fullShare (d))
    ∗ (∃ d, owns (c : Thread nD τ) (st0_19 t) fullShare (d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (∃ d, owns (c : Thread nD τ) (st0_14 t) fullShare (d))
    ∗ (∃ d, owns (c : Thread nD τ) (st0_15 t) fullShare (d))
    ∗ (∃ d, owns (c : Thread nD τ) (st0_16 t) fullShare (d))
    ∗ (∃ d, owns (c : Thread nD τ) (st0_17 t) fullShare (d))
    ∗ (∃ d, owns (c : Thread nD τ) (st0_18 t) fullShare (d))
    ∗ (∃ d, owns (c : Thread nD τ) (st0_19 t) fullShare (d)))

/-- The body's own invariant: the running counts at some contents, the generator register. -/
theorem phi_eq (c : Dev nD) (t) : (dats m 0 c).Φ t = (iprop((∃ f : Buf (Elt F) ((c : Thread nD τ).loc cc0_scratch0), ((c : Thread nD τ).loc cc0_scratch0) ↦{fullShare} f) ∗ ∃ r, prngReg c r) : sProp 𝕄) := by
  rw [show (dats m 0 c).Φ t = Pipeline.ΦA spec0 c from rfl]
  unfold Pipeline.ΦA
  rw [scopedRest0_eq]

set_option maxHeartbeats 4000000 in
theorem body_on (c : Dev nD) (t : Fin cfg0.N) (hc : ¬(condZ (grid0.coords t) = 1#1)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, after0_12, after0_13]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runOn c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc).2.2 (fun _ => fullShare) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS⟩
  isplitl [HS Hg]
  · isplitl [HS]; · iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]
  · unfold owns; iexists _, _; isplitr; swap
    · iexact H14
    · ipureintro; rfl
  isplitl [H15]
  · unfold owns; iexists _, _; isplitr; swap
    · iexact H15
    · ipureintro; rfl
  isplitl [H16]
  · unfold owns; iexists _, _; isplitr; swap
    · iexact H16
    · ipureintro; rfl
  isplitl [H17]
  · unfold owns; iexists _, _; isplitr; swap
    · iexact H17
    · ipureintro; rfl
  isplitl [H18]
  · unfold owns; iexists _, _; isplitr; swap
    · iexact H18
    · ipureintro; rfl
  unfold owns; iexists _, _; isplitr; swap
  · iexact H19
  · ipureintro; rfl

set_option maxHeartbeats 4000000 in
theorem body_first (c : Dev nD) (t : Fin cfg0.N) (h1 : condZ (grid0.coords t) = 1#1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, after0_12, after0_13]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runFirst c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h1).2.2 (fun _ => fullShare) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS⟩
  isplitl [HS Hg]
  · isplitl [HS]; · iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]
  · unfold owns; iexists _, _; isplitr; swap
    · iexact H14
    · ipureintro; rfl
  isplitl [H15]
  · unfold owns; iexists _, _; isplitr; swap
    · iexact H15
    · ipureintro; rfl
  isplitl [H16]
  · unfold owns; iexists _, _; isplitr; swap
    · iexact H16
    · ipureintro; rfl
  isplitl [H17]
  · unfold owns; iexists _, _; isplitr; swap
    · iexact H17
    · ipureintro; rfl
  isplitl [H18]
  · unfold owns; iexists _, _; isplitr; swap
    · iexact H18
    · ipureintro; rfl
  unfold owns; iexists _, _; isplitr; swap
  · iexact H19
  · ipureintro; rfl

theorem sound_body (c : Dev nD) (t : Fin cfg0.N) :
    bodyPre m c t ⊢ wp frame (wpE (defs₀ (F := F)) Variants.none c none) Set.univ (bodyAt0 t) (fun _ => bodyPost m c t) := by
  by_cases h : condZ (grid0.coords t) = 1#1
  · exact body_first m c t h
  · exact body_on m c t h

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every weakly fair execution terminates, the arrays named at their computed contents and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m}

/-- The argument arrays end unchanged. -/
theorem args_of {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
    (h.arr_in c 4 rfl).trans ((A_eq m c 4).trans (V_main_arg1 m c)),
    (h.arr_in c 8 rfl).trans ((A_eq m c 8).trans (V_main_arg2 m c)),
    (h.arr_in c 9 rfl).trans ((A_eq m c 9).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 12 rfl).trans ((A_eq m c 12).trans (V_main_arg6 m c)),
    ((h c).2 main_arg7 (Pipeline.mem_restRefs_of main_arg7 (by decide) (by decide))).trans (V_main_arg7 m c)⟩

variable (m)

/-- The frame: execution terminates, faults nowhere, leaves the arguments and every counter as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_of h.1 c, h.2⟩) (run_main m ρ)

end Cert.Route.Hand

end
-- ==== Proof.RunRouteIdeal.lean ====
module

public import proofs.«01_k».proof.Proof.Gen.RouteIdeal
public import proofs.«01_k».proof.Proof.Gen.RouteIdeal.Skeleton
public import proofs.«01_k».proof.Proof.Gen.RouteIdeal.Launch
public import Idealize.ShloMosaic.Lib.Pipeline.Frame
public import Idealize.ShloMosaic.Lib.Pipeline.FrameBody
public import Idealize.ShloMosaic.Lib.Claim
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.RouteIdeal.Hand

open Cert.RouteIdeal Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The running counts of tokens per expert, carried from point to point. -/
abbrev scR : Memref sig .tc .vmem S16x128 .f32 := Memref.whole cc0_scratch0

/-- The test under which the body starts the running counts at nought. -/
abbrev condZ (i : grid0.Coords) : BitVec 1 :=
  Scalar.cmpi .ne (Scalar.extui (Scalar.cmpi .eq (BitVec.ofNat 32 (i 0).val) 0#32)) 0#32

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .bf16) (harg5 : arg5.IsWhole) (arg6 : Memref sig .tc .vmem S256x1024 .bf16) (harg6 : arg6.IsWhole)
    (arg7 : Memref sig .tc .vmem S256x1024 .bf16) (harg7 : arg7.IsWhole) (arg8 : Memref sig .tc .vmem S256x1024 .bf16) (harg8 : arg8.IsWhole) (arg9 : Memref sig .tc .vmem S16x6x1024 .f32) (harg9 : arg9.IsWhole)
    (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole)
    (arg13 : Memref sig .tc .vmem S16x1024 .f32) (harg13 : arg13.IsWhole) (arg14 : Memref sig .tc .vmem S16x128 .f32) (harg14 : arg14.IsWhole) (arg15 : Memref sig .tc .vmem S1024x1024 .f32) (harg15 : arg15.IsWhole)
    (arg16 : Memref sig .tc .vmem S8192x128 .f32) (harg16 : arg16.IsWhole) (arg17 : Memref sig .tc .vmem S2x1024 .i32) (harg17 : arg17.IsWhole) (arg18 : Memref sig .tc .vmem S2x1024 .f32) (harg18 : arg18.IsWhole)
    (arg19 : Memref sig .tc .vmem S2x1024 .i32) (harg19 : arg19.IsWhole) (arg20 : Memref sig .tc .vmem S16x128 .i32) (harg20 : arg20.IsWhole) (x1 : S256x1024.Idx → Elt F .f32) (x2 : S256x1024.Idx → Elt F .f32) (x3 : S256x1024.Idx → Elt F .f32) (x4 : S256x1024.Idx → Elt F .f32) (x5 : S256x1024.Idx → Elt F .bf16)
    (x6 : S256x1024.Idx → Elt F .bf16) (x7 : S256x1024.Idx → Elt F .bf16) (x8 : S256x1024.Idx → Elt F .bf16) (x9 : S16x6x1024.Idx → Elt F .f32) (x10 : S1024x1024.Idx → Elt F .bf16)
    (x11 : S1x1024.Idx → Elt F .f32) (x12 : S1x1024.Idx → Elt F .f32) (x13 : S16x1024.Idx → Elt F .f32) (x14 : S16x128.Idx → Elt F .f32)

/-- What a run of the body proves: it leaves its inputs, and of the first two results what the pieces `xo` and `h` write. -/
abbrev Leaves (xo : List (View.Piece (Elt F) S1024x1024 .f32)) (h : List (View.Piece (Elt F) S8192x128 .f32)) : Prop :=
      ∀ (q : Fin 14 → PosShare TreeShare) (K : PUnit → sProp 𝕄),
        iprop((arg1.view.loc (c : Thread nD τ) ↦[arg1.view.set]{q 0} arg1.view.rep x1)
          ∗ (arg2.view.loc (c : Thread nD τ) ↦[arg2.view.set]{q 1} arg2.view.rep x2)
          ∗ (arg3.view.loc (c : Thread nD τ) ↦[arg3.view.set]{q 2} arg3.view.rep x3)
          ∗ (arg4.view.loc (c : Thread nD τ) ↦[arg4.view.set]{q 3} arg4.view.rep x4)
          ∗ (arg5.view.loc (c : Thread nD τ) ↦[arg5.view.set]{q 4} arg5.view.rep x5)
          ∗ (arg6.view.loc (c : Thread nD τ) ↦[arg6.view.set]{q 5} arg6.view.rep x6)
          ∗ (arg7.view.loc (c : Thread nD τ) ↦[arg7.view.set]{q 6} arg7.view.rep x7)
          ∗ (arg8.view.loc (c : Thread nD τ) ↦[arg8.view.set]{q 7} arg8.view.rep x8)
          ∗ (arg9.view.loc (c : Thread nD τ) ↦[arg9.view.set]{q 8} arg9.view.rep x9)
          ∗ (arg10.view.loc (c : Thread nD τ) ↦[arg10.view.set]{q 9} arg10.view.rep x10)
          ∗ (arg11.view.loc (c : Thread nD τ) ↦[arg11.view.set]{q 10} arg11.view.rep x11)
          ∗ (arg12.view.loc (c : Thread nD τ) ↦[arg12.view.set]{q 11} arg12.view.rep x12)
          ∗ (arg13.view.loc (c : Thread nD τ) ↦[arg13.view.set]{q 12} arg13.view.rep x13)
          ∗ (arg14.view.loc (c : Thread nD τ) ↦[arg14.view.set]{q 13} arg14.view.rep x14)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ f, scR.view.loc (c : Thread nD τ) ↦{fullShare} f)
          ∗ (iprop((arg1.view.loc (c : Thread nD τ) ↦[arg1.view.set]{q 0} arg1.view.rep x1)
          ∗ (arg2.view.loc (c : Thread nD τ) ↦[arg2.view.set]{q 1} arg2.view.rep x2)
          ∗ (arg3.view.loc (c : Thread nD τ) ↦[arg3.view.set]{q 2} arg3.view.rep x3)
          ∗ (arg4.view.loc (c : Thread nD τ) ↦[arg4.view.set]{q 3} arg4.view.rep x4)
          ∗ (arg5.view.loc (c : Thread nD τ) ↦[arg5.view.set]{q 4} arg5.view.rep x5)
          ∗ (arg6.view.loc (c : Thread nD τ) ↦[arg6.view.set]{q 5} arg6.view.rep x6)
          ∗ (arg7.view.loc (c : Thread nD τ) ↦[arg7.view.set]{q 6} arg7.view.rep x7)
          ∗ (arg8.view.loc (c : Thread nD τ) ↦[arg8.view.set]{q 7} arg8.view.rep x8)
          ∗ (arg9.view.loc (c : Thread nD τ) ↦[arg9.view.set]{q 8} arg9.view.rep x9)
          ∗ (arg10.view.loc (c : Thread nD τ) ↦[arg10.view.set]{q 9} arg10.view.rep x10)
          ∗ (arg11.view.loc (c : Thread nD τ) ↦[arg11.view.set]{q 10} arg11.view.rep x11)
          ∗ (arg12.view.loc (c : Thread nD τ) ↦[arg12.view.set]{q 11} arg12.view.rep x12)
          ∗ (arg13.view.loc (c : Thread nD τ) ↦[arg13.view.set]{q 12} arg13.view.rep x13)
          ∗ (arg14.view.loc (c : Thread nD τ) ↦[arg14.view.set]{q 13} arg14.view.rep x14)
          ∗ (∃ f, arg15.view.loc (c : Thread nD τ) ↦[arg15.view.set]{fullShare} arg15.view.writes (Elt F) f xo)
          ∗ (∃ f, arg16.view.loc (c : Thread nD τ) ↦[arg16.view.set]{fullShare} arg16.view.writes (Elt F) f h)
          ∗ (∃ f, arg17.view.loc (c : Thread nD τ) ↦[arg17.view.set]{fullShare} f)
          ∗ (∃ f, arg18.view.loc (c : Thread nD τ) ↦[arg18.view.set]{fullShare} f)
          ∗ (∃ f, arg19.view.loc (c : Thread nD τ) ↦[arg19.view.set]{fullShare} f)
          ∗ (∃ f, arg20.view.loc (c : Thread nD τ) ↦[arg20.view.set]{fullShare} f)
          ∗ (∃ f, scR.view.loc (c : Thread nD τ) ↦{fullShare} f)) -∗ K ⟨⟩))
        ⊢ wp frame (wpE (defs₀ (F := F)) Variants.none c none) Set.univ
            (cc0_out_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
              scR (Memref.isWhole_whole _)) K

set_option backward.proofsInPublic true in
set_option maxHeartbeats 40000000 in
/-- The body at a later point: the running counts go on. -/
noncomputable def runOn (hc : ¬(condZ i = 1#1)) :
    Σ' (xo : List (View.Piece (Elt F) S1024x1024 .f32)), { h : List (View.Piece (Elt F) S8192x128 .f32) // Leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 xo h } :=
  ⟨_, _, fun q K => by
    unfold owns
    rw [cc0_out_route_eq_skeleton]; unfold cc0_out_route_skel
    iintro ⟨H1, H2, H3, H4, H5, H6, H7, H8, H9, H10, H11, H12, H13, H14, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%sr, HS⟩, Hk⟩
    have hSR : scR.IsWhole := Memref.isWhole_whole _
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS⟩

set_option backward.proofsInPublic true in
set_option maxHeartbeats 40000000 in
/-- The body at the first point: the running counts start at nought. -/
noncomputable def runFirst (hc : condZ i = 1#1) :
    Σ' (xo : List (View.Piece (Elt F) S1024x1024 .f32)), { h : List (View.Piece (Elt F) S8192x128 .f32) // Leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 xo h } :=
  ⟨_, _, fun q K => by
    unfold owns
    rw [cc0_out_route_eq_skeleton]; unfold cc0_out_route_skel
    iintro ⟨H1, H2, H3, H4, H5, H6, H7, H8, H9, H10, H11, H12, H13, H14, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%sr, HS⟩, Hk⟩
    have hSR : scR.IsWhole := Memref.isWhole_whole _
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS⟩

end Cert.RouteIdeal.Hand

end
-- ==== Proof.Bands.lean ====
module

public import proofs.«01_k».proof.Proof.Gen.RouteIdeal.Skeleton
public import Idealize.ShloMosaic.Lib.Tactic
public import Idealize.ShloMosaic.Lib.Writes
public import Idealize.ShloMosaic.Lib.VecWindow
public import Idealize.ShloMosaic.Lib.Pipeline.Value

@[expose] public section

set_option maxRecDepth 16384
set_option Elab.async false

noncomputable section

namespace Cert.RouteIdeal.Hand

open Cert.RouteIdeal Cert.RouteIdeal.Gen
open Idealize.ShloMosaic Idealize.ShloMosaic.TcCoe

variable {F : FTy → Type} [FloatOps F] {sig : RefSig}

/-- What the body stores of the sums: four bands of rows. -/
def xoPieces (t0 t1 t2 t3 : FVec F S256x1024 .f32) : List (View.Piece (Elt F) S1024x1024 .f32) :=
  [⟨Rect.unit (s := S1024x1024) ![768, 0] S256x1024.size inb_S1024x1024_S256x1024_768_0, t3⟩,
   ⟨Rect.unit (s := S1024x1024) ![512, 0] S256x1024.size inb_S1024x1024_S256x1024_512_0, t2⟩,
   ⟨Rect.unit (s := S1024x1024) ![256, 0] S256x1024.size inb_S1024x1024_S256x1024_256_0, t1⟩,
   ⟨Rect.unit (s := S1024x1024) ![0, 0] S256x1024.size inb_S1024x1024_S256x1024_0_0, t0⟩]

/-- What it stores of the normed rows: eight column groups of each band, each on every eighth row. -/
def hPieces (h0 h1 h2 h3 : FVec F S256x1024 .f32) : List (View.Piece (Elt F) S8192x128 .f32) :=
  [⟨⟨(⟨![6151, 0], S256x128.size, ![8, 1], inb_S8192x128_S256x128_6151_0_s_8_1⟩ : LoadRect S8192x128), spos_8_1⟩, extractStridedSlice S256x128 ![0, 896] h3 slices_S256x1024_o0_896_S256x128⟩,
   ⟨⟨(⟨![6150, 0], S256x128.size, ![8, 1], inb_S8192x128_S256x128_6150_0_s_8_1⟩ : LoadRect S8192x128), spos_8_1⟩, extractStridedSlice S256x128 ![0, 768] h3 slices_S256x1024_o0_768_S256x128⟩,
   ⟨⟨(⟨![6149, 0], S256x128.size, ![8, 1], inb_S8192x128_S256x128_6149_0_s_8_1⟩ : LoadRect S8192x128), spos_8_1⟩, extractStridedSlice S256x128 ![0, 640] h3 slices_S256x1024_o0_640_S256x128⟩,
   ⟨⟨(⟨![6148, 0], S256x128.size, ![8, 1], inb_S8192x128_S256x128_6148_0_s_8_1⟩ : LoadRect S8192x128), spos_8_1⟩, extractStridedSlice S256x128 ![0, 512] h3 slices_S256x1024_o0_512_S256x128⟩,
   ⟨⟨(⟨![6147, 0], S256x128.size, ![8, 1], inb_S8192x128_S256x128_6147_0_s_8_1⟩ : LoadRect S8192x128), spos_8_1⟩, extractStridedSlice S256x128 ![0, 384] h3 slices_S256x1024_o0_384_S256x128⟩,
   ⟨⟨(⟨![6146, 0], S256x128.size, ![8, 1], inb_S8192x128_S256x128_6146_0_s_8_1⟩ : LoadRect S8192x128), spos_8_1⟩, extractStridedSlice S256x128 ![0, 256] h3 slices_S256x1024_o0_256_S256x128⟩,
   ⟨⟨(⟨![6145, 0], S256x128.size, ![8, 1], inb_S8192x128_S256x128_6145_0_s_8_1⟩ : LoadRect S8192x128), spos_8_1⟩, extractStridedSlice S256x128 ![0, 128] h3 slices_S256x1024_o0_128_S256x128⟩,
   ⟨⟨(⟨![6144, 0], S256x128.size, ![8, 1], inb_S8192x128_S256x128_6144_0_s_8_1⟩ : LoadRect S8192x128), spos_8_1⟩, extractStridedSlice S256x128 ![0, 0] h3 slices_S256x1024_o0_0_S256x128⟩,
   ⟨⟨(⟨![4103, 0], S256x128.size, ![8, 1], inb_S8192x128_S256x128_4103_0_s_8_1⟩ : LoadRect S8192x128), spos_8_1⟩, extractStridedSlice S256x128 ![0, 896] h2 slices_S256x1024_o0_896_S256x128⟩,
   ⟨⟨(⟨![4102, 0], S256x128.size, ![8, 1], inb_S8192x128_S256x128_4102_0_s_8_1⟩ : LoadRect S8192x128), spos_8_1⟩, extractStridedSlice S256x128 ![0, 768] h2 slices_S256x1024_o0_768_S256x128⟩,
   ⟨⟨(⟨![4101, 0], S256x128.size, ![8, 1], inb_S8192x128_S256x128_4101_0_s_8_1⟩ : LoadRect S8192x128), spos_8_1⟩, extractStridedSlice S256x128 ![0, 640] h2 slices_S256x1024_o0_640_S256x128⟩,
   ⟨⟨(⟨![4100, 0], S256x128.size, ![8, 1], inb_S8192x128_S256x128_4100_0_s_8_1⟩ : LoadRect S8192x128), spos_8_1⟩, extractStridedSlice S256x128 ![0, 512] h2 slices_S256x1024_o0_512_S256x128⟩,
   ⟨⟨(⟨![4099, 0], S256x128.size, ![8, 1], inb_S8192x128_S256x128_4099_0_s_8_1⟩ : LoadRect S8192x128), spos_8_1⟩, extractStridedSlice S256x128 ![0, 384] h2 slices_S256x1024_o0_384_S256x128⟩,
   ⟨⟨(⟨![4098, 0], S256x128.size, ![8, 1], inb_S8192x128_S256x128_4098_0_s_8_1⟩ : LoadRect S8192x128), spos_8_1⟩, extractStridedSlice S256x128 ![0, 256] h2 slices_S256x1024_o0_256_S256x128⟩,
   ⟨⟨(⟨![4097, 0], S256x128.size, ![8, 1], inb_S8192x128_S256x128_4097_0_s_8_1⟩ : LoadRect S8192x128), spos_8_1⟩, extractStridedSlice S256x128 ![0, 128] h2 slices_S256x1024_o0_128_S256x128⟩,
   ⟨⟨(⟨![4096, 0], S256x128.size, ![8, 1], inb_S8192x128_S256x128_4096_0_s_8_1⟩ : LoadRect S8192x128), spos_8_1⟩, extractStridedSlice S256x128 ![0, 0] h2 slices_S256x1024_o0_0_S256x128⟩,
   ⟨⟨(⟨![2055, 0], S256x128.size, ![8, 1], inb_S8192x128_S256x128_2055_0_s_8_1⟩ : LoadRect S8192x128), spos_8_1⟩, extractStridedSlice S256x128 ![0, 896] h1 slices_S256x1024_o0_896_S256x128⟩,
   ⟨⟨(⟨![2054, 0], S256x128.size, ![8, 1], inb_S8192x128_S256x128_2054_0_s_8_1⟩ : LoadRect S8192x128), spos_8_1⟩, extractStridedSlice S256x128 ![0, 768] h1 slices_S256x1024_o0_768_S256x128⟩,
   ⟨⟨(⟨![2053, 0], S256x128.size, ![8, 1], inb_S8192x128_S256x128_2053_0_s_8_1⟩ : LoadRect S8192x128), spos_8_1⟩, extractStridedSlice S256x128 ![0, 640] h1 slices_S256x1024_o0_640_S256x128⟩,
   ⟨⟨(⟨![2052, 0], S256x128.size, ![8, 1], inb_S8192x128_S256x128_2052_0_s_8_1⟩ : LoadRect S8192x128), spos_8_1⟩, extractStridedSlice S256x128 ![0, 512] h1 slices_S256x1024_o0_512_S256x128⟩,
   ⟨⟨(⟨![2051, 0], S256x128.size, ![8, 1], inb_S8192x128_S256x128_2051_0_s_8_1⟩ : LoadRect S8192x128), spos_8_1⟩, extractStridedSlice S256x128 ![0, 384] h1 slices_S256x1024_o0_384_S256x128⟩,
   ⟨⟨(⟨![2050, 0], S256x128.size, ![8, 1], inb_S8192x128_S256x128_2050_0_s_8_1⟩ : LoadRect S8192x128), spos_8_1⟩, extractStridedSlice S256x128 ![0, 256] h1 slices_S256x1024_o0_256_S256x128⟩,
   ⟨⟨(⟨![2049, 0], S256x128.size, ![8, 1], inb_S8192x128_S256x128_2049_0_s_8_1⟩ : LoadRect S8192x128), spos_8_1⟩, extractStridedSlice S256x128 ![0, 128] h1 slices_S256x1024_o0_128_S256x128⟩,
   ⟨⟨(⟨![2048, 0], S256x128.size, ![8, 1], inb_S8192x128_S256x128_2048_0_s_8_1⟩ : LoadRect S8192x128), spos_8_1⟩, extractStridedSlice S256x128 ![0, 0] h1 slices_S256x1024_o0_0_S256x128⟩,
   ⟨⟨(⟨![7, 0], S256x128.size, ![8, 1], inb_S8192x128_S256x128_7_0_s_8_1⟩ : LoadRect S8192x128), spos_8_1⟩, extractStridedSlice S256x128 ![0, 896] h0 slices_S256x1024_o0_896_S256x128⟩,
   ⟨⟨(⟨![6, 0], S256x128.size, ![8, 1], inb_S8192x128_S256x128_6_0_s_8_1⟩ : LoadRect S8192x128), spos_8_1⟩, extractStridedSlice S256x128 ![0, 768] h0 slices_S256x1024_o0_768_S256x128⟩,
   ⟨⟨(⟨![5, 0], S256x128.size, ![8, 1], inb_S8192x128_S256x128_5_0_s_8_1⟩ : LoadRect S8192x128), spos_8_1⟩, extractStridedSlice S256x128 ![0, 640] h0 slices_S256x1024_o0_640_S256x128⟩,
   ⟨⟨(⟨![4, 0], S256x128.size, ![8, 1], inb_S8192x128_S256x128_4_0_s_8_1⟩ : LoadRect S8192x128), spos_8_1⟩, extractStridedSlice S256x128 ![0, 512] h0 slices_S256x1024_o0_512_S256x128⟩,
   ⟨⟨(⟨![3, 0], S256x128.size, ![8, 1], inb_S8192x128_S256x128_3_0_s_8_1⟩ : LoadRect S8192x128), spos_8_1⟩, extractStridedSlice S256x128 ![0, 384] h0 slices_S256x1024_o0_384_S256x128⟩,
   ⟨⟨(⟨![2, 0], S256x128.size, ![8, 1], inb_S8192x128_S256x128_2_0_s_8_1⟩ : LoadRect S8192x128), spos_8_1⟩, extractStridedSlice S256x128 ![0, 256] h0 slices_S256x1024_o0_256_S256x128⟩,
   ⟨⟨(⟨![1, 0], S256x128.size, ![8, 1], inb_S8192x128_S256x128_1_0_s_8_1⟩ : LoadRect S8192x128), spos_8_1⟩, extractStridedSlice S256x128 ![0, 128] h0 slices_S256x1024_o0_128_S256x128⟩,
   ⟨⟨(⟨![0, 0], S256x128.size, ![8, 1], inb_S8192x128_S256x128_0_0_s_8_1⟩ : LoadRect S8192x128), spos_8_1⟩, extractStridedSlice S256x128 ![0, 0] h0 slices_S256x1024_o0_0_S256x128⟩]

/-- Four bands of 256 rows, one above the other. -/
def bands (t : Fin 4 → FVec F S256x1024 .f32) : S1024x1024.Idx → Elt F .f32 :=
  fun z => t ⟨(z 0).val / 256, by have : (z 0).val < 1024 := (z 0).isLt; omega⟩ fun a => match a with
    | ⟨0, _⟩ => ⟨(z 0).val % 256, by show _ < 256; omega⟩
    | ⟨1, _⟩ => ⟨(z 1).val, (z 1).isLt⟩

theorem bands_at (t : Fin 4 → FVec F S256x1024 .f32) (k : Fin 4) (o : ℕ) (ho : o = 256 * k.val) (inb)
    (x : (Rect.unit (s := S1024x1024) ![o, 0] S256x1024.size inb).shape.Idx) :
    t k x = bands t ((Rect.unit (s := S1024x1024) ![o, 0] S256x1024.size inb).emb x) := by
  have e0 : (((Rect.unit (s := S1024x1024) ![o, 0] S256x1024.size inb).emb x) 0).val = o + 1 * (x 0).val := rfl
  have e1 : (((Rect.unit (s := S1024x1024) ![o, 0] S256x1024.size inb).emb x) 1).val = 0 + 1 * (x 1).val := rfl
  have hx0 : (x 0).val < 256 := (x 0).isLt
  unfold bands
  refine congr (congrArg t (Fin.ext ?_)) (funext fun a => Fin.ext ?_)
  · show k.val = _ / 256
    rw [e0]; omega
  · match a with
    | ⟨0, _⟩ =>
      show (x 0).val = _ % 256
      rw [e0]; omega
    | ⟨1, _⟩ =>
      show (x 1).val = _
      rw [e1]; omega

/-- The four bands read back are the block, whatever the buffer held. -/
theorem read_bands {κ : Kind} {sp : Space} (v : View sig κ sp S1024x1024 .f32) (f : v.ty.Contents (Elt F)) (t : Fin 4 → FVec F S256x1024 .f32) :
    v.read (Elt F) (v.writes (Elt F) f (xoPieces (t 0) (t 1) (t 2) (t 3))) = bands t := by
  funext z
  refine View.read_writes_apply_of_pieces v f (bands t) (xoPieces (t 0) (t 1) (t 2) (t 3)) ?_ z ?_
  · intro p hp x
    unfold xoPieces at hp
    simp only [List.mem_cons, List.not_mem_nil, _root_.or_false] at hp
    rcases hp with rfl | rfl | rfl | rfl
    · exact bands_at t 3 768 rfl inb_S1024x1024_S256x1024_768_0 x
    · exact bands_at t 2 512 rfl inb_S1024x1024_S256x1024_512_0 x
    · exact bands_at t 1 256 rfl inb_S1024x1024_S256x1024_256_0 x
    · exact bands_at t 0 0 rfl inb_S1024x1024_S256x1024_0_0 x
  · have h0 : (z 0).val < 1024 := (z 0).isLt
    have h1 : (z 1).val < 1024 := (z 1).isLt
    have hz : ∀ o, o ≤ (z 0).val → (z 0).val < o + 256 → ∀ inb, z ∈ (Rect.unit (s := S1024x1024) ![o, 0] S256x1024.size inb).set := by
      intro o ho ho' inb
      refine (LoadRect.mem_set _).mpr fun a => ?_
      match a with
      | ⟨0, _⟩ => exact ⟨(z 0).val - o, by show (z 0).val - o < 256; omega, by show (z 0).val = o + 1 * ((z 0).val - o); omega⟩
      | ⟨1, _⟩ => exact ⟨(z 1).val, h1, by show (z 1).val = 0 + 1 * (z 1).val; omega⟩
    unfold xoPieces
    simp only [List.mem_cons, exists_eq_or_imp]
    rcases (by omega : (768 ≤ (z 0).val) ∨ (512 ≤ (z 0).val ∧ (z 0).val < 768) ∨ (256 ≤ (z 0).val ∧ (z 0).val < 512) ∨ (z 0).val < 256) with h | h | h | h
    · exact Or.inl <| hz 768 (by omega) (by omega) _
    · exact Or.inr <| Or.inl <| hz 512 (by omega) (by omega) _
    · exact Or.inr <| Or.inr <| Or.inl <| hz 256 (by omega) (by omega) _
    · exact Or.inr <| Or.inr <| Or.inr <| Or.inl <| hz 0 (by omega) (by omega) _

/-- The block four bands of 256 tokens make: row `8 s + j`, lane `l` holds token `s`, feature `128 j + l`. -/
def spread (h : Fin 4 → FVec F S256x1024 .f32) : S8192x128.Idx → Elt F .f32 :=
  fun z => h ⟨(z 0).val / 2048, by have : (z 0).val < 8192 := (z 0).isLt; omega⟩ fun a => match a with
    | ⟨0, _⟩ => ⟨(z 0).val / 8 % 256, by show _ < 256; omega⟩
    | ⟨1, _⟩ => ⟨(z 0).val % 8 * 128 + (z 1).val, by have : (z 1).val < 128 := (z 1).isLt; show _ < 1024; omega⟩

theorem spread_at (h : Fin 4 → FVec F S256x1024 .f32) (k : Fin 4) (j o l : ℕ) (hj : j < 8) (hl : l = 128 * j) (ho : o = 2048 * k.val + j) (inb) (hs : S256x1024.Slices ![0, l] S256x128)
    (x : (⟨⟨![o, 0], S256x128.size, ![8, 1], inb⟩, spos_8_1⟩ : Rect S8192x128).shape.Idx) :
    extractStridedSlice S256x128 ![0, l] (h k) hs x = spread h ((⟨⟨![o, 0], S256x128.size, ![8, 1], inb⟩, spos_8_1⟩ : Rect S8192x128).emb x) := by
  have e0 : (((⟨⟨![o, 0], S256x128.size, ![8, 1], inb⟩, spos_8_1⟩ : Rect S8192x128).emb x) 0).val = o + 8 * (x 0).val := rfl
  have e1 : (((⟨⟨![o, 0], S256x128.size, ![8, 1], inb⟩, spos_8_1⟩ : Rect S8192x128).emb x) 1).val = 0 + 1 * (x 1).val := rfl
  have hx0 : (x 0).val < 256 := (x 0).isLt
  have hx1 : (x 1).val < 128 := (x 1).isLt
  subst hl
  unfold spread
  rw [show (⟨_, _⟩ : Fin 4) = k from Fin.ext (by show _ / 2048 = k.val; rw [e0]; omega)]
  refine extractStridedSlice_apply _ _ _ _ _ fun a => ?_
  match a with
  | ⟨0, _⟩ =>
    show (_ / 8 % 256 : ℕ) = 0 + (x 0).val
    rw [e0]; omega
  | ⟨1, _⟩ =>
    show (_ % 8 * 128 + _ : ℕ) = 128 * j + (x 1).val
    rw [e0, e1]; omega

/-- The thirty-two column groups read back are the block, whatever the buffer held. -/
theorem read_spread {κ : Kind} {sp : Space} (v : View sig κ sp S8192x128 .f32) (f : v.ty.Contents (Elt F)) (h : Fin 4 → FVec F S256x1024 .f32) :
    v.read (Elt F) (v.writes (Elt F) f (hPieces (h 0) (h 1) (h 2) (h 3))) = spread h := by
  funext z
  refine View.read_writes_apply_of_pieces v f (spread h) (hPieces (h 0) (h 1) (h 2) (h 3)) ?_ z ?_
  · intro p hp x
    unfold hPieces at hp
    simp only [List.mem_cons, List.not_mem_nil, _root_.or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact spread_at h 3 7 6151 896 (by decide) rfl rfl inb_S8192x128_S256x128_6151_0_s_8_1 slices_S256x1024_o0_896_S256x128 x
    · exact spread_at h 3 6 6150 768 (by decide) rfl rfl inb_S8192x128_S256x128_6150_0_s_8_1 slices_S256x1024_o0_768_S256x128 x
    · exact spread_at h 3 5 6149 640 (by decide) rfl rfl inb_S8192x128_S256x128_6149_0_s_8_1 slices_S256x1024_o0_640_S256x128 x
    · exact spread_at h 3 4 6148 512 (by decide) rfl rfl inb_S8192x128_S256x128_6148_0_s_8_1 slices_S256x1024_o0_512_S256x128 x
    · exact spread_at h 3 3 6147 384 (by decide) rfl rfl inb_S8192x128_S256x128_6147_0_s_8_1 slices_S256x1024_o0_384_S256x128 x
    · exact spread_at h 3 2 6146 256 (by decide) rfl rfl inb_S8192x128_S256x128_6146_0_s_8_1 slices_S256x1024_o0_256_S256x128 x
    · exact spread_at h 3 1 6145 128 (by decide) rfl rfl inb_S8192x128_S256x128_6145_0_s_8_1 slices_S256x1024_o0_128_S256x128 x
    · exact spread_at h 3 0 6144 0 (by decide) rfl rfl inb_S8192x128_S256x128_6144_0_s_8_1 slices_S256x1024_o0_0_S256x128 x
    · exact spread_at h 2 7 4103 896 (by decide) rfl rfl inb_S8192x128_S256x128_4103_0_s_8_1 slices_S256x1024_o0_896_S256x128 x
    · exact spread_at h 2 6 4102 768 (by decide) rfl rfl inb_S8192x128_S256x128_4102_0_s_8_1 slices_S256x1024_o0_768_S256x128 x
    · exact spread_at h 2 5 4101 640 (by decide) rfl rfl inb_S8192x128_S256x128_4101_0_s_8_1 slices_S256x1024_o0_640_S256x128 x
    · exact spread_at h 2 4 4100 512 (by decide) rfl rfl inb_S8192x128_S256x128_4100_0_s_8_1 slices_S256x1024_o0_512_S256x128 x
    · exact spread_at h 2 3 4099 384 (by decide) rfl rfl inb_S8192x128_S256x128_4099_0_s_8_1 slices_S256x1024_o0_384_S256x128 x
    · exact spread_at h 2 2 4098 256 (by decide) rfl rfl inb_S8192x128_S256x128_4098_0_s_8_1 slices_S256x1024_o0_256_S256x128 x
    · exact spread_at h 2 1 4097 128 (by decide) rfl rfl inb_S8192x128_S256x128_4097_0_s_8_1 slices_S256x1024_o0_128_S256x128 x
    · exact spread_at h 2 0 4096 0 (by decide) rfl rfl inb_S8192x128_S256x128_4096_0_s_8_1 slices_S256x1024_o0_0_S256x128 x
    · exact spread_at h 1 7 2055 896 (by decide) rfl rfl inb_S8192x128_S256x128_2055_0_s_8_1 slices_S256x1024_o0_896_S256x128 x
    · exact spread_at h 1 6 2054 768 (by decide) rfl rfl inb_S8192x128_S256x128_2054_0_s_8_1 slices_S256x1024_o0_768_S256x128 x
    · exact spread_at h 1 5 2053 640 (by decide) rfl rfl inb_S8192x128_S256x128_2053_0_s_8_1 slices_S256x1024_o0_640_S256x128 x
    · exact spread_at h 1 4 2052 512 (by decide) rfl rfl inb_S8192x128_S256x128_2052_0_s_8_1 slices_S256x1024_o0_512_S256x128 x
    · exact spread_at h 1 3 2051 384 (by decide) rfl rfl inb_S8192x128_S256x128_2051_0_s_8_1 slices_S256x1024_o0_384_S256x128 x
    · exact spread_at h 1 2 2050 256 (by decide) rfl rfl inb_S8192x128_S256x128_2050_0_s_8_1 slices_S256x1024_o0_256_S256x128 x
    · exact spread_at h 1 1 2049 128 (by decide) rfl rfl inb_S8192x128_S256x128_2049_0_s_8_1 slices_S256x1024_o0_128_S256x128 x
    · exact spread_at h 1 0 2048 0 (by decide) rfl rfl inb_S8192x128_S256x128_2048_0_s_8_1 slices_S256x1024_o0_0_S256x128 x
    · exact spread_at h 0 7 7 896 (by decide) rfl rfl inb_S8192x128_S256x128_7_0_s_8_1 slices_S256x1024_o0_896_S256x128 x
    · exact spread_at h 0 6 6 768 (by decide) rfl rfl inb_S8192x128_S256x128_6_0_s_8_1 slices_S256x1024_o0_768_S256x128 x
    · exact spread_at h 0 5 5 640 (by decide) rfl rfl inb_S8192x128_S256x128_5_0_s_8_1 slices_S256x1024_o0_640_S256x128 x
    · exact spread_at h 0 4 4 512 (by decide) rfl rfl inb_S8192x128_S256x128_4_0_s_8_1 slices_S256x1024_o0_512_S256x128 x
    · exact spread_at h 0 3 3 384 (by decide) rfl rfl inb_S8192x128_S256x128_3_0_s_8_1 slices_S256x1024_o0_384_S256x128 x
    · exact spread_at h 0 2 2 256 (by decide) rfl rfl inb_S8192x128_S256x128_2_0_s_8_1 slices_S256x1024_o0_256_S256x128 x
    · exact spread_at h 0 1 1 128 (by decide) rfl rfl inb_S8192x128_S256x128_1_0_s_8_1 slices_S256x1024_o0_128_S256x128 x
    · exact spread_at h 0 0 0 0 (by decide) rfl rfl inb_S8192x128_S256x128_0_0_s_8_1 slices_S256x1024_o0_0_S256x128 x
  · have h0 : (z 0).val < 8192 := (z 0).isLt
    have h1 : (z 1).val < 128 := (z 1).isLt
    have hz : ∀ k j, (z 0).val / 2048 = k → (z 0).val % 8 = j → ∀ o, o = 2048 * k + j → ∀ inb, z ∈ (⟨⟨![o, 0], S256x128.size, ![8, 1], inb⟩, spos_8_1⟩ : Rect S8192x128).set := by
      intro k j hk hj o ho inb
      refine (LoadRect.mem_set _).mpr fun a => ?_
      match a with
      | ⟨0, _⟩ => exact ⟨((z 0).val - o) / 8, by show ((z 0).val - o) / 8 < 256; omega, by show (z 0).val = o + 8 * (((z 0).val - o) / 8); omega⟩
      | ⟨1, _⟩ => exact ⟨(z 1).val, h1, by show (z 1).val = 0 + 1 * (z 1).val; omega⟩
    have h8 : (z 0).val % 8 < 8 := Nat.mod_lt _ (by decide)
    unfold hPieces
    simp only [List.mem_cons, exists_eq_or_imp]
    rcases (by omega : (z 0).val / 2048 = 3 ∨ (z 0).val / 2048 = 2 ∨ (z 0).val / 2048 = 1 ∨ (z 0).val / 2048 = 0) with hk | hk | hk | hk <;>
      rcases (by omega : (z 0).val % 8 = 7 ∨ (z 0).val % 8 = 6 ∨ (z 0).val % 8 = 5 ∨ (z 0).val % 8 = 4 ∨ (z 0).val % 8 = 3 ∨ (z 0).val % 8 = 2 ∨ (z 0).val % 8 = 1 ∨ (z 0).val % 8 = 0) with hj | hj | hj | hj | hj | hj | hj | hj
    · exact Or.inl <| hz 3 7 hk hj 6151 rfl _
    · exact Or.inr <| Or.inl <| hz 3 6 hk hj 6150 rfl _
    · exact Or.inr <| Or.inr <| Or.inl <| hz 3 5 hk hj 6149 rfl _
    · exact Or.inr <| Or.inr <| Or.inr <| Or.inl <| hz 3 4 hk hj 6148 rfl _
    · (iterate 4 right); exact Or.inl <| hz 3 3 hk hj 6147 rfl _
    · (iterate 5 right); exact Or.inl <| hz 3 2 hk hj 6146 rfl _
    · (iterate 6 right); exact Or.inl <| hz 3 1 hk hj 6145 rfl _
    · (iterate 7 right); exact Or.inl <| hz 3 0 hk hj 6144 rfl _
    · (iterate 8 right); exact Or.inl <| hz 2 7 hk hj 4103 rfl _
    · (iterate 9 right); exact Or.inl <| hz 2 6 hk hj 4102 rfl _
    · (iterate 10 right); exact Or.inl <| hz 2 5 hk hj 4101 rfl _
    · (iterate 11 right); exact Or.inl <| hz 2 4 hk hj 4100 rfl _
    · (iterate 12 right); exact Or.inl <| hz 2 3 hk hj 4099 rfl _
    · (iterate 13 right); exact Or.inl <| hz 2 2 hk hj 4098 rfl _
    · (iterate 14 right); exact Or.inl <| hz 2 1 hk hj 4097 rfl _
    · (iterate 15 right); exact Or.inl <| hz 2 0 hk hj 4096 rfl _
    · (iterate 16 right); exact Or.inl <| hz 1 7 hk hj 2055 rfl _
    · (iterate 17 right); exact Or.inl <| hz 1 6 hk hj 2054 rfl _
    · (iterate 18 right); exact Or.inl <| hz 1 5 hk hj 2053 rfl _
    · (iterate 19 right); exact Or.inl <| hz 1 4 hk hj 2052 rfl _
    · (iterate 20 right); exact Or.inl <| hz 1 3 hk hj 2051 rfl _
    · (iterate 21 right); exact Or.inl <| hz 1 2 hk hj 2050 rfl _
    · (iterate 22 right); exact Or.inl <| hz 1 1 hk hj 2049 rfl _
    · (iterate 23 right); exact Or.inl <| hz 1 0 hk hj 2048 rfl _
    · (iterate 24 right); exact Or.inl <| hz 0 7 hk hj 7 rfl _
    · (iterate 25 right); exact Or.inl <| hz 0 6 hk hj 6 rfl _
    · (iterate 26 right); exact Or.inl <| hz 0 5 hk hj 5 rfl _
    · (iterate 27 right); exact Or.inl <| hz 0 4 hk hj 4 rfl _
    · (iterate 28 right); exact Or.inl <| hz 0 3 hk hj 3 rfl _
    · (iterate 29 right); exact Or.inl <| hz 0 2 hk hj 2 rfl _
    · (iterate 30 right); exact Or.inl <| hz 0 1 hk hj 1 rfl _
    · (iterate 31 right); exact Or.inl <| hz 0 0 hk hj 0 rfl _

end Cert.RouteIdeal.Hand

end
-- ==== Proof.PayRoute.lean ====
module

public import proofs.«01_k».proof.Proof.FrameRouteIdeal
public import proofs.«01_k».proof.Proof.Project
public import Idealize.ShloMosaic.Lib.Pointwise

@[expose] public section

set_option maxRecDepth 16384

noncomputable section

namespace Cert.RouteIdeal.Hand

open Cert.RouteIdeal Cert.RouteIdeal.Gen Cert.Project
open Idealize.ShloMosaic

/-- A tile's sums: the stream plus the gate times the projection. -/
theorem mix_apply (M : S1x6x1024.Idx → Elt Ideal .f32) (y : S256x1024.Idx → Elt Ideal .bf16) (w : S1024x1024.Idx → Elt Ideal .bf16)
    (x : S256x1024.Idx → Elt Ideal .f32) (b : S1x1024.Idx → Elt Ideal .f32) (r : Fin 256) (n : Fin 1024) :
    mix (F := Ideal) M y w x b (ix2 r n)
      = (x (ix2 r n) : EReal) + M (ix3 (0 : Fin 1) (2 : Fin 6) n) * ((∑ d : Fin 1024, (y (ix2 r d) : EReal) * w (ix2 d n)) + b (ix2 (0 : Fin 1) n)) := by
  pointwise [mix, k0_pay9, k0_pay7]

/-- A tile's normalised rows. -/
theorem feed_apply (M : S1x6x1024.Idx → Elt Ideal .f32) (X : S256x1024.Idx → Elt Ideal .f32) (g : S1x1024.Idx → Elt Ideal .f32) (r : Fin 256) (d : Fin 1024) :
    feed (F := Ideal) M X g (ix2 r d)
      = normed (fun k => X (ix2 r k)) (fun k => g (ix2 (0 : Fin 1) k)) (fun k => M (ix3 (0 : Fin 1) (3 : Fin 6) k)) (fun k => M (ix3 (0 : Fin 1) (4 : Fin 6) k)) d := by
  pointwise [feed, k0_pay13]
  rfl

end Cert.RouteIdeal.Hand

end
-- ==== Proof.KernelRoute.lean ====
module

public import proofs.«01_k».proof.Proof.PayRoute
public import Idealize.ShloMosaic.Lib.Pipeline.ValueKit.Geometry

@[expose] public section

set_option maxRecDepth 16384

noncomputable section

namespace Cert.RouteIdeal.Hand

open Cert.RouteIdeal Cert.RouteIdeal.Gen Cert.Project
open Idealize.ShloMosaic
open Idealize.ShloMosaic.TcCoe Idealize.SL.Sem
open Idealize.ShloMosaic.Pipeline (Dat)

variable (m : (ℓ : Loc nD τ sig) → Buf (Elt Ideal) ℓ) (ρ : Dev nD → PrngReg)

/-- The arguments at launch. -/
abbrev argX (c : Dev nD) : S18432x1024.Idx → Elt Ideal .f32 := m ((c : Thread nD τ).loc main_arg0)
abbrev argY (c : Dev nD) : S18432x1024.Idx → Elt Ideal .bf16 := m ((c : Thread nD τ).loc main_arg1)
abbrev argM (c : Dev nD) : S16x6x1024.Idx → Elt Ideal .f32 := m ((c : Thread nD τ).loc main_arg2)
abbrev argW (c : Dev nD) : S1024x1024.Idx → Elt Ideal .bf16 := m ((c : Thread nD τ).loc main_arg3)
abbrev argB (c : Dev nD) : S1024.Idx → Elt Ideal .f32 := m ((c : Thread nD τ).loc main_arg4)
abbrev argG (c : Dev nD) : S1024.Idx → Elt Ideal .f32 := m ((c : Thread nD τ).loc main_arg5)

/-- A row's sums. -/
def sumAt (c : Dev nD) (r : Fin 18432) (n : Fin 1024) : EReal :=
  mixed (fun r k => argX m c (ix2 r k)) (fun r k => argY m c (ix2 r k)) (fun i j k => argM m c (ix3 i j k)) (fun k n => argW m c (ix2 k n))
    (fun n => argB m c (ix1 n)) r n

/-- A row's sums, normalised and modulated. -/
def normAt (c : Dev nD) (r : Fin 18432) (d : Fin 1024) : EReal :=
  normed (sumAt m c r) (fun k => argG m c (ix1 k)) (fun k => argM m c (ix3 (modOf r) (3 : Fin 6) k)) (fun k => argM m c (ix3 (modOf r) (4 : Fin 6) k)) d

/-- The two results: the sums, and the normalised rows laid out by lanes. -/
def outXo (c : Dev nD) : S18432x1024.Idx → Elt Ideal .f32 := fun y => sumAt m c (y 0 : Fin 18432) (y 1 : Fin 1024)
def outH (c : Dev nD) : S147456x128.Idx → Elt Ideal .f32 := fun y =>
  normAt m c ⟨(y 0 : Fin 147456).val / 8, by have : (y 0).val < 147456 := (y 0).isLt; omega⟩
    ⟨(y 0 : Fin 147456).val % 8 * 128 + (y 1 : Fin 128).val, by have : (y 1).val < 128 := (y 1).isLt; omega⟩

theorem t_lt (t : Fin cfg0.N) : t.val < 18 := t.isLt

/-- Row `r` of the `k`-th tile of point `t`, in the stream. -/
def rowAt (t : Fin cfg0.N) (k : Fin 4) (r : Fin 256) : Fin 18432 := ⟨(4 * t.val + k.val) * 256 + r.val, by have := t_lt t; omega⟩

/-- The modulation a tile goes by: a tile lies wholly in the context or wholly in a sequence. -/
theorem modOf_rowAt (t : Fin cfg0.N) (k : Fin 4) (r : Fin 256) :
    (modOf (rowAt t k r)).val = if (4 * t.val + k.val) % 9 = 0 then 0 else 1 + (4 * t.val + k.val) / 9 := by
  have h := t_lt t
  unfold modOf
  show (if ((4 * t.val + k.val) * 256 + r.val) % 2304 < 256 then (0 : Fin 16) else ⟨1 + ((4 * t.val + k.val) * 256 + r.val) / 2304, _⟩).val = _
  split <;> split <;> first | rfl | (simp only []; omega) | (exfalso; omega)

theorem modsRow : ∀ (t : Fin grid0.N) (k : Fin 4), k0_off1 (grid0.coords t) (BitVec.ofNat 32 k.val)
    = ![if (4 * t.val + k.val) % 9 = 0 then 0 else 1 + (4 * t.val + k.val) / 9, 0, 0] := by decide +kernel

theorem index0 : ∀ t : Fin grid0.N, win0_0.index t = ![4 * t.val + 0, 0] := by decide +kernel
theorem index4 : ∀ t : Fin grid0.N, win0_4.index t = ![4 * t.val + 0, 0] := by decide +kernel
theorem index1 : ∀ t : Fin grid0.N, win0_1.index t = ![4 * t.val + 1, 0] := by decide +kernel
theorem index5 : ∀ t : Fin grid0.N, win0_5.index t = ![4 * t.val + 1, 0] := by decide +kernel
theorem index2 : ∀ t : Fin grid0.N, win0_2.index t = ![4 * t.val + 2, 0] := by decide +kernel
theorem index6 : ∀ t : Fin grid0.N, win0_6.index t = ![4 * t.val + 2, 0] := by decide +kernel
theorem index3 : ∀ t : Fin grid0.N, win0_3.index t = ![4 * t.val + 3, 0] := by decide +kernel
theorem index7 : ∀ t : Fin grid0.N, win0_7.index t = ![4 * t.val + 3, 0] := by decide +kernel
theorem index14 : ∀ t : Fin grid0.N, win0_14.index t = ![t.val, 0] := by decide +kernel
theorem index15 : ∀ t : Fin grid0.N, win0_15.index t = ![t.val, 0] := by decide +kernel

theorem blk0 (c : Dev nD) (t : Fin cfg0.N) (r : Fin 256) (n : Fin 1024) : iblk m c 0 t (ix2 r n) = argX m c (ix2 (rowAt t 0 r) n) := by
  show V m c main_arg0 _ = _
  rw [V_main_arg0]
  refine congrArg (argX m c) (funext fun a => Fin.ext ?_)
  match a with
  | ⟨0, _⟩ =>
    have e : win0_0.index t 0 = 4 * t.val + 0 := congrFun (index0 t) 0
    show win0_0.index t 0 * 256 + 1 * r.val = (4 * t.val + 0) * 256 + r.val
    rw [e]; omega
  | ⟨1, _⟩ =>
    have e : win0_0.index t 1 = 0 := congrFun (index0 t) 1
    show win0_0.index t 1 * 1024 + 1 * n.val = n.val
    rw [e]; omega

theorem blk1 (c : Dev nD) (t : Fin cfg0.N) (r : Fin 256) (n : Fin 1024) : iblk m c 1 t (ix2 r n) = argX m c (ix2 (rowAt t 1 r) n) := by
  show V m c main_arg0 _ = _
  rw [V_main_arg0]
  refine congrArg (argX m c) (funext fun a => Fin.ext ?_)
  match a with
  | ⟨0, _⟩ =>
    have e : win0_1.index t 0 = 4 * t.val + 1 := congrFun (index1 t) 0
    show win0_1.index t 0 * 256 + 1 * r.val = (4 * t.val + 1) * 256 + r.val
    rw [e]; omega
  | ⟨1, _⟩ =>
    have e : win0_1.index t 1 = 0 := congrFun (index1 t) 1
    show win0_1.index t 1 * 1024 + 1 * n.val = n.val
    rw [e]; omega

theorem blk2 (c : Dev nD) (t : Fin cfg0.N) (r : Fin 256) (n : Fin 1024) : iblk m c 2 t (ix2 r n) = argX m c (ix2 (rowAt t 2 r) n) := by
  show V m c main_arg0 _ = _
  rw [V_main_arg0]
  refine congrArg (argX m c) (funext fun a => Fin.ext ?_)
  match a with
  | ⟨0, _⟩ =>
    have e : win0_2.index t 0 = 4 * t.val + 2 := congrFun (index2 t) 0
    show win0_2.index t 0 * 256 + 1 * r.val = (4 * t.val + 2) * 256 + r.val
    rw [e]; omega
  | ⟨1, _⟩ =>
    have e : win0_2.index t 1 = 0 := congrFun (index2 t) 1
    show win0_2.index t 1 * 1024 + 1 * n.val = n.val
    rw [e]; omega

theorem blk3 (c : Dev nD) (t : Fin cfg0.N) (r : Fin 256) (n : Fin 1024) : iblk m c 3 t (ix2 r n) = argX m c (ix2 (rowAt t 3 r) n) := by
  show V m c main_arg0 _ = _
  rw [V_main_arg0]
  refine congrArg (argX m c) (funext fun a => Fin.ext ?_)
  match a with
  | ⟨0, _⟩ =>
    have e : win0_3.index t 0 = 4 * t.val + 3 := congrFun (index3 t) 0
    show win0_3.index t 0 * 256 + 1 * r.val = (4 * t.val + 3) * 256 + r.val
    rw [e]; omega
  | ⟨1, _⟩ =>
    have e : win0_3.index t 1 = 0 := congrFun (index3 t) 1
    show win0_3.index t 1 * 1024 + 1 * n.val = n.val
    rw [e]; omega

theorem blk4 (c : Dev nD) (t : Fin cfg0.N) (r : Fin 256) (n : Fin 1024) : iblk m c 4 t (ix2 r n) = argY m c (ix2 (rowAt t 0 r) n) := by
  show V m c main_arg1 _ = _
  rw [V_main_arg1]
  refine congrArg (argY m c) (funext fun a => Fin.ext ?_)
  match a with
  | ⟨0, _⟩ =>
    have e : win0_4.index t 0 = 4 * t.val + 0 := congrFun (index4 t) 0
    show win0_4.index t 0 * 256 + 1 * r.val = (4 * t.val + 0) * 256 + r.val
    rw [e]; omega
  | ⟨1, _⟩ =>
    have e : win0_4.index t 1 = 0 := congrFun (index4 t) 1
    show win0_4.index t 1 * 1024 + 1 * n.val = n.val
    rw [e]; omega

theorem blk5 (c : Dev nD) (t : Fin cfg0.N) (r : Fin 256) (n : Fin 1024) : iblk m c 5 t (ix2 r n) = argY m c (ix2 (rowAt t 1 r) n) := by
  show V m c main_arg1 _ = _
  rw [V_main_arg1]
  refine congrArg (argY m c) (funext fun a => Fin.ext ?_)
  match a with
  | ⟨0, _⟩ =>
    have e : win0_5.index t 0 = 4 * t.val + 1 := congrFun (index5 t) 0
    show win0_5.index t 0 * 256 + 1 * r.val = (4 * t.val + 1) * 256 + r.val
    rw [e]; omega
  | ⟨1, _⟩ =>
    have e : win0_5.index t 1 = 0 := congrFun (index5 t) 1
    show win0_5.index t 1 * 1024 + 1 * n.val = n.val
    rw [e]; omega

theorem blk6 (c : Dev nD) (t : Fin cfg0.N) (r : Fin 256) (n : Fin 1024) : iblk m c 6 t (ix2 r n) = argY m c (ix2 (rowAt t 2 r) n) := by
  show V m c main_arg1 _ = _
  rw [V_main_arg1]
  refine congrArg (argY m c) (funext fun a => Fin.ext ?_)
  match a with
  | ⟨0, _⟩ =>
    have e : win0_6.index t 0 = 4 * t.val + 2 := congrFun (index6 t) 0
    show win0_6.index t 0 * 256 + 1 * r.val = (4 * t.val + 2) * 256 + r.val
    rw [e]; omega
  | ⟨1, _⟩ =>
    have e : win0_6.index t 1 = 0 := congrFun (index6 t) 1
    show win0_6.index t 1 * 1024 + 1 * n.val = n.val
    rw [e]; omega

theorem blk7 (c : Dev nD) (t : Fin cfg0.N) (r : Fin 256) (n : Fin 1024) : iblk m c 7 t (ix2 r n) = argY m c (ix2 (rowAt t 3 r) n) := by
  show V m c main_arg1 _ = _
  rw [V_main_arg1]
  refine congrArg (argY m c) (funext fun a => Fin.ext ?_)
  match a with
  | ⟨0, _⟩ =>
    have e : win0_7.index t 0 = 4 * t.val + 3 := congrFun (index7 t) 0
    show win0_7.index t 0 * 256 + 1 * r.val = (4 * t.val + 3) * 256 + r.val
    rw [e]; omega
  | ⟨1, _⟩ =>
    have e : win0_7.index t 1 = 0 := congrFun (index7 t) 1
    show win0_7.index t 1 * 1024 + 1 * n.val = n.val
    rw [e]; omega

theorem blkM (c : Dev nD) (t : Fin cfg0.N) : iblk m c 8 t = argM m c := by
  funext y
  show V m c main_arg2 _ = _
  rw [V_main_arg2]
  refine congrArg (argM m c) (funext fun a => Fin.ext ?_)
  match a with
  | ⟨0, _⟩ => show 0 * 16 + 1 * (y 0).val = (y 0).val; omega
  | ⟨1, _⟩ => show 0 * 6 + 1 * (y 1).val = (y 1).val; omega
  | ⟨2, _⟩ => show 0 * 1024 + 1 * (y 2).val = (y 2).val; omega

theorem blkW (c : Dev nD) (t : Fin cfg0.N) (k n : Fin 1024) : iblk m c 9 t (ix2 k n) = argW m c (ix2 k n) := by
  show V m c main_arg3 _ = _
  rw [V_main_arg3]
  refine congrArg (argW m c) (funext fun a => Fin.ext ?_)
  match a with
  | ⟨0, _⟩ => show 0 * 1024 + 1 * k.val = k.val; omega
  | ⟨1, _⟩ => show 0 * 1024 + 1 * n.val = n.val; omega

theorem V_bias (c : Dev nD) : V m c main_v0 = (shapeCast S1x1024 (argB m c) shapeCasts_S1024_S1x1024 : S1x1024.Idx → Elt Ideal .f32) := by
  unfold V hostOps0
  after_results
  rfl

theorem blkB (c : Dev nD) (t : Fin cfg0.N) (k : Fin 1024) : iblk m c 10 t (ix2 (0 : Fin 1) k) = argB m c (ix1 k) := by
  show V m c main_v0 _ = _
  rw [V_bias]
  have e : ((cfg0.win 10).blk t).view.emb (ix2 (0 : Fin 1) k : S1x1024.Idx) = (ix2 (0 : Fin 1) k : S1x1024.Idx) := by
    funext a; refine Fin.ext ?_
    match a with
    | ⟨0, _⟩ => rfl
    | ⟨1, _⟩ => show 0 * 1024 + 1 * k.val = k.val; omega
  refine (congrArg (shapeCast S1x1024 (argB m c) shapeCasts_S1024_S1x1024) e).trans ?_
  pointwise

theorem V_gain (c : Dev nD) : V m c main_v1 = (shapeCast S1x1024 (argG m c) shapeCasts_S1024_S1x1024 : S1x1024.Idx → Elt Ideal .f32) := by
  unfold V hostOps0
  after_results
  rfl

theorem blkG (c : Dev nD) (t : Fin cfg0.N) (k : Fin 1024) : iblk m c 11 t (ix2 (0 : Fin 1) k) = argG m c (ix1 k) := by
  show V m c main_v1 _ = _
  rw [V_gain]
  have e : ((cfg0.win 11).blk t).view.emb (ix2 (0 : Fin 1) k : S1x1024.Idx) = (ix2 (0 : Fin 1) k : S1x1024.Idx) := by
    funext a; refine Fin.ext ?_
    match a with
    | ⟨0, _⟩ => rfl
    | ⟨1, _⟩ => show 0 * 1024 + 1 * k.val = k.val; omega
  refine (congrArg (shapeCast S1x1024 (argG m c) shapeCasts_S1024_S1x1024) e).trans ?_
  pointwise

/-- The modulation read for a tile is its rows'. -/
theorem mods_tile (c : Dev nD) (t : Fin cfg0.N) (k : Fin 4) (r : Fin 256) (j : Fin 6) (n : Fin 1024) :
    modsAt (grid0.coords t) k (iblk m c 8 t) (ix3 (0 : Fin 1) j n) = argM m c (ix3 (modOf (rowAt t k r)) j n) := by
  rw [blkM]
  unfold modsAt
  refine congrArg (argM m c) (funext fun a => Fin.ext ?_)
  match a with
  | ⟨0, _⟩ =>
    have e : k0_off1 (grid0.coords t) (BitVec.ofNat 32 k.val) 0 = if (4 * t.val + k.val) % 9 = 0 then 0 else 1 + (4 * t.val + k.val) / 9 := congrFun (modsRow t k) 0
    show k0_off1 (grid0.coords t) (BitVec.ofNat 32 k.val) 0 + 1 * 0 = (modOf (rowAt t k r)).val
    rw [e, modOf_rowAt]; omega
  | ⟨1, _⟩ =>
    have e : k0_off1 (grid0.coords t) (BitVec.ofNat 32 k.val) 1 = 0 := congrFun (modsRow t k) 1
    show k0_off1 (grid0.coords t) (BitVec.ofNat 32 k.val) 1 + 1 * j.val = j.val
    rw [e]; omega
  | ⟨2, _⟩ =>
    have e : k0_off1 (grid0.coords t) (BitVec.ofNat 32 k.val) 2 = 0 := congrFun (modsRow t k) 2
    show k0_off1 (grid0.coords t) (BitVec.ofNat 32 k.val) 2 + 1 * n.val = n.val
    rw [e]; omega

/-- The sums of a tile. -/
theorem tile_sum (c : Dev nD) (t : Fin cfg0.N) (k : Fin 4) (r : Fin 256) (n : Fin 1024) :
    mixAt (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) k (ix2 r n) = sumAt m c (rowAt t k r) n := by
  match k with
  | ⟨0, _⟩ =>
    show mix (F := Ideal) (modsAt (grid0.coords t) 0 (iblk m c 8 t)) (iblk m c 4 t) (iblk m c 9 t) (iblk m c 0 t) (iblk m c 10 t) (ix2 r n) = sumAt m c (rowAt t 0 r) n
    rw [mix_apply, mods_tile m c t 0 r, blkB, blk0]
    simp only [blk4, blkW]
    rfl
  | ⟨1, _⟩ =>
    show mix (F := Ideal) (modsAt (grid0.coords t) 1 (iblk m c 8 t)) (iblk m c 5 t) (iblk m c 9 t) (iblk m c 1 t) (iblk m c 10 t) (ix2 r n) = sumAt m c (rowAt t 1 r) n
    rw [mix_apply, mods_tile m c t 1 r, blkB, blk1]
    simp only [blk5, blkW]
    rfl
  | ⟨2, _⟩ =>
    show mix (F := Ideal) (modsAt (grid0.coords t) 2 (iblk m c 8 t)) (iblk m c 6 t) (iblk m c 9 t) (iblk m c 2 t) (iblk m c 10 t) (ix2 r n) = sumAt m c (rowAt t 2 r) n
    rw [mix_apply, mods_tile m c t 2 r, blkB, blk2]
    simp only [blk6, blkW]
    rfl
  | ⟨3, _⟩ =>
    show mix (F := Ideal) (modsAt (grid0.coords t) 3 (iblk m c 8 t)) (iblk m c 7 t) (iblk m c 9 t) (iblk m c 3 t) (iblk m c 10 t) (ix2 r n) = sumAt m c (rowAt t 3 r) n
    rw [mix_apply, mods_tile m c t 3 r, blkB, blk3]
    simp only [blk7, blkW]
    rfl

/-- The normalised rows of a tile. -/
theorem tile_norm (c : Dev nD) (t : Fin cfg0.N) (k : Fin 4) (r : Fin 256) (d : Fin 1024) :
    feedAt (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k (ix2 r d) = normAt m c (rowAt t k r) d := by
  unfold feedAt
  rw [feed_apply]
  simp only [mods_tile m c t k r, tile_sum, blkG]
  rfl

/-- What a point leaves in its block of sums. -/
theorem block_sum (c : Dev nD) (t : Fin cfg0.N) (z : Fin 1024) (n : Fin 1024) (R : Fin 18432) (hR : R.val = t.val * 1024 + z.val) :
    xoBlk m c t (ix2 z n) = sumAt m c R n := by
  have e : rowAt t ⟨z.val / 256, by omega⟩ ⟨z.val % 256, by omega⟩ = R := Fin.ext (by
    show (4 * t.val + z.val / 256) * 256 + z.val % 256 = R.val; omega)
  refine Eq.trans ?_ ((tile_sum m c t ⟨z.val / 256, by omega⟩ ⟨z.val % 256, by omega⟩ n).trans (by rw [e]))
  unfold xoBlk bands
  exact congrArg _ (funext fun a => match a with | ⟨0, _⟩ => rfl | ⟨1, _⟩ => rfl)

/-- What it leaves in its block of normalised rows. -/
theorem block_norm (c : Dev nD) (t : Fin cfg0.N) (z : Fin 8192) (l : Fin 128) (R : Fin 18432) (d : Fin 1024) (hR : R.val = (t.val * 8192 + z.val) / 8)
    (hd : d.val = z.val % 8 * 128 + l.val) : hBlk m c t (ix2 z l) = normAt m c R d := by
  have e : rowAt t ⟨z.val / 2048, by omega⟩ ⟨z.val / 8 % 256, by omega⟩ = R := Fin.ext (by
    show (4 * t.val + z.val / 2048) * 256 + z.val / 8 % 256 = R.val; omega)
  refine Eq.trans ?_ ((tile_norm m c t ⟨z.val / 2048, by omega⟩ ⟨z.val / 8 % 256, by omega⟩ d).trans (by rw [e]))
  unfold hBlk spread
  exact congrArg _ (funext fun a => match a with | ⟨0, _⟩ => rfl | ⟨1, _⟩ => Fin.ext hd.symm)

/-- The first array ends at the sums. -/
theorem arr_xo (c : Dev nD) : (dats m 0 c).arrAt 14 cfg0.N = outXo m c := by
  refine (dats m 0 c).arrAt_eq_of_covers 14 _ (by decide +kernel) fun t hf y => ?_
  show (dats m 0 c).after 14 t y = outXo m c _
  rw [after0_14]
  obtain ⟨z, n, rfl⟩ : ∃ (z : Fin 1024) (n : Fin 1024), y = ix2 z n := ⟨y 0, y 1, eq_ix2 y⟩
  have ht := t_lt t
  refine (block_sum m c t z n ⟨t.val * 1024 + z.val, by omega⟩ rfl).trans
    (congrArg (outXo m c) (funext fun a => Fin.ext ?_) : outXo m c (ix2 (⟨t.val * 1024 + z.val, by omega⟩ : Fin 18432) n) = _)
  match a with
  | ⟨0, _⟩ =>
    have e : win0_14.index t 0 = t.val := congrFun (index14 t) 0
    show t.val * 1024 + z.val = win0_14.index t 0 * 1024 + 1 * z.val
    rw [e]; omega
  | ⟨1, _⟩ =>
    have e : win0_14.index t 1 = 0 := congrFun (index14 t) 1
    show n.val = win0_14.index t 1 * 1024 + 1 * n.val
    rw [e]; omega

/-- The other at the normalised rows. -/
theorem arr_h (c : Dev nD) : (dats m 0 c).arrAt 15 cfg0.N = outH m c := by
  refine (dats m 0 c).arrAt_eq_of_covers 15 _ (by decide +kernel) fun t hf y => ?_
  show (dats m 0 c).after 15 t y = outH m c _
  rw [after0_15]
  obtain ⟨z, l, rfl⟩ : ∃ (z : Fin 8192) (l : Fin 128), y = ix2 z l := ⟨y 0, y 1, eq_ix2 y⟩
  have ht := t_lt t
  refine (block_norm m c t z l ⟨(t.val * 8192 + z.val) / 8, by omega⟩ ⟨(t.val * 8192 + z.val) % 8 * 128 + l.val, by omega⟩ rfl
      (by show (t.val * 8192 + z.val) % 8 * 128 + l.val = _; omega)).trans
    (congrArg (outH m c) (funext fun a => Fin.ext ?_) : outH m c (ix2 (⟨t.val * 8192 + z.val, by omega⟩ : Fin 147456) l) = _)
  match a with
  | ⟨0, _⟩ =>
    have e : win0_15.index t 0 = t.val := congrFun (index15 t) 0
    show t.val * 8192 + z.val = win0_15.index t 0 * 8192 + 1 * z.val
    rw [e]; omega
  | ⟨1, _⟩ =>
    have e : win0_15.index t 1 = 0 := congrFun (index15 t) 1
    show l.val = win0_15.index t 1 * 128 + 1 * l.val
    rw [e]; omega

end Cert.RouteIdeal.Hand

end
-- ==== Proof.RefRows.lean ====
module

public import proofs.«01_k».proof.Proof.Gen.GatedRefIdeal.Run
public import proofs.«01_k».proof.Proof.Project

@[expose] public section

set_option maxRecDepth 16384

noncomputable section

namespace Cert.GatedRefIdeal.Hand

open Cert.GatedRefIdeal Cert.GatedRefIdeal.Gen Cert.Project
open Idealize.ShloMosaic

/-- The context rows over their root mean square, times the gain. -/
def ctxNorm (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

/-- The sequence rows over theirs. -/
def latNorm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The context's rows of the folded stream. -/
def ctxOf (x : FVec Ideal S18432x1024 .f32) : FVec Ideal S8x256x1024 .f32 :=
  extractStridedSlice S8x256x1024 ![0, 0, 0] (shapeCast S8x2304x1024 x shapeCasts_S18432x1024_S8x2304x1024) slices_S8x2304x1024_S8x256x1024_0_0_0

/-- The sequences' rows. -/
def latOf (x : FVec Ideal S18432x1024 .f32) : FVec Ideal S8x2048x1024 .f32 :=
  extractStridedSlice S8x2048x1024 ![0, 256, 0] (shapeCast S8x2304x1024 x shapeCasts_S18432x1024_S8x2304x1024) slices_S8x2304x1024_S8x2048x1024_0_256_0

/-- Context rows scaled and shifted by the first modulation. -/
def ctxMod (y : FVec Ideal S8x256x1024 .f32) (mods : FVec Ideal S16x6x1024 .f32) : FVec Ideal S8x256x1024 .f32 :=
  addf (mulf y (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast S1024 (extractStridedSlice S1x1x1024 ![0, 1, 0] mods slices_S16x6x1024_S1x1x1024_0_1_0) shapeCasts_S1x1x1024_S1024)))))
    (broadcastInDim S8x256x1024 ![0, 1, 2] bcast_S1x1x1024_S8x256x1024_0_1_2 (broadcastInDim S1x1x1024 ![2] bcast_S1024_S1x1x1024_2 (shapeCast S1024 (extractStridedSlice S1x1x1024 ![0, 0, 0] mods slices_S16x6x1024_S1x1x1024_0_0_0) shapeCasts_S1x1x1024_S1024)))

/-- Sequence rows by their own. -/
def latMod (y : FVec Ideal S8x2048x1024 .f32) (mods : FVec Ideal S16x6x1024 .f32) : FVec Ideal S8x2048x1024 .f32 :=
  addf (mulf y (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![1, 1, 0] mods slices_S16x6x1024_S8x1x1024_1_1_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2 (shapeCast S8x1024 (extractStridedSlice S8x1x1024 ![1, 0, 0] mods slices_S16x6x1024_S8x1x1024_1_0_0) shapeCasts_S8x1x1024_S8x1024)))

/-- All rows, normalised and modulated. -/
def rows (x : FVec Ideal S18432x1024 .f32) (mods : FVec Ideal S16x6x1024 .f32) (g : FVec Ideal S1024 .f32) : FVec Ideal S8x2304x1024 .f32 :=
  concatenate S8x2304x1024 1 [⟨S8x256x1024, ctxMod (ctxNorm (ctxOf x) g) mods⟩, ⟨S8x2048x1024, latMod (latNorm (latOf x) g) mods⟩] concatenates_S8x256x1024_S8x2048x1024_S8x2304x1024_d1

theorem both_apply (A : S8x256x1024.Idx → Elt Ideal .f32) (B : S8x2048x1024.Idx → Elt Ideal .f32) (b : Fin 8) (s : Fin 2304) (d : Fin 1024) :
    concatenate S8x2304x1024 1 [⟨S8x256x1024, A⟩, ⟨S8x2048x1024, B⟩] concatenates_S8x256x1024_S8x2048x1024_S8x2304x1024_d1 (ix3 b s d)
      = if h : s.val < 256 then A (ix3 b (⟨s.val, h⟩ : Fin 256) d) else B (ix3 b (⟨s.val - 256, by omega⟩ : Fin 2048) d) := by
  pointwise

theorem ctxOf_apply (x : FVec Ideal S18432x1024 .f32) (b : Fin 8) (s : Fin 256) (d : Fin 1024) :
    ctxOf x (ix3 b s d) = x (ix2 (⟨b.val * 2304 + s.val, by omega⟩ : Fin 18432) d) := by
  pointwise [ctxOf]

theorem latOf_apply (x : FVec Ideal S18432x1024 .f32) (b : Fin 8) (s : Fin 2048) (d : Fin 1024) :
    latOf x (ix3 b s d) = x (ix2 (⟨b.val * 2304 + (256 + s.val), by omega⟩ : Fin 18432) d) := by
  pointwise [latOf]

theorem ctxMod_apply (y : FVec Ideal S8x256x1024 .f32) (mods : FVec Ideal S16x6x1024 .f32) (b : Fin 8) (s : Fin 256) (d : Fin 1024) :
    ctxMod y mods (ix3 b s d) = (y (ix3 b s d) : EReal) * (1 + mods (ix3 (0 : Fin 16) (1 : Fin 6) d)) + mods (ix3 (0 : Fin 16) (0 : Fin 6) d) := by
  pointwise [ctxMod]

theorem latMod_apply (y : FVec Ideal S8x2048x1024 .f32) (mods : FVec Ideal S16x6x1024 .f32) (b : Fin 8) (s : Fin 2048) (d : Fin 1024) :
    latMod y mods (ix3 b s d) = (y (ix3 b s d) : EReal) * (1 + mods (ix3 (⟨1 + b.val, by omega⟩ : Fin 16) (1 : Fin 6) d))
      + mods (ix3 (⟨1 + b.val, by omega⟩ : Fin 16) (0 : Fin 6) d) := by
  pointwise [latMod]

theorem ctxNorm_apply (x : FVec Ideal S8x256x1024 .f32) (g : FVec Ideal S1024 .f32) (b : Fin 8) (s : Fin 256) (d : Fin 1024) :
    ctxNorm x g (ix3 b s d) = (x (ix3 b s d) : EReal) * Ideal.rsqrt (Ideal.div (∑ k : Fin 1024, (x (ix3 b s k) : EReal) * x (ix3 b s k)) (Ideal.ofBits FTy.f32 1149239296#32) + Ideal.ofBits FTy.f32 897988541#32) * g (ix1 d) := by
  pointwise [ctxNorm]

theorem latNorm_apply (x : FVec Ideal S8x2048x1024 .f32) (g : FVec Ideal S1024 .f32) (b : Fin 8) (s : Fin 2048) (d : Fin 1024) :
    latNorm x g (ix3 b s d) = (x (ix3 b s d) : EReal) * Ideal.rsqrt (Ideal.div (∑ k : Fin 1024, (x (ix3 b s k) : EReal) * x (ix3 b s k)) (Ideal.ofBits FTy.f32 1149239296#32) + Ideal.ofBits FTy.f32 897988541#32) * g (ix1 d) := by
  pointwise [latNorm]

/-- A row of the folded stream, normalised and modulated. -/
theorem rows_apply (x : FVec Ideal S18432x1024 .f32) (mods : FVec Ideal S16x6x1024 .f32) (g : FVec Ideal S1024 .f32) (r : Fin 18432) (d : Fin 1024) :
    rows x mods g (ix3 (⟨r.val / 2304, by omega⟩ : Fin 8) (⟨r.val % 2304, by omega⟩ : Fin 2304) d)
      = normed (fun k => x (ix2 r k)) (fun k => g (ix1 k)) (fun k => mods (ix3 (modOf r) (0 : Fin 6) k)) (fun k => mods (ix3 (modOf r) (1 : Fin 6) k)) d := by
  unfold rows normed modOf
  rw [both_apply]
  by_cases h : r.val % 2304 < 256
  · rw [dif_pos h, if_pos h]
    have e : (⟨r.val / 2304 * 2304 + r.val % 2304, by omega⟩ : Fin 18432) = r := Fin.ext (by show r.val / 2304 * 2304 + r.val % 2304 = r.val; omega)
    simp only [ctxMod_apply, ctxNorm_apply, ctxOf_apply, e]
  · rw [dif_neg h, if_neg h]
    have e : (⟨r.val / 2304 * 2304 + (256 + (r.val % 2304 - 256)), by omega⟩ : Fin 18432) = r :=
      Fin.ext (by show r.val / 2304 * 2304 + (256 + (r.val % 2304 - 256)) = r.val; omega)
    simp only [latMod_apply, latNorm_apply, latOf_apply, e]

end Cert.GatedRefIdeal.Hand

end
-- ==== Proof.RefRoute.lean ====
module

public import proofs.«01_k».proof.Proof.Gen.RouteRefIdeal.Run
public import proofs.«01_k».proof.Proof.RefRows

@[expose] public section

set_option maxRecDepth 16384

noncomputable section

namespace Cert.RouteRefIdeal.Hand

open Cert.RouteRefIdeal Cert.RouteRefIdeal.Gen Cert.Project
open Cert.GatedRefIdeal.Hand (ctxNorm latNorm ctxOf latOf ctxNorm_apply latNorm_apply ctxOf_apply latOf_apply both_apply)
open Idealize.ShloMosaic
open Idealize.ShloMosaic.TcCoe

/-- Context rows scaled and shifted by the first modulation. -/
def ctxMod (y : FVec Ideal S8x256x1024 .f32) (mods : FVec Ideal S16x6x1024 .f32) : FVec Ideal S8x256x1024 .f32 :=
  addf (mulf y (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast S1024 (extractStridedSlice S1x1x1024 ![0, 4, 0] mods slices_S16x6x1024_S1x1x1024_0_4_0) shapeCasts_S1x1x1024_S1024)))))
    (broadcastInDim S8x256x1024 ![0, 1, 2] bcast_S1x1x1024_S8x256x1024_0_1_2 (broadcastInDim S1x1x1024 ![2] bcast_S1024_S1x1x1024_2 (shapeCast S1024 (extractStridedSlice S1x1x1024 ![0, 3, 0] mods slices_S16x6x1024_S1x1x1024_0_3_0) shapeCasts_S1x1x1024_S1024)))

/-- Sequence rows by their own. -/
def latMod (y : FVec Ideal S8x2048x1024 .f32) (mods : FVec Ideal S16x6x1024 .f32) : FVec Ideal S8x2048x1024 .f32 :=
  addf (mulf y (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![1, 4, 0] mods slices_S16x6x1024_S8x1x1024_1_4_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2 (shapeCast S8x1024 (extractStridedSlice S8x1x1024 ![1, 3, 0] mods slices_S16x6x1024_S8x1x1024_1_3_0) shapeCasts_S8x1x1024_S8x1024)))

/-- The context's rows of what is folded by sequence. -/
def ctxPart (x : FVec Ideal S8x2304x1024 .f32) : FVec Ideal S8x256x1024 .f32 :=
  extractStridedSlice S8x256x1024 ![0, 0, 0] x slices_S8x2304x1024_S8x256x1024_0_0_0

/-- The sequences' rows of it. -/
def latPart (x : FVec Ideal S8x2304x1024 .f32) : FVec Ideal S8x2048x1024 .f32 :=
  extractStridedSlice S8x2048x1024 ![0, 256, 0] x slices_S8x2304x1024_S8x2048x1024_0_256_0

/-- The projection of every row. -/
def proj (y : FVec Ideal S18432x1024 .bf16) (w : FVec Ideal S1024x1024 .bf16) (b : FVec Ideal S1024 .f32) : FVec Ideal S8x2304x1024 .f32 :=
  addf (Host.dotGeneral dot_S8x2304x1024_S1024x1024_S8x2304x1024_2_0_01_1_n_n none (extf .f32 (shapeCast S8x2304x1024 y shapeCasts_S18432x1024_S8x2304x1024) bitsLt_bf16_f32) (extf .f32 w bitsLt_bf16_f32))
    (broadcastInDim S8x2304x1024 ![0, 1, 2] bcast_S1x1x1024_S8x2304x1024_0_1_2 (broadcastInDim S1x1x1024 ![2] bcast_S1024_S1x1x1024_2 b))

/-- Context rows plus their projection, gated by the first modulation. -/
def ctxSum (x p : FVec Ideal S8x256x1024 .f32) (mods : FVec Ideal S16x6x1024 .f32) : FVec Ideal S8x256x1024 .f32 :=
  addf x (mulf (broadcastInDim S8x256x1024 ![0, 1, 2] bcast_S1x1x1024_S8x256x1024_0_1_2 (broadcastInDim S1x1x1024 ![2] bcast_S1024_S1x1x1024_2 (shapeCast S1024 (extractStridedSlice S1x1x1024 ![0, 2, 0] mods slices_S16x6x1024_S1x1x1024_0_2_0) shapeCasts_S1x1x1024_S1024))) p)

/-- Sequence rows plus theirs, gated by their own. -/
def latSum (x p : FVec Ideal S8x2048x1024 .f32) (mods : FVec Ideal S16x6x1024 .f32) : FVec Ideal S8x2048x1024 .f32 :=
  addf x (mulf (broadcastInDim S8x2048x1024 ![0, 1, 2] bcast_S8x1x1024_S8x2048x1024_0_1_2 (broadcastInDim S8x1x1024 ![0, 2] bcast_S8x1024_S8x1x1024_0_2 (shapeCast S8x1024 (extractStridedSlice S8x1x1024 ![1, 2, 0] mods slices_S16x6x1024_S8x1x1024_1_2_0) shapeCasts_S8x1x1024_S8x1024))) p)

/-- The sums of the context's rows, and of the sequences'. -/
def ctxXo (x : FVec Ideal S18432x1024 .f32) (y : FVec Ideal S18432x1024 .bf16) (mods : FVec Ideal S16x6x1024 .f32) (w : FVec Ideal S1024x1024 .bf16) (b : FVec Ideal S1024 .f32) : FVec Ideal S8x256x1024 .f32 :=
  ctxSum (ctxOf x) (ctxPart (proj y w b)) mods
def latXo (x : FVec Ideal S18432x1024 .f32) (y : FVec Ideal S18432x1024 .bf16) (mods : FVec Ideal S16x6x1024 .f32) (w : FVec Ideal S1024x1024 .bf16) (b : FVec Ideal S1024 .f32) : FVec Ideal S8x2048x1024 .f32 :=
  latSum (latOf x) (latPart (proj y w b)) mods

/-- The two results. -/
def xoTerm (x : FVec Ideal S18432x1024 .f32) (y : FVec Ideal S18432x1024 .bf16) (mods : FVec Ideal S16x6x1024 .f32) (w : FVec Ideal S1024x1024 .bf16) (b : FVec Ideal S1024 .f32) : FVec Ideal S18432x1024 .f32 :=
  shapeCast S18432x1024 (concatenate S8x2304x1024 1 [⟨S8x256x1024, ctxXo x y mods w b⟩, ⟨S8x2048x1024, latXo x y mods w b⟩] concatenates_S8x256x1024_S8x2048x1024_S8x2304x1024_d1) shapeCasts_S8x2304x1024_S18432x1024
def hTerm (x : FVec Ideal S18432x1024 .f32) (y : FVec Ideal S18432x1024 .bf16) (mods : FVec Ideal S16x6x1024 .f32) (w : FVec Ideal S1024x1024 .bf16) (b g : FVec Ideal S1024 .f32) : FVec Ideal S147456x128 .f32 :=
  shapeCast S147456x128 (shapeCast S18432x1024 (concatenate S8x2304x1024 1 [⟨S8x256x1024, ctxMod (ctxNorm (ctxXo x y mods w b) g) mods⟩, ⟨S8x2048x1024, latMod (latNorm (latXo x y mods w b) g) mods⟩] concatenates_S8x256x1024_S8x2048x1024_S8x2304x1024_d1) shapeCasts_S8x2304x1024_S18432x1024) shapeCasts_S18432x1024_S147456x128

theorem ctxMod_apply (y : FVec Ideal S8x256x1024 .f32) (mods : FVec Ideal S16x6x1024 .f32) (b : Fin 8) (s : Fin 256) (d : Fin 1024) :
    ctxMod y mods (ix3 b s d) = (y (ix3 b s d) : EReal) * (1 + mods (ix3 (0 : Fin 16) (4 : Fin 6) d)) + mods (ix3 (0 : Fin 16) (3 : Fin 6) d) := by
  pointwise [ctxMod]

theorem latMod_apply (y : FVec Ideal S8x2048x1024 .f32) (mods : FVec Ideal S16x6x1024 .f32) (b : Fin 8) (s : Fin 2048) (d : Fin 1024) :
    latMod y mods (ix3 b s d) = (y (ix3 b s d) : EReal) * (1 + mods (ix3 (⟨1 + b.val, by omega⟩ : Fin 16) (4 : Fin 6) d))
      + mods (ix3 (⟨1 + b.val, by omega⟩ : Fin 16) (3 : Fin 6) d) := by
  pointwise [latMod]

theorem ctxPart_apply (x : FVec Ideal S8x2304x1024 .f32) (b : Fin 8) (s : Fin 256) (d : Fin 1024) :
    ctxPart x (ix3 b s d) = x (ix3 b (⟨s.val, by omega⟩ : Fin 2304) d) := by
  pointwise [ctxPart]

theorem latPart_apply (x : FVec Ideal S8x2304x1024 .f32) (b : Fin 8) (s : Fin 2048) (d : Fin 1024) :
    latPart x (ix3 b s d) = x (ix3 b (⟨256 + s.val, by omega⟩ : Fin 2304) d) := by
  pointwise [latPart]

theorem proj_apply (y : FVec Ideal S18432x1024 .bf16) (w : FVec Ideal S1024x1024 .bf16) (b : FVec Ideal S1024 .f32) (i : Fin 8) (s : Fin 2304) (n : Fin 1024) :
    proj y w b (ix3 i s n) = (∑ d : Fin 1024, (y (ix2 (⟨i.val * 2304 + s.val, by omega⟩ : Fin 18432) d) : EReal) * w (ix2 d n)) + b (ix1 n) := by
  pointwise [proj]

theorem ctxSum_apply (x p : FVec Ideal S8x256x1024 .f32) (mods : FVec Ideal S16x6x1024 .f32) (b : Fin 8) (s : Fin 256) (d : Fin 1024) :
    ctxSum x p mods (ix3 b s d) = (x (ix3 b s d) : EReal) + mods (ix3 (0 : Fin 16) (2 : Fin 6) d) * p (ix3 b s d) := by
  pointwise [ctxSum]

theorem latSum_apply (x p : FVec Ideal S8x2048x1024 .f32) (mods : FVec Ideal S16x6x1024 .f32) (b : Fin 8) (s : Fin 2048) (d : Fin 1024) :
    latSum x p mods (ix3 b s d) = (x (ix3 b s d) : EReal) + mods (ix3 (⟨1 + b.val, by omega⟩ : Fin 16) (2 : Fin 6) d) * p (ix3 b s d) := by
  pointwise [latSum]

theorem fold_apply (z : FVec Ideal S8x2304x1024 .f32) (r : Fin 18432) (d : Fin 1024) :
    (shapeCast S18432x1024 z shapeCasts_S8x2304x1024_S18432x1024 : FVec Ideal S18432x1024 .f32) (ix2 r d)
      = z (ix3 (⟨r.val / 2304, by omega⟩ : Fin 8) (⟨r.val % 2304, by omega⟩ : Fin 2304) d) := by
  pointwise

theorem lanes_apply (z : FVec Ideal S18432x1024 .f32) (q : Fin 147456) (l : Fin 128) :
    (shapeCast S147456x128 z shapeCasts_S18432x1024_S147456x128 : FVec Ideal S147456x128 .f32) (ix2 q l)
      = z (ix2 (⟨q.val / 8, by omega⟩ : Fin 18432) (⟨q.val % 8 * 128 + l.val, by omega⟩ : Fin 1024)) := by
  pointwise

theorem ctxXo_apply (x : FVec Ideal S18432x1024 .f32) (y : FVec Ideal S18432x1024 .bf16) (mods : FVec Ideal S16x6x1024 .f32) (w : FVec Ideal S1024x1024 .bf16) (b : FVec Ideal S1024 .f32)
    (r : Fin 18432) (h : r.val % 2304 < 256) (n : Fin 1024) :
    ctxXo x y mods w b (ix3 (⟨r.val / 2304, by omega⟩ : Fin 8) (⟨r.val % 2304, h⟩ : Fin 256) n)
      = mixed (fun r k => x (ix2 r k)) (fun r k => y (ix2 r k)) (fun i j k => mods (ix3 i j k)) (fun k n => w (ix2 k n)) (fun n => b (ix1 n)) r n := by
  have e : (⟨r.val / 2304 * 2304 + r.val % 2304, by omega⟩ : Fin 18432) = r := Fin.ext (by show r.val / 2304 * 2304 + r.val % 2304 = r.val; omega)
  unfold ctxXo mixed modOf
  rw [if_pos h]
  simp only [ctxSum_apply, ctxOf_apply, ctxPart_apply, proj_apply, e]

theorem latXo_apply (x : FVec Ideal S18432x1024 .f32) (y : FVec Ideal S18432x1024 .bf16) (mods : FVec Ideal S16x6x1024 .f32) (w : FVec Ideal S1024x1024 .bf16) (b : FVec Ideal S1024 .f32)
    (r : Fin 18432) (h : ¬r.val % 2304 < 256) (n : Fin 1024) :
    latXo x y mods w b (ix3 (⟨r.val / 2304, by omega⟩ : Fin 8) (⟨r.val % 2304 - 256, by omega⟩ : Fin 2048) n)
      = mixed (fun r k => x (ix2 r k)) (fun r k => y (ix2 r k)) (fun i j k => mods (ix3 i j k)) (fun k n => w (ix2 k n)) (fun n => b (ix1 n)) r n := by
  have e : (⟨r.val / 2304 * 2304 + (256 + (r.val % 2304 - 256)), by omega⟩ : Fin 18432) = r :=
    Fin.ext (by show r.val / 2304 * 2304 + (256 + (r.val % 2304 - 256)) = r.val; omega)
  unfold latXo mixed modOf
  rw [if_neg h]
  simp only [latSum_apply, latOf_apply, latPart_apply, proj_apply, e]

theorem xoTerm_apply (x : FVec Ideal S18432x1024 .f32) (y : FVec Ideal S18432x1024 .bf16) (mods : FVec Ideal S16x6x1024 .f32) (w : FVec Ideal S1024x1024 .bf16) (b : FVec Ideal S1024 .f32)
    (r : Fin 18432) (n : Fin 1024) :
    xoTerm x y mods w b (ix2 r n)
      = mixed (fun r k => x (ix2 r k)) (fun r k => y (ix2 r k)) (fun i j k => mods (ix3 i j k)) (fun k n => w (ix2 k n)) (fun n => b (ix1 n)) r n := by
  unfold xoTerm
  rw [fold_apply, both_apply]
  by_cases h : r.val % 2304 < 256
  · rw [dif_pos h]; exact ctxXo_apply x y mods w b r h n
  · rw [dif_neg h]; exact latXo_apply x y mods w b r h n

theorem hTerm_apply (x : FVec Ideal S18432x1024 .f32) (y : FVec Ideal S18432x1024 .bf16) (mods : FVec Ideal S16x6x1024 .f32) (w : FVec Ideal S1024x1024 .bf16) (b g : FVec Ideal S1024 .f32)
    (q : Fin 147456) (l : Fin 128) (r : Fin 18432) (d : Fin 1024) (hr : r.val = q.val / 8) (hd : d.val = q.val % 8 * 128 + l.val) :
    hTerm x y mods w b g (ix2 q l)
      = normed (mixed (fun r k => x (ix2 r k)) (fun r k => y (ix2 r k)) (fun i j k => mods (ix3 i j k)) (fun k n => w (ix2 k n)) (fun n => b (ix1 n)) r)
          (fun k => g (ix1 k)) (fun k => mods (ix3 (modOf r) (3 : Fin 6) k)) (fun k => mods (ix3 (modOf r) (4 : Fin 6) k)) d := by
  unfold hTerm
  rw [lanes_apply, show (⟨q.val / 8, by omega⟩ : Fin 18432) = r from Fin.ext hr.symm,
    show (⟨q.val % 8 * 128 + l.val, by omega⟩ : Fin 1024) = d from Fin.ext hd.symm, fold_apply, both_apply]
  unfold normed
  by_cases h : r.val % 2304 < 256
  · have em : modOf r = 0 := if_pos h
    rw [dif_pos h]
    simp only [ctxMod_apply, ctxNorm_apply, ctxXo_apply x y mods w b r h, em]
  · have em : modOf r = ⟨1 + r.val / 2304, by omega⟩ := if_neg h
    rw [dif_neg h]
    simp only [latMod_apply, latNorm_apply, latXo_apply x y mods w b r h, em]

variable (m : (ℓ : Loc nD τ sig) → Buf (Elt Ideal) ℓ) (c : Dev nD)

theorem out1_eq : Value.res_out1 (F := Ideal) m c
    = hTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

end Cert.RouteRefIdeal.Hand

end
-- ==== Proof.FrameLast.lean ====
module

public import proofs.«01_k».proof.Proof.RunLast
public import Idealize.ShloMosaic.Lib.Pipeline.TableIdle

@[expose] public section

set_option maxRecDepth 16384
set_option Elab.async false

noncomputable section

namespace Cert.Last.Hand

open Cert.Last Cert.Last.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write four arrays and no other. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by assumption)))
theorem V_main_arg0 (c : Dev nD) : V m c main_arg0 = m ((c : Thread nD τ).loc main_arg0) :=
  V_of_ne m c main_arg0 (by decide) (by decide) (by decide) (by decide)
theorem V_main_arg1 (c : Dev nD) : V m c main_arg1 = m ((c : Thread nD τ).loc main_arg1) :=
  V_of_ne m c main_arg1 (by decide) (by decide) (by decide) (by decide)
theorem V_main_arg2 (c : Dev nD) : V m c main_arg2 = m ((c : Thread nD τ).loc main_arg2) :=
  V_of_ne m c main_arg2 (by decide) (by decide) (by decide) (by decide)
theorem V_main_arg3 (c : Dev nD) : V m c main_arg3 = m ((c : Thread nD τ).loc main_arg3) :=
  V_of_ne m c main_arg3 (by decide) (by decide) (by decide) (by decide)
theorem V_main_arg4 (c : Dev nD) : V m c main_arg4 = m ((c : Thread nD τ).loc main_arg4) :=
  V_of_ne m c main_arg4 (by decide) (by decide) (by decide) (by decide)
theorem V_main_arg5 (c : Dev nD) : V m c main_arg5 = m ((c : Thread nD τ).loc main_arg5) :=
  V_of_ne m c main_arg5 (by decide) (by decide) (by decide) (by decide)
theorem V_main_arg6 (c : Dev nD) : V m c main_arg6 = m ((c : Thread nD τ).loc main_arg6) :=
  V_of_ne m c main_arg6 (by decide) (by decide) (by decide) (by decide)
theorem V_main_arg7 (c : Dev nD) : V m c main_arg7 = m ((c : Thread nD τ).loc main_arg7) :=
  V_of_ne m c main_arg7 (by decide) (by decide) (by decide) (by decide)

set_option maxHeartbeats 8000000 in
/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
abbrev st0_13 (t : Fin cfg0.N) := (cfg0.win 13).stage (cfg0.slots t 13)
abbrev st0_14 (t : Fin cfg0.N) := (cfg0.win 14).stage (cfg0.slots t 14)
abbrev st0_15 (t : Fin cfg0.N) := (cfg0.win 15).stage (cfg0.slots t 15)
abbrev st0_16 (t : Fin cfg0.N) := (cfg0.win 16).stage (cfg0.slots t 16)
abbrev st0_17 (t : Fin cfg0.N) := (cfg0.win 17).stage (cfg0.slots t 17)
abbrev st0_18 (t : Fin cfg0.N) := (cfg0.win 18).stage (cfg0.slots t 18)
abbrev st0_19 (t : Fin cfg0.N) := (cfg0.win 19).stage (cfg0.slots t 19)

set_option maxHeartbeats 8000000 in
/-- The body at point `t`, on what the pipeline calls it with. -/
abbrev bodyAt0 (t : Fin cfg0.N) : Prog (TpuEff nD τ sig (Elt F) Λ₀ .tc) PUnit :=
  cc0_out_route (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) scR (Memref.isWhole_whole _)

/-- The windows nothing is said of. -/
def forgets0 : Fin 20 → Bool := fun w => decide (14 ≤ w.val)

/-- The proof data: the arrays as the kernel finds them, what the body leaves in each window, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨n + 20, h⟩ => absurd (show n + 20 < 20 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare (d))
    ∗ (∃ d, owns (c : Thread nD τ) (st0_15 t) fullShare (d))
    ∗ (∃ d, owns (c : Thread nD τ) (st0_16 t) fullShare (d))
    ∗ (∃ d, owns (c : Thread nD τ) (st0_17 t) fullShare (d))
    ∗ (∃ d, owns (c : Thread nD τ) (st0_18 t) fullShare (d))
    ∗ (∃ d, owns (c : Thread nD τ) (st0_19 t) fullShare (d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (∃ d, owns (c : Thread nD τ) (st0_14 t) fullShare (d))
    ∗ (∃ d, owns (c : Thread nD τ) (st0_15 t) fullShare (d))
    ∗ (∃ d, owns (c : Thread nD τ) (st0_16 t) fullShare (d))
    ∗ (∃ d, owns (c : Thread nD τ) (st0_17 t) fullShare (d))
    ∗ (∃ d, owns (c : Thread nD τ) (st0_18 t) fullShare (d))
    ∗ (∃ d, owns (c : Thread nD τ) (st0_19 t) fullShare (d)))

/-- The body's own invariant: the running counts at some contents, the generator register. -/
theorem phi_eq (c : Dev nD) (t) : (dats m 0 c).Φ t = (iprop((∃ f : Buf (Elt F) ((c : Thread nD τ).loc cc0_scratch0), ((c : Thread nD τ).loc cc0_scratch0) ↦{fullShare} f) ∗ ∃ r, prngReg c r) : sProp 𝕄) := by
  rw [show (dats m 0 c).Φ t = Pipeline.ΦA spec0 c from rfl]
  unfold Pipeline.ΦA
  rw [scopedRest0_eq]

set_option maxHeartbeats 4000000 in
theorem body_on (c : Dev nD) (t : Fin cfg0.N) (hc : ¬(condZ (grid0.coords t) = 1#1)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, after0_12, after0_13]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runOn c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc).2.2 (fun _ => fullShare) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS⟩
  isplitl [HS Hg]
  · isplitl [HS]; · iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]
  · unfold owns; iexists _, _; isplitr; swap
    · iexact H14
    · ipureintro; rfl
  isplitl [H15]
  · unfold owns; iexists _, _; isplitr; swap
    · iexact H15
    · ipureintro; rfl
  isplitl [H16]
  · unfold owns; iexists _, _; isplitr; swap
    · iexact H16
    · ipureintro; rfl
  isplitl [H17]
  · unfold owns; iexists _, _; isplitr; swap
    · iexact H17
    · ipureintro; rfl
  isplitl [H18]
  · unfold owns; iexists _, _; isplitr; swap
    · iexact H18
    · ipureintro; rfl
  unfold owns; iexists _, _; isplitr; swap
  · iexact H19
  · ipureintro; rfl

set_option maxHeartbeats 4000000 in
theorem body_first (c : Dev nD) (t : Fin cfg0.N) (h1 : condZ (grid0.coords t) = 1#1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, after0_12, after0_13]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runFirst c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h1).2.2 (fun _ => fullShare) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS⟩
  isplitl [HS Hg]
  · isplitl [HS]; · iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]
  · unfold owns; iexists _, _; isplitr; swap
    · iexact H14
    · ipureintro; rfl
  isplitl [H15]
  · unfold owns; iexists _, _; isplitr; swap
    · iexact H15
    · ipureintro; rfl
  isplitl [H16]
  · unfold owns; iexists _, _; isplitr; swap
    · iexact H16
    · ipureintro; rfl
  isplitl [H17]
  · unfold owns; iexists _, _; isplitr; swap
    · iexact H17
    · ipureintro; rfl
  isplitl [H18]
  · unfold owns; iexists _, _; isplitr; swap
    · iexact H18
    · ipureintro; rfl
  unfold owns; iexists _, _; isplitr; swap
  · iexact H19
  · ipureintro; rfl

theorem sound_body (c : Dev nD) (t : Fin cfg0.N) :
    bodyPre m c t ⊢ wp frame (wpE (defs₀ (F := F)) Variants.none c none) Set.univ (bodyAt0 t) (fun _ => bodyPost m c t) := by
  by_cases h : condZ (grid0.coords t) = 1#1
  · exact body_first m c t h
  · exact body_on m c t h

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every weakly fair execution terminates, the arrays named at their computed contents and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m}

/-- The argument arrays end unchanged. -/
theorem args_of {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
    (h.arr_in c 4 rfl).trans ((A_eq m c 4).trans (V_main_arg1 m c)),
    (h.arr_in c 8 rfl).trans ((A_eq m c 8).trans (V_main_arg2 m c)),
    (h.arr_in c 9 rfl).trans ((A_eq m c 9).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 12 rfl).trans ((A_eq m c 12).trans (V_main_arg6 m c)),
    ((h c).2 main_arg7 (Pipeline.mem_restRefs_of main_arg7 (by decide) (by decide))).trans (V_main_arg7 m c)⟩

variable (m)

/-- The frame: execution terminates, faults nowhere, leaves the arguments and every counter as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_of h.1 c, h.2⟩) (run_main m ρ)

end Cert.Last.Hand

end
-- ==== Proof.RunLastIdeal.lean ====
module

public import proofs.«01_k».proof.Proof.Gen.LastIdeal
public import proofs.«01_k».proof.Proof.Gen.LastIdeal.Skeleton
public import proofs.«01_k».proof.Proof.Gen.LastIdeal.Launch
public import Idealize.ShloMosaic.Lib.Pipeline.Frame
public import Idealize.ShloMosaic.Lib.Pipeline.FrameBody
public import Idealize.ShloMosaic.Lib.Claim
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.LastIdeal.Hand

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The running counts of tokens per expert, carried from point to point. -/
abbrev scR : Memref sig .tc .vmem S16x128 .f32 := Memref.whole cc0_scratch0

/-- The test under which the body starts the running counts at nought. -/
abbrev condZ (i : grid0.Coords) : BitVec 1 :=
  Scalar.cmpi .ne (Scalar.extui (Scalar.cmpi .eq (BitVec.ofNat 32 (i 0).val) 0#32)) 0#32

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .bf16) (harg5 : arg5.IsWhole) (arg6 : Memref sig .tc .vmem S256x1024 .bf16) (harg6 : arg6.IsWhole)
    (arg7 : Memref sig .tc .vmem S256x1024 .bf16) (harg7 : arg7.IsWhole) (arg8 : Memref sig .tc .vmem S256x1024 .bf16) (harg8 : arg8.IsWhole) (arg9 : Memref sig .tc .vmem S16x6x1024 .f32) (harg9 : arg9.IsWhole)
    (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole)
    (arg13 : Memref sig .tc .vmem S16x1024 .f32) (harg13 : arg13.IsWhole) (arg14 : Memref sig .tc .vmem S16x128 .f32) (harg14 : arg14.IsWhole) (arg15 : Memref sig .tc .vmem S1024x1024 .f32) (harg15 : arg15.IsWhole)
    (arg16 : Memref sig .tc .vmem S8192x128 .f32) (harg16 : arg16.IsWhole) (arg17 : Memref sig .tc .vmem S2x1024 .i32) (harg17 : arg17.IsWhole) (arg18 : Memref sig .tc .vmem S2x1024 .f32) (harg18 : arg18.IsWhole)
    (arg19 : Memref sig .tc .vmem S2x1024 .i32) (harg19 : arg19.IsWhole) (arg20 : Memref sig .tc .vmem S16x128 .i32) (harg20 : arg20.IsWhole) (x1 : S256x1024.Idx → Elt F .f32) (x2 : S256x1024.Idx → Elt F .f32) (x3 : S256x1024.Idx → Elt F .f32) (x4 : S256x1024.Idx → Elt F .f32) (x5 : S256x1024.Idx → Elt F .bf16)
    (x6 : S256x1024.Idx → Elt F .bf16) (x7 : S256x1024.Idx → Elt F .bf16) (x8 : S256x1024.Idx → Elt F .bf16) (x9 : S16x6x1024.Idx → Elt F .f32) (x10 : S1024x1024.Idx → Elt F .bf16)
    (x11 : S1x1024.Idx → Elt F .f32) (x12 : S1x1024.Idx → Elt F .f32) (x13 : S16x1024.Idx → Elt F .f32) (x14 : S16x128.Idx → Elt F .f32)

/-- What a run of the body proves: it leaves its inputs, and of the first two results what the pieces `xo` and `h` write. -/
abbrev Leaves (xo : List (View.Piece (Elt F) S1024x1024 .f32)) (h : List (View.Piece (Elt F) S8192x128 .f32)) : Prop :=
      ∀ (q : Fin 14 → PosShare TreeShare) (K : PUnit → sProp 𝕄),
        iprop((arg1.view.loc (c : Thread nD τ) ↦[arg1.view.set]{q 0} arg1.view.rep x1)
          ∗ (arg2.view.loc (c : Thread nD τ) ↦[arg2.view.set]{q 1} arg2.view.rep x2)
          ∗ (arg3.view.loc (c : Thread nD τ) ↦[arg3.view.set]{q 2} arg3.view.rep x3)
          ∗ (arg4.view.loc (c : Thread nD τ) ↦[arg4.view.set]{q 3} arg4.view.rep x4)
          ∗ (arg5.view.loc (c : Thread nD τ) ↦[arg5.view.set]{q 4} arg5.view.rep x5)
          ∗ (arg6.view.loc (c : Thread nD τ) ↦[arg6.view.set]{q 5} arg6.view.rep x6)
          ∗ (arg7.view.loc (c : Thread nD τ) ↦[arg7.view.set]{q 6} arg7.view.rep x7)
          ∗ (arg8.view.loc (c : Thread nD τ) ↦[arg8.view.set]{q 7} arg8.view.rep x8)
          ∗ (arg9.view.loc (c : Thread nD τ) ↦[arg9.view.set]{q 8} arg9.view.rep x9)
          ∗ (arg10.view.loc (c : Thread nD τ) ↦[arg10.view.set]{q 9} arg10.view.rep x10)
          ∗ (arg11.view.loc (c : Thread nD τ) ↦[arg11.view.set]{q 10} arg11.view.rep x11)
          ∗ (arg12.view.loc (c : Thread nD τ) ↦[arg12.view.set]{q 11} arg12.view.rep x12)
          ∗ (arg13.view.loc (c : Thread nD τ) ↦[arg13.view.set]{q 12} arg13.view.rep x13)
          ∗ (arg14.view.loc (c : Thread nD τ) ↦[arg14.view.set]{q 13} arg14.view.rep x14)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ f, scR.view.loc (c : Thread nD τ) ↦{fullShare} f)
          ∗ (iprop((arg1.view.loc (c : Thread nD τ) ↦[arg1.view.set]{q 0} arg1.view.rep x1)
          ∗ (arg2.view.loc (c : Thread nD τ) ↦[arg2.view.set]{q 1} arg2.view.rep x2)
          ∗ (arg3.view.loc (c : Thread nD τ) ↦[arg3.view.set]{q 2} arg3.view.rep x3)
          ∗ (arg4.view.loc (c : Thread nD τ) ↦[arg4.view.set]{q 3} arg4.view.rep x4)
          ∗ (arg5.view.loc (c : Thread nD τ) ↦[arg5.view.set]{q 4} arg5.view.rep x5)
          ∗ (arg6.view.loc (c : Thread nD τ) ↦[arg6.view.set]{q 5} arg6.view.rep x6)
          ∗ (arg7.view.loc (c : Thread nD τ) ↦[arg7.view.set]{q 6} arg7.view.rep x7)
          ∗ (arg8.view.loc (c : Thread nD τ) ↦[arg8.view.set]{q 7} arg8.view.rep x8)
          ∗ (arg9.view.loc (c : Thread nD τ) ↦[arg9.view.set]{q 8} arg9.view.rep x9)
          ∗ (arg10.view.loc (c : Thread nD τ) ↦[arg10.view.set]{q 9} arg10.view.rep x10)
          ∗ (arg11.view.loc (c : Thread nD τ) ↦[arg11.view.set]{q 10} arg11.view.rep x11)
          ∗ (arg12.view.loc (c : Thread nD τ) ↦[arg12.view.set]{q 11} arg12.view.rep x12)
          ∗ (arg13.view.loc (c : Thread nD τ) ↦[arg13.view.set]{q 12} arg13.view.rep x13)
          ∗ (arg14.view.loc (c : Thread nD τ) ↦[arg14.view.set]{q 13} arg14.view.rep x14)
          ∗ (∃ f, arg15.view.loc (c : Thread nD τ) ↦[arg15.view.set]{fullShare} arg15.view.writes (Elt F) f xo)
          ∗ (∃ f, arg16.view.loc (c : Thread nD τ) ↦[arg16.view.set]{fullShare} arg16.view.writes (Elt F) f h)
          ∗ (∃ f, arg17.view.loc (c : Thread nD τ) ↦[arg17.view.set]{fullShare} f)
          ∗ (∃ f, arg18.view.loc (c : Thread nD τ) ↦[arg18.view.set]{fullShare} f)
          ∗ (∃ f, arg19.view.loc (c : Thread nD τ) ↦[arg19.view.set]{fullShare} f)
          ∗ (∃ f, arg20.view.loc (c : Thread nD τ) ↦[arg20.view.set]{fullShare} f)
          ∗ (∃ f, scR.view.loc (c : Thread nD τ) ↦{fullShare} f)) -∗ K ⟨⟩))
        ⊢ wp frame (wpE (defs₀ (F := F)) Variants.none c none) Set.univ
            (cc0_out_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
              scR (Memref.isWhole_whole _)) K

set_option backward.proofsInPublic true in
set_option maxHeartbeats 40000000 in
/-- The body at a later point: the running counts go on. -/
noncomputable def runOn (hc : ¬(condZ i = 1#1)) :
    Σ' (xo : List (View.Piece (Elt F) S1024x1024 .f32)), { h : List (View.Piece (Elt F) S8192x128 .f32) // Leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 xo h } :=
  ⟨_, _, fun q K => by
    unfold owns
    rw [cc0_out_route_eq_skeleton]; unfold cc0_out_route_skel
    iintro ⟨H1, H2, H3, H4, H5, H6, H7, H8, H9, H10, H11, H12, H13, H14, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%sr, HS⟩, Hk⟩
    have hSR : scR.IsWhole := Memref.isWhole_whole _
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS⟩

set_option backward.proofsInPublic true in
set_option maxHeartbeats 40000000 in
/-- The body at the first point: the running counts start at nought. -/
noncomputable def runFirst (hc : condZ i = 1#1) :
    Σ' (xo : List (View.Piece (Elt F) S1024x1024 .f32)), { h : List (View.Piece (Elt F) S8192x128 .f32) // Leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 xo h } :=
  ⟨_, _, fun q K => by
    unfold owns
    rw [cc0_out_route_eq_skeleton]; unfold cc0_out_route_skel
    iintro ⟨H1, H2, H3, H4, H5, H6, H7, H8, H9, H10, H11, H12, H13, H14, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%sr, HS⟩, Hk⟩
    have hSR : scR.IsWhole := Memref.isWhole_whole _
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS⟩

end Cert.LastIdeal.Hand

end
-- ==== Proof.PiecesLastIdeal.lean ====
module

public import proofs.«01_k».proof.Proof.RunLastIdeal
public import proofs.«01_k».proof.Proof.Bands
public import Idealize.ShloMosaic.Lib.VecWindow
public import Idealize.ShloMosaic.Lib.Pipeline.Value

@[expose] public section

set_option maxRecDepth 16384
set_option Elab.async false

noncomputable section

namespace Cert.LastIdeal.Hand

open Cert.LastIdeal Cert.LastIdeal.Gen
open Cert.RouteIdeal.Hand (xoPieces hPieces bands spread read_bands read_spread)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Four tokens' tiles of the sum: the residual plus the gate times the projected rows and their bias. -/
def mix (M : S1x6x1024.Idx → Elt F .f32) (y : S256x1024.Idx → Elt F .bf16) (w : S1024x1024.Idx → Elt F .bf16) (x : S256x1024.Idx → Elt F .f32)
    (b : S1x1024.Idx → Elt F .f32) : FVec F S256x1024 .f32 :=
  k0_pay10 (shapeCast S6x1024 M shapeCasts_S1x6x1024_S6x1024) (k0_pay6 y w) x b

/-- A tile of the sum, normed, scaled and shifted. -/
def feed (M : S1x6x1024.Idx → Elt F .f32) (X : FVec F S256x1024 .f32) (g : S1x1024.Idx → Elt F .f32) : FVec F S256x1024 .f32 :=
  k0_pay19 (shapeCast S6x1024 M shapeCasts_S1x6x1024_S6x1024) X g

/-- The six rows of modulation tile `k` of a point reads. -/
def modsAt (i : grid0.Coords) (k : Fin 4) (x : S16x6x1024.Idx → Elt F .f32) : S1x6x1024.Idx → Elt F .f32 :=
  fun y => x ((Rect.unit (s := S16x6x1024) (k0_off1 i (BitVec.ofNat 32 k.val)) S1x6x1024.size (k0_off1_inb i k)).toLoadRect.idx y)

section

theorem ld_tile {e : EltTy} (v : View sig .tc .vmem S256x1024 e) (x : S256x1024.Idx → Elt F e) (inb) :
    v.readAt (Elt F) (Rect.unit (s := S256x1024) ![0, 0] ![256, 1024] inb).toLoadRect (v.rep x) = x := View.readAt_rep_full v x inb
theorem ld_w {e : EltTy} (v : View sig .tc .vmem S1024x1024 e) (x : S1024x1024.Idx → Elt F e) (inb) :
    v.readAt (Elt F) (Rect.unit (s := S1024x1024) ![0, 0] ![1024, 1024] inb).toLoadRect (v.rep x) = x := View.readAt_rep_full v x inb
theorem ld_row {e : EltTy} (v : View sig .tc .vmem S1x1024 e) (x : S1x1024.Idx → Elt F e) (inb) :
    v.readAt (Elt F) (Rect.unit (s := S1x1024) ![0, 0] ![1, 1024] inb).toLoadRect (v.rep x) = x := View.readAt_rep_full v x inb

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .bf16) (harg5 : arg5.IsWhole) (arg6 : Memref sig .tc .vmem S256x1024 .bf16) (harg6 : arg6.IsWhole)
    (arg7 : Memref sig .tc .vmem S256x1024 .bf16) (harg7 : arg7.IsWhole) (arg8 : Memref sig .tc .vmem S256x1024 .bf16) (harg8 : arg8.IsWhole) (arg9 : Memref sig .tc .vmem S16x6x1024 .f32) (harg9 : arg9.IsWhole)
    (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole)
    (arg13 : Memref sig .tc .vmem S16x1024 .f32) (harg13 : arg13.IsWhole) (arg14 : Memref sig .tc .vmem S16x128 .f32) (harg14 : arg14.IsWhole) (arg15 : Memref sig .tc .vmem S1024x1024 .f32) (harg15 : arg15.IsWhole)
    (arg16 : Memref sig .tc .vmem S8192x128 .f32) (harg16 : arg16.IsWhole) (arg17 : Memref sig .tc .vmem S2x1024 .i32) (harg17 : arg17.IsWhole) (arg18 : Memref sig .tc .vmem S2x1024 .f32) (harg18 : arg18.IsWhole)
    (arg19 : Memref sig .tc .vmem S2x1024 .i32) (harg19 : arg19.IsWhole) (arg20 : Memref sig .tc .vmem S16x128 .i32) (harg20 : arg20.IsWhole) (x1 : S256x1024.Idx → Elt F .f32) (x2 : S256x1024.Idx → Elt F .f32) (x3 : S256x1024.Idx → Elt F .f32) (x4 : S256x1024.Idx → Elt F .f32) (x5 : S256x1024.Idx → Elt F .bf16)
    (x6 : S256x1024.Idx → Elt F .bf16) (x7 : S256x1024.Idx → Elt F .bf16) (x8 : S256x1024.Idx → Elt F .bf16) (x9 : S16x6x1024.Idx → Elt F .f32) (x10 : S1024x1024.Idx → Elt F .bf16)
    (x11 : S1x1024.Idx → Elt F .f32) (x12 : S1x1024.Idx → Elt F .f32) (x13 : S16x1024.Idx → Elt F .f32) (x14 : S16x128.Idx → Elt F .f32) (hc : ¬(condZ i = 1#1)) (h1 : condZ i = 1#1)

set_option maxHeartbeats 4000000 in
theorem runOn_xo : (runOn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 hc).1 = xoPieces (mix (modsAt i 0 x9) x5 x10 x1 x11) (mix (modsAt i 1 x9) x6 x10 x2 x11) (mix (modsAt i 2 x9) x7 x10 x3 x11) (mix (modsAt i 3 x9) x8 x10 x4 x11) := by
  have e : (runOn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 hc).1 = xoPieces (mix (arg9.view.readAt (Elt F) (Rect.unit (s := S16x6x1024) (k0_off1 i 0#32) S1x6x1024.size (k0_off1_inb i 0)).toLoadRect (arg9.view.rep x9)) (arg5.view.readAt (Elt F) (Rect.unit (s := S256x1024) ![0, 0] S256x1024.size inb_S256x1024_S256x1024_0_0).toLoadRect (arg5.view.rep x5)) (arg10.view.readAt (Elt F) (Rect.unit (s := S1024x1024) ![0, 0] S1024x1024.size inb_S1024x1024_S1024x1024_0_0).toLoadRect (arg10.view.rep x10)) (arg1.view.readAt (Elt F) (Rect.unit (s := S256x1024) ![0, 0] S256x1024.size inb_S256x1024_S256x1024_0_0).toLoadRect (arg1.view.rep x1)) (arg11.view.readAt (Elt F) (Rect.unit (s := S1x1024) ![0, 0] S1x1024.size inb_S1x1024_S1x1024_0_0).toLoadRect (arg11.view.rep x11))) (mix (arg9.view.readAt (Elt F) (Rect.unit (s := S16x6x1024) (k0_off1 i 1#32) S1x6x1024.size (k0_off1_inb i 1)).toLoadRect (arg9.view.rep x9)) (arg6.view.readAt (Elt F) (Rect.unit (s := S256x1024) ![0, 0] S256x1024.size inb_S256x1024_S256x1024_0_0).toLoadRect (arg6.view.rep x6)) (arg10.view.readAt (Elt F) (Rect.unit (s := S1024x1024) ![0, 0] S1024x1024.size inb_S1024x1024_S1024x1024_0_0).toLoadRect (arg10.view.rep x10)) (arg2.view.readAt (Elt F) (Rect.unit (s := S256x1024) ![0, 0] S256x1024.size inb_S256x1024_S256x1024_0_0).toLoadRect (arg2.view.rep x2)) (arg11.view.readAt (Elt F) (Rect.unit (s := S1x1024) ![0, 0] S1x1024.size inb_S1x1024_S1x1024_0_0).toLoadRect (arg11.view.rep x11))) (mix (arg9.view.readAt (Elt F) (Rect.unit (s := S16x6x1024) (k0_off1 i 2#32) S1x6x1024.size (k0_off1_inb i 2)).toLoadRect (arg9.view.rep x9)) (arg7.view.readAt (Elt F) (Rect.unit (s := S256x1024) ![0, 0] S256x1024.size inb_S256x1024_S256x1024_0_0).toLoadRect (arg7.view.rep x7)) (arg10.view.readAt (Elt F) (Rect.unit (s := S1024x1024) ![0, 0] S1024x1024.size inb_S1024x1024_S1024x1024_0_0).toLoadRect (arg10.view.rep x10)) (arg3.view.readAt (Elt F) (Rect.unit (s := S256x1024) ![0, 0] S256x1024.size inb_S256x1024_S256x1024_0_0).toLoadRect (arg3.view.rep x3)) (arg11.view.readAt (Elt F) (Rect.unit (s := S1x1024) ![0, 0] S1x1024.size inb_S1x1024_S1x1024_0_0).toLoadRect (arg11.view.rep x11))) (mix (arg9.view.readAt (Elt F) (Rect.unit (s := S16x6x1024) (k0_off1 i 3#32) S1x6x1024.size (k0_off1_inb i 3)).toLoadRect (arg9.view.rep x9)) (arg8.view.readAt (Elt F) (Rect.unit (s := S256x1024) ![0, 0] S256x1024.size inb_S256x1024_S256x1024_0_0).toLoadRect (arg8.view.rep x8)) (arg10.view.readAt (Elt F) (Rect.unit (s := S1024x1024) ![0, 0] S1024x1024.size inb_S1024x1024_S1024x1024_0_0).toLoadRect (arg10.view.rep x10)) (arg4.view.readAt (Elt F) (Rect.unit (s := S256x1024) ![0, 0] S256x1024.size inb_S256x1024_S256x1024_0_0).toLoadRect (arg4.view.rep x4)) (arg11.view.readAt (Elt F) (Rect.unit (s := S1x1024) ![0, 0] S1x1024.size inb_S1x1024_S1x1024_0_0).toLoadRect (arg11.view.rep x11))) := by
    unfold runOn; rfl
  rw [e]
  simp only [ld_tile, ld_w, ld_row]
  simp only [View.readAt_rep]
  rfl

set_option maxHeartbeats 4000000 in
theorem runOn_h : (runOn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 hc).2.1 = hPieces (feed (modsAt i 0 x9) (mix (modsAt i 0 x9) x5 x10 x1 x11) x12) (feed (modsAt i 1 x9) (mix (modsAt i 1 x9) x6 x10 x2 x11) x12) (feed (modsAt i 2 x9) (mix (modsAt i 2 x9) x7 x10 x3 x11) x12) (feed (modsAt i 3 x9) (mix (modsAt i 3 x9) x8 x10 x4 x11) x12) := by
  have e : (runOn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 hc).2.1 = hPieces (feed (arg9.view.readAt (Elt F) (Rect.unit (s := S16x6x1024) (k0_off1 i 0#32) S1x6x1024.size (k0_off1_inb i 0)).toLoadRect (arg9.view.rep x9)) (mix (arg9.view.readAt (Elt F) (Rect.unit (s := S16x6x1024) (k0_off1 i 0#32) S1x6x1024.size (k0_off1_inb i 0)).toLoadRect (arg9.view.rep x9)) (arg5.view.readAt (Elt F) (Rect.unit (s := S256x1024) ![0, 0] S256x1024.size inb_S256x1024_S256x1024_0_0).toLoadRect (arg5.view.rep x5)) (arg10.view.readAt (Elt F) (Rect.unit (s := S1024x1024) ![0, 0] S1024x1024.size inb_S1024x1024_S1024x1024_0_0).toLoadRect (arg10.view.rep x10)) (arg1.view.readAt (Elt F) (Rect.unit (s := S256x1024) ![0, 0] S256x1024.size inb_S256x1024_S256x1024_0_0).toLoadRect (arg1.view.rep x1)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) (feed (arg9.view.readAt (Elt F) (Rect.unit (s := S16x6x1024) (k0_off1 i 1#32) S1x6x1024.size (k0_off1_inb i 1)).toLoadRect (arg9.view.rep x9)) (mix (arg9.view.readAt (Elt F) (Rect.unit (s := S16x6x1024) (k0_off1 i 1#32) S1x6x1024.size (k0_off1_inb i 1)).toLoadRect (arg9.view.rep x9)) (arg6.view.readAt (Elt F) (Rect.unit (s := S256x1024) ![0, 0] S256x1024.size inb_S256x1024_S256x1024_0_0).toLoadRect (arg6.view.rep x6)) (arg10.view.readAt (Elt F) (Rect.unit (s := S1024x1024) ![0, 0] S1024x1024.size inb_S1024x1024_S1024x1024_0_0).toLoadRect (arg10.view.rep x10)) (arg2.view.readAt (Elt F) (Rect.unit (s := S256x1024) ![0, 0] S256x1024.size inb_S256x1024_S256x1024_0_0).toLoadRect (arg2.view.rep x2)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) (feed (arg9.view.readAt (Elt F) (Rect.unit (s := S16x6x1024) (k0_off1 i 2#32) S1x6x1024.size (k0_off1_inb i 2)).toLoadRect (arg9.view.rep x9)) (mix (arg9.view.readAt (Elt F) (Rect.unit (s := S16x6x1024) (k0_off1 i 2#32) S1x6x1024.size (k0_off1_inb i 2)).toLoadRect (arg9.view.rep x9)) (arg7.view.readAt (Elt F) (Rect.unit (s := S256x1024) ![0, 0] S256x1024.size inb_S256x1024_S256x1024_0_0).toLoadRect (arg7.view.rep x7)) (arg10.view.readAt (Elt F) (Rect.unit (s := S1024x1024) ![0, 0] S1024x1024.size inb_S1024x1024_S1024x1024_0_0).toLoadRect (arg10.view.rep x10)) (arg3.view.readAt (Elt F) (Rect.unit (s := S256x1024) ![0, 0] S256x1024.size inb_S256x1024_S256x1024_0_0).toLoadRect (arg3.view.rep x3)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) (feed (arg9.view.readAt (Elt F) (Rect.unit (s := S16x6x1024) (k0_off1 i 3#32) S1x6x1024.size (k0_off1_inb i 3)).toLoadRect (arg9.view.rep x9)) (mix (arg9.view.readAt (Elt F) (Rect.unit (s := S16x6x1024) (k0_off1 i 3#32) S1x6x1024.size (k0_off1_inb i 3)).toLoadRect (arg9.view.rep x9)) (arg8.view.readAt (Elt F) (Rect.unit (s := S256x1024) ![0, 0] S256x1024.size inb_S256x1024_S256x1024_0_0).toLoadRect (arg8.view.rep x8)) (arg10.view.readAt (Elt F) (Rect.unit (s := S1024x1024) ![0, 0] S1024x1024.size inb_S1024x1024_S1024x1024_0_0).toLoadRect (arg10.view.rep x10)) (arg4.view.readAt (Elt F) (Rect.unit (s := S256x1024) ![0, 0] S256x1024.size inb_S256x1024_S256x1024_0_0).toLoadRect (arg4.view.rep x4)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) := by
    unfold runOn; rfl
  rw [e]
  simp only [ld_tile, ld_w, ld_row]
  simp only [View.readAt_rep]
  rfl

set_option maxHeartbeats 4000000 in
theorem runFirst_xo : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 h1).1 = xoPieces (mix (modsAt i 0 x9) x5 x10 x1 x11) (mix (modsAt i 1 x9) x6 x10 x2 x11) (mix (modsAt i 2 x9) x7 x10 x3 x11) (mix (modsAt i 3 x9) x8 x10 x4 x11) := by
  have e : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 h1).1 = xoPieces (mix (arg9.view.readAt (Elt F) (Rect.unit (s := S16x6x1024) (k0_off1 i 0#32) S1x6x1024.size (k0_off1_inb i 0)).toLoadRect (arg9.view.rep x9)) (arg5.view.readAt (Elt F) (Rect.unit (s := S256x1024) ![0, 0] S256x1024.size inb_S256x1024_S256x1024_0_0).toLoadRect (arg5.view.rep x5)) (arg10.view.readAt (Elt F) (Rect.unit (s := S1024x1024) ![0, 0] S1024x1024.size inb_S1024x1024_S1024x1024_0_0).toLoadRect (arg10.view.rep x10)) (arg1.view.readAt (Elt F) (Rect.unit (s := S256x1024) ![0, 0] S256x1024.size inb_S256x1024_S256x1024_0_0).toLoadRect (arg1.view.rep x1)) (arg11.view.readAt (Elt F) (Rect.unit (s := S1x1024) ![0, 0] S1x1024.size inb_S1x1024_S1x1024_0_0).toLoadRect (arg11.view.rep x11))) (mix (arg9.view.readAt (Elt F) (Rect.unit (s := S16x6x1024) (k0_off1 i 1#32) S1x6x1024.size (k0_off1_inb i 1)).toLoadRect (arg9.view.rep x9)) (arg6.view.readAt (Elt F) (Rect.unit (s := S256x1024) ![0, 0] S256x1024.size inb_S256x1024_S256x1024_0_0).toLoadRect (arg6.view.rep x6)) (arg10.view.readAt (Elt F) (Rect.unit (s := S1024x1024) ![0, 0] S1024x1024.size inb_S1024x1024_S1024x1024_0_0).toLoadRect (arg10.view.rep x10)) (arg2.view.readAt (Elt F) (Rect.unit (s := S256x1024) ![0, 0] S256x1024.size inb_S256x1024_S256x1024_0_0).toLoadRect (arg2.view.rep x2)) (arg11.view.readAt (Elt F) (Rect.unit (s := S1x1024) ![0, 0] S1x1024.size inb_S1x1024_S1x1024_0_0).toLoadRect (arg11.view.rep x11))) (mix (arg9.view.readAt (Elt F) (Rect.unit (s := S16x6x1024) (k0_off1 i 2#32) S1x6x1024.size (k0_off1_inb i 2)).toLoadRect (arg9.view.rep x9)) (arg7.view.readAt (Elt F) (Rect.unit (s := S256x1024) ![0, 0] S256x1024.size inb_S256x1024_S256x1024_0_0).toLoadRect (arg7.view.rep x7)) (arg10.view.readAt (Elt F) (Rect.unit (s := S1024x1024) ![0, 0] S1024x1024.size inb_S1024x1024_S1024x1024_0_0).toLoadRect (arg10.view.rep x10)) (arg3.view.readAt (Elt F) (Rect.unit (s := S256x1024) ![0, 0] S256x1024.size inb_S256x1024_S256x1024_0_0).toLoadRect (arg3.view.rep x3)) (arg11.view.readAt (Elt F) (Rect.unit (s := S1x1024) ![0, 0] S1x1024.size inb_S1x1024_S1x1024_0_0).toLoadRect (arg11.view.rep x11))) (mix (arg9.view.readAt (Elt F) (Rect.unit (s := S16x6x1024) (k0_off1 i 3#32) S1x6x1024.size (k0_off1_inb i 3)).toLoadRect (arg9.view.rep x9)) (arg8.view.readAt (Elt F) (Rect.unit (s := S256x1024) ![0, 0] S256x1024.size inb_S256x1024_S256x1024_0_0).toLoadRect (arg8.view.rep x8)) (arg10.view.readAt (Elt F) (Rect.unit (s := S1024x1024) ![0, 0] S1024x1024.size inb_S1024x1024_S1024x1024_0_0).toLoadRect (arg10.view.rep x10)) (arg4.view.readAt (Elt F) (Rect.unit (s := S256x1024) ![0, 0] S256x1024.size inb_S256x1024_S256x1024_0_0).toLoadRect (arg4.view.rep x4)) (arg11.view.readAt (Elt F) (Rect.unit (s := S1x1024) ![0, 0] S1x1024.size inb_S1x1024_S1x1024_0_0).toLoadRect (arg11.view.rep x11))) := by
    unfold runFirst; rfl
  rw [e]
  simp only [ld_tile, ld_w, ld_row]
  simp only [View.readAt_rep]
  rfl

set_option maxHeartbeats 4000000 in
theorem runFirst_h : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 h1).2.1 = hPieces (feed (modsAt i 0 x9) (mix (modsAt i 0 x9) x5 x10 x1 x11) x12) (feed (modsAt i 1 x9) (mix (modsAt i 1 x9) x6 x10 x2 x11) x12) (feed (modsAt i 2 x9) (mix (modsAt i 2 x9) x7 x10 x3 x11) x12) (feed (modsAt i 3 x9) (mix (modsAt i 3 x9) x8 x10 x4 x11) x12) := by
  have e : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 h1).2.1 = hPieces (feed (arg9.view.readAt (Elt F) (Rect.unit (s := S16x6x1024) (k0_off1 i 0#32) S1x6x1024.size (k0_off1_inb i 0)).toLoadRect (arg9.view.rep x9)) (mix (arg9.view.readAt (Elt F) (Rect.unit (s := S16x6x1024) (k0_off1 i 0#32) S1x6x1024.size (k0_off1_inb i 0)).toLoadRect (arg9.view.rep x9)) (arg5.view.readAt (Elt F) (Rect.unit (s := S256x1024) ![0, 0] S256x1024.size inb_S256x1024_S256x1024_0_0).toLoadRect (arg5.view.rep x5)) (arg10.view.readAt (Elt F) (Rect.unit (s := S1024x1024) ![0, 0] S1024x1024.size inb_S1024x1024_S1024x1024_0_0).toLoadRect (arg10.view.rep x10)) (arg1.view.readAt (Elt F) (Rect.unit (s := S256x1024) ![0, 0] S256x1024.size inb_S256x1024_S256x1024_0_0).toLoadRect (arg1.view.rep x1)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) (feed (arg9.view.readAt (Elt F) (Rect.unit (s := S16x6x1024) (k0_off1 i 1#32) S1x6x1024.size (k0_off1_inb i 1)).toLoadRect (arg9.view.rep x9)) (mix (arg9.view.readAt (Elt F) (Rect.unit (s := S16x6x1024) (k0_off1 i 1#32) S1x6x1024.size (k0_off1_inb i 1)).toLoadRect (arg9.view.rep x9)) (arg6.view.readAt (Elt F) (Rect.unit (s := S256x1024) ![0, 0] S256x1024.size inb_S256x1024_S256x1024_0_0).toLoadRect (arg6.view.rep x6)) (arg10.view.readAt (Elt F) (Rect.unit (s := S1024x1024) ![0, 0] S1024x1024.size inb_S1024x1024_S1024x1024_0_0).toLoadRect (arg10.view.rep x10)) (arg2.view.readAt (Elt F) (Rect.unit (s := S256x1024) ![0, 0] S256x1024.size inb_S256x1024_S256x1024_0_0).toLoadRect (arg2.view.rep x2)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) (feed (arg9.view.readAt (Elt F) (Rect.unit (s := S16x6x1024) (k0_off1 i 2#32) S1x6x1024.size (k0_off1_inb i 2)).toLoadRect (arg9.view.rep x9)) (mix (arg9.view.readAt (Elt F) (Rect.unit (s := S16x6x1024) (k0_off1 i 2#32) S1x6x1024.size (k0_off1_inb i 2)).toLoadRect (arg9.view.rep x9)) (arg7.view.readAt (Elt F) (Rect.unit (s := S256x1024) ![0, 0] S256x1024.size inb_S256x1024_S256x1024_0_0).toLoadRect (arg7.view.rep x7)) (arg10.view.readAt (Elt F) (Rect.unit (s := S1024x1024) ![0, 0] S1024x1024.size inb_S1024x1024_S1024x1024_0_0).toLoadRect (arg10.view.rep x10)) (arg3.view.readAt (Elt F) (Rect.unit (s := S256x1024) ![0, 0] S256x1024.size inb_S256x1024_S256x1024_0_0).toLoadRect (arg3.view.rep x3)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) (feed (arg9.view.readAt (Elt F) (Rect.unit (s := S16x6x1024) (k0_off1 i 3#32) S1x6x1024.size (k0_off1_inb i 3)).toLoadRect (arg9.view.rep x9)) (mix (arg9.view.readAt (Elt F) (Rect.unit (s := S16x6x1024) (k0_off1 i 3#32) S1x6x1024.size (k0_off1_inb i 3)).toLoadRect (arg9.view.rep x9)) (arg8.view.readAt (Elt F) (Rect.unit (s := S256x1024) ![0, 0] S256x1024.size inb_S256x1024_S256x1024_0_0).toLoadRect (arg8.view.rep x8)) (arg10.view.readAt (Elt F) (Rect.unit (s := S1024x1024) ![0, 0] S1024x1024.size inb_S1024x1024_S1024x1024_0_0).toLoadRect (arg10.view.rep x10)) (arg4.view.readAt (Elt F) (Rect.unit (s := S256x1024) ![0, 0] S256x1024.size inb_S256x1024_S256x1024_0_0).toLoadRect (arg4.view.rep x4)) (arg11.view.readAt (Elt F) (Rect.unit (s := S1x1024) ![0, 0] S1x1024.size inb_S1x1024_S1x1024_0_0).toLoadRect (arg11.view.rep x11))) (arg12.view.readAt (Elt F) (Rect.unit (s := S1x1024) ![0, 0] S1x1024.size inb_S1x1024_S1x1024_0_0).toLoadRect (arg12.view.rep x12))) := by
    unfold runFirst; rfl
  rw [e]
  simp only [ld_tile, ld_w, ld_row]
  simp only [View.readAt_rep]
  rfl

end

/-- The four tiles of sums of a point, and the four of normed rows. -/
def mixAt (i : grid0.Coords) (x1 x2 x3 x4 : S256x1024.Idx → Elt F .f32) (x5 x6 x7 x8 : S256x1024.Idx → Elt F .bf16) (x9 : S16x6x1024.Idx → Elt F .f32)
    (x10 : S1024x1024.Idx → Elt F .bf16) (x11 : S1x1024.Idx → Elt F .f32) (k : Fin 4) : FVec F S256x1024 .f32 :=
  match k with
  | ⟨0, _⟩ => mix (modsAt i 0 x9) x5 x10 x1 x11
  | ⟨1, _⟩ => mix (modsAt i 1 x9) x6 x10 x2 x11
  | ⟨2, _⟩ => mix (modsAt i 2 x9) x7 x10 x3 x11
  | ⟨3, _⟩ => mix (modsAt i 3 x9) x8 x10 x4 x11
def feedAt (i : grid0.Coords) (x1 x2 x3 x4 : S256x1024.Idx → Elt F .f32) (x5 x6 x7 x8 : S256x1024.Idx → Elt F .bf16) (x9 : S16x6x1024.Idx → Elt F .f32)
    (x10 : S1024x1024.Idx → Elt F .bf16) (x11 x12 : S1x1024.Idx → Elt F .f32) (k : Fin 4) : FVec F S256x1024 .f32 :=
  feed (modsAt i k x9) (mixAt i x1 x2 x3 x4 x5 x6 x7 x8 x9 x10 x11 k) x12

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .bf16) (harg5 : arg5.IsWhole) (arg6 : Memref sig .tc .vmem S256x1024 .bf16) (harg6 : arg6.IsWhole)
    (arg7 : Memref sig .tc .vmem S256x1024 .bf16) (harg7 : arg7.IsWhole) (arg8 : Memref sig .tc .vmem S256x1024 .bf16) (harg8 : arg8.IsWhole) (arg9 : Memref sig .tc .vmem S16x6x1024 .f32) (harg9 : arg9.IsWhole)
    (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole)
    (arg13 : Memref sig .tc .vmem S16x1024 .f32) (harg13 : arg13.IsWhole) (arg14 : Memref sig .tc .vmem S16x128 .f32) (harg14 : arg14.IsWhole) (arg15 : Memref sig .tc .vmem S1024x1024 .f32) (harg15 : arg15.IsWhole)
    (arg16 : Memref sig .tc .vmem S8192x128 .f32) (harg16 : arg16.IsWhole) (arg17 : Memref sig .tc .vmem S2x1024 .i32) (harg17 : arg17.IsWhole) (arg18 : Memref sig .tc .vmem S2x1024 .f32) (harg18 : arg18.IsWhole)
    (arg19 : Memref sig .tc .vmem S2x1024 .i32) (harg19 : arg19.IsWhole) (arg20 : Memref sig .tc .vmem S16x128 .i32) (harg20 : arg20.IsWhole) (x1 : S256x1024.Idx → Elt F .f32) (x2 : S256x1024.Idx → Elt F .f32) (x3 : S256x1024.Idx → Elt F .f32) (x4 : S256x1024.Idx → Elt F .f32) (x5 : S256x1024.Idx → Elt F .bf16)
    (x6 : S256x1024.Idx → Elt F .bf16) (x7 : S256x1024.Idx → Elt F .bf16) (x8 : S256x1024.Idx → Elt F .bf16) (x9 : S16x6x1024.Idx → Elt F .f32) (x10 : S1024x1024.Idx → Elt F .bf16)
    (x11 : S1x1024.Idx → Elt F .f32) (x12 : S1x1024.Idx → Elt F .f32) (x13 : S16x1024.Idx → Elt F .f32) (x14 : S16x128.Idx → Elt F .f32) (hc : ¬(condZ i = 1#1)) (h1 : condZ i = 1#1)

theorem runOn_xo_read (f) : arg15.view.read (Elt F) (arg15.view.writes (Elt F) f (runOn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 hc).1) = bands (mixAt i x1 x2 x3 x4 x5 x6 x7 x8 x9 x10 x11) := by
  rw [runOn_xo]; exact read_bands _ _ (mixAt i x1 x2 x3 x4 x5 x6 x7 x8 x9 x10 x11)
theorem runOn_h_read (f) : arg16.view.read (Elt F) (arg16.view.writes (Elt F) f (runOn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 hc).2.1) = spread (feedAt i x1 x2 x3 x4 x5 x6 x7 x8 x9 x10 x11 x12) := by
  rw [runOn_h]; exact read_spread _ _ (feedAt i x1 x2 x3 x4 x5 x6 x7 x8 x9 x10 x11 x12)
theorem runFirst_xo_read (f) : arg15.view.read (Elt F) (arg15.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 h1).1) = bands (mixAt i x1 x2 x3 x4 x5 x6 x7 x8 x9 x10 x11) := by
  rw [runFirst_xo]; exact read_bands _ _ (mixAt i x1 x2 x3 x4 x5 x6 x7 x8 x9 x10 x11)
theorem runFirst_h_read (f) : arg16.view.read (Elt F) (arg16.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 x11 x12 x13 x14 h1).2.1) = spread (feedAt i x1 x2 x3 x4 x5 x6 x7 x8 x9 x10 x11 x12) := by
  rw [runFirst_h]; exact read_spread _ _ (feedAt i x1 x2 x3 x4 x5 x6 x7 x8 x9 x10 x11 x12)

end

end Cert.LastIdeal.Hand

end
-- ==== Proof.FrameLastIdeal.lean ====
module

public import proofs.«01_k».proof.Proof.PiecesLastIdeal
public import Idealize.ShloMosaic.Lib.Pipeline.TableIdle

@[expose] public section

set_option maxRecDepth 16384
set_option Elab.async false

noncomputable section

namespace Cert.LastIdeal.Hand

open Cert.LastIdeal Cert.LastIdeal.Gen
open Cert.RouteIdeal.Hand (bands spread)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write four arrays and no other. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by assumption)))
theorem V_main_arg0 (c : Dev nD) : V m c main_arg0 = m ((c : Thread nD τ).loc main_arg0) :=
  V_of_ne m c main_arg0 (by decide) (by decide) (by decide) (by decide)
theorem V_main_arg1 (c : Dev nD) : V m c main_arg1 = m ((c : Thread nD τ).loc main_arg1) :=
  V_of_ne m c main_arg1 (by decide) (by decide) (by decide) (by decide)
theorem V_main_arg2 (c : Dev nD) : V m c main_arg2 = m ((c : Thread nD τ).loc main_arg2) :=
  V_of_ne m c main_arg2 (by decide) (by decide) (by decide) (by decide)
theorem V_main_arg3 (c : Dev nD) : V m c main_arg3 = m ((c : Thread nD τ).loc main_arg3) :=
  V_of_ne m c main_arg3 (by decide) (by decide) (by decide) (by decide)
theorem V_main_arg4 (c : Dev nD) : V m c main_arg4 = m ((c : Thread nD τ).loc main_arg4) :=
  V_of_ne m c main_arg4 (by decide) (by decide) (by decide) (by decide)
theorem V_main_arg5 (c : Dev nD) : V m c main_arg5 = m ((c : Thread nD τ).loc main_arg5) :=
  V_of_ne m c main_arg5 (by decide) (by decide) (by decide) (by decide)
theorem V_main_arg6 (c : Dev nD) : V m c main_arg6 = m ((c : Thread nD τ).loc main_arg6) :=
  V_of_ne m c main_arg6 (by decide) (by decide) (by decide) (by decide)
theorem V_main_arg7 (c : Dev nD) : V m c main_arg7 = m ((c : Thread nD τ).loc main_arg7) :=
  V_of_ne m c main_arg7 (by decide) (by decide) (by decide) (by decide)

set_option maxHeartbeats 8000000 in
/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
abbrev st0_13 (t : Fin cfg0.N) := (cfg0.win 13).stage (cfg0.slots t 13)
abbrev st0_14 (t : Fin cfg0.N) := (cfg0.win 14).stage (cfg0.slots t 14)
abbrev st0_15 (t : Fin cfg0.N) := (cfg0.win 15).stage (cfg0.slots t 15)
abbrev st0_16 (t : Fin cfg0.N) := (cfg0.win 16).stage (cfg0.slots t 16)
abbrev st0_17 (t : Fin cfg0.N) := (cfg0.win 17).stage (cfg0.slots t 17)
abbrev st0_18 (t : Fin cfg0.N) := (cfg0.win 18).stage (cfg0.slots t 18)
abbrev st0_19 (t : Fin cfg0.N) := (cfg0.win 19).stage (cfg0.slots t 19)

set_option maxHeartbeats 8000000 in
/-- The body at point `t`, on what the pipeline calls it with. -/
abbrev bodyAt0 (t : Fin cfg0.N) : Prog (TpuEff nD τ sig (Elt F) Λ₀ .tc) PUnit :=
  cc0_out_route (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) scR (Memref.isWhole_whole _)

/-- The block of sums, and of normed rows, point `t` leaves. -/
def xoBlk (c : Dev nD) (t : Fin cfg0.N) : S1024x1024.Idx → Elt F .f32 :=
  bands (mixAt (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
def hBlk (c : Dev nD) (t : Fin cfg0.N) : S8192x128.Idx → Elt F .f32 :=
  spread (feedAt (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- The windows nothing is said of. -/
def forgets0 : Fin 20 → Bool := fun w => decide (16 ≤ w.val)

/-- The proof data: the arrays as the kernel finds them, what the body leaves in each window, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => xoBlk m c t
    | ⟨15, _⟩ => hBlk m c t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨n + 20, h⟩ => absurd (show n + 20 < 20 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = xoBlk m c t := by dsimp only [dats]
theorem after0_15 (c : Dev nD) (t : Fin cfg0.N) : (dats m 0 c).after 15 t = hBlk m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare (d))
    ∗ (∃ d, owns (c : Thread nD τ) (st0_17 t) fullShare (d))
    ∗ (∃ d, owns (c : Thread nD τ) (st0_18 t) fullShare (d))
    ∗ (∃ d, owns (c : Thread nD τ) (st0_19 t) fullShare (d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (∃ d, owns (c : Thread nD τ) (st0_16 t) fullShare (d))
    ∗ (∃ d, owns (c : Thread nD τ) (st0_17 t) fullShare (d))
    ∗ (∃ d, owns (c : Thread nD τ) (st0_18 t) fullShare (d))
    ∗ (∃ d, owns (c : Thread nD τ) (st0_19 t) fullShare (d)))

/-- The body's own invariant: the running counts at some contents, the generator register. -/
theorem phi_eq (c : Dev nD) (t) : (dats m 0 c).Φ t = (iprop((∃ f : Buf (Elt F) ((c : Thread nD τ).loc cc0_scratch0), ((c : Thread nD τ).loc cc0_scratch0) ↦{fullShare} f) ∗ ∃ r, prngReg c r) : sProp 𝕄) := by
  rw [show (dats m 0 c).Φ t = Pipeline.ΦA spec0 c from rfl]
  unfold Pipeline.ΦA
  rw [scopedRest0_eq]

set_option maxHeartbeats 4000000 in
theorem body_on (c : Dev nD) (t : Fin cfg0.N) (hc : ¬(condZ (grid0.coords t) = 1#1)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, after0_12, after0_13, after0_14, after0_15]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runOn c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc).2.2 (fun _ => fullShare) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS⟩
  isplitl [HS Hg]
  · isplitl [HS]; · iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]
  · unfold owns; iexists _; isplitr; swap
    · iexact H14
    · ipureintro; exact runOn_xo_read c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc _
  isplitl [H15]
  · unfold owns; iexists _; isplitr; swap
    · iexact H15
    · ipureintro; exact runOn_h_read c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) hc _
  isplitl [H16]
  · unfold owns; iexists _, _; isplitr; swap
    · iexact H16
    · ipureintro; rfl
  isplitl [H17]
  · unfold owns; iexists _, _; isplitr; swap
    · iexact H17
    · ipureintro; rfl
  isplitl [H18]
  · unfold owns; iexists _, _; isplitr; swap
    · iexact H18
    · ipureintro; rfl
  unfold owns; iexists _, _; isplitr; swap
  · iexact H19
  · ipureintro; rfl

set_option maxHeartbeats 4000000 in
theorem body_first (c : Dev nD) (t : Fin cfg0.N) (h1 : condZ (grid0.coords t) = 1#1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, after0_12, after0_13, after0_14, after0_15]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runFirst c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h1).2.2 (fun _ => fullShare) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS⟩
  isplitl [HS Hg]
  · isplitl [HS]; · iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]
  · unfold owns; iexists _; isplitr; swap
    · iexact H14
    · ipureintro; exact runFirst_xo_read c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h1 _
  isplitl [H15]
  · unfold owns; iexists _; isplitr; swap
    · iexact H15
    · ipureintro; exact runFirst_h_read c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h1 _
  isplitl [H16]
  · unfold owns; iexists _, _; isplitr; swap
    · iexact H16
    · ipureintro; rfl
  isplitl [H17]
  · unfold owns; iexists _, _; isplitr; swap
    · iexact H17
    · ipureintro; rfl
  isplitl [H18]
  · unfold owns; iexists _, _; isplitr; swap
    · iexact H18
    · ipureintro; rfl
  unfold owns; iexists _, _; isplitr; swap
  · iexact H19
  · ipureintro; rfl

theorem sound_body (c : Dev nD) (t : Fin cfg0.N) :
    bodyPre m c t ⊢ wp frame (wpE (defs₀ (F := F)) Variants.none c none) Set.univ (bodyAt0 t) (fun _ => bodyPost m c t) := by
  by_cases h : condZ (grid0.coords t) = 1#1
  · exact body_first m c t h
  · exact body_on m c t h

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every weakly fair execution terminates, the arrays named at their computed contents and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m}

/-- The argument arrays end unchanged. -/
theorem args_of {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
    (h.arr_in c 4 rfl).trans ((A_eq m c 4).trans (V_main_arg1 m c)),
    (h.arr_in c 8 rfl).trans ((A_eq m c 8).trans (V_main_arg2 m c)),
    (h.arr_in c 9 rfl).trans ((A_eq m c 9).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 12 rfl).trans ((A_eq m c 12).trans (V_main_arg6 m c)),
    ((h c).2 main_arg7 (Pipeline.mem_restRefs_of main_arg7 (by decide) (by decide))).trans (V_main_arg7 m c)⟩

/-- The array xo ends at what the pipeline writes back. -/
theorem xo_of {r : PUnit × MemSt nD τ sig (Elt F)}
    (h : Pipeline.RDat.FramePost (cfgs 0) (fun c => (dats (F := F) m 0 c).toRForget forgets0) (V m) r) (c : Dev nD) :
    r.2.mem ((c.tc : Thread nD τ).loc main_v4_0) = (dats m 0 c).arrAt 14 cfg0.N :=
  ((dats (F := F) m 0 c).toRForget_arrAt_iff (fgt := forgets0) (w := 14) rfl cfg0.N _).mp ((h c).1 14)

/-- The array h ends at what the pipeline writes back. -/
theorem h_of {r : PUnit × MemSt nD τ sig (Elt F)}
    (h : Pipeline.RDat.FramePost (cfgs 0) (fun c => (dats (F := F) m 0 c).toRForget forgets0) (V m) r) (c : Dev nD) :
    r.2.mem ((c.tc : Thread nD τ).loc main_v4_1) = (dats m 0 c).arrAt 15 cfg0.N :=
  ((dats (F := F) m 0 c).toRForget_arrAt_iff (fgt := forgets0) (w := 15) rfl cfg0.N _).mp ((h c).1 15)

variable (m)

/-- The frame: execution terminates, faults nowhere, leaves the arguments and every counter as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_of h.1 c, h.2⟩) (run_main m ρ)

end Cert.LastIdeal.Hand

end
-- ==== Proof.PayLast.lean ====
module

public import proofs.«01_k».proof.Proof.FrameLastIdeal
public import proofs.«01_k».proof.Proof.Project
public import Idealize.ShloMosaic.Lib.Pointwise

@[expose] public section

set_option maxRecDepth 16384

noncomputable section

namespace Cert.LastIdeal.Hand

open Cert.LastIdeal Cert.LastIdeal.Gen Cert.Project
open Idealize.ShloMosaic

/-- A tile's sums: the stream plus the gate times the projection. -/
theorem mix_apply (M : S1x6x1024.Idx → Elt Ideal .f32) (y : S256x1024.Idx → Elt Ideal .bf16) (w : S1024x1024.Idx → Elt Ideal .bf16)
    (x : S256x1024.Idx → Elt Ideal .f32) (b : S1x1024.Idx → Elt Ideal .f32) (r : Fin 256) (n : Fin 1024) :
    mix (F := Ideal) M y w x b (ix2 r n)
      = (x (ix2 r n) : EReal) + M (ix3 (0 : Fin 1) (2 : Fin 6) n) * ((∑ d : Fin 1024, (y (ix2 r d) : EReal) * w (ix2 d n)) + b (ix2 (0 : Fin 1) n)) := by
  pointwise [mix, k0_pay10, k0_pay6]

/-- A tile's normalised rows. -/
theorem feed_apply (M : S1x6x1024.Idx → Elt Ideal .f32) (X : S256x1024.Idx → Elt Ideal .f32) (g : S1x1024.Idx → Elt Ideal .f32) (r : Fin 256) (d : Fin 1024) :
    feed (F := Ideal) M X g (ix2 r d)
      = normed (fun k => X (ix2 r k)) (fun k => g (ix2 (0 : Fin 1) k)) (fun k => M (ix3 (0 : Fin 1) (3 : Fin 6) k)) (fun k => M (ix3 (0 : Fin 1) (4 : Fin 6) k)) d := by
  pointwise [feed, k0_pay19]
  rfl

end Cert.LastIdeal.Hand

end
-- ==== Proof.KernelLast.lean ====
module

public import proofs.«01_k».proof.Proof.PayLast
public import Idealize.ShloMosaic.Lib.Pipeline.ValueKit.Geometry

@[expose] public section

set_option maxRecDepth 16384

noncomputable section

namespace Cert.LastIdeal.Hand

open Cert.LastIdeal Cert.LastIdeal.Gen Cert.Project
open Cert.RouteIdeal.Hand (bands spread)
open Idealize.ShloMosaic
open Idealize.ShloMosaic.TcCoe Idealize.SL.Sem
open Idealize.ShloMosaic.Pipeline (Dat)

variable (m : (ℓ : Loc nD τ sig) → Buf (Elt Ideal) ℓ) (ρ : Dev nD → PrngReg)

/-- The arguments at launch. -/
abbrev argX (c : Dev nD) : S18432x1024.Idx → Elt Ideal .f32 := m ((c : Thread nD τ).loc main_arg0)
abbrev argY (c : Dev nD) : S18432x1024.Idx → Elt Ideal .bf16 := m ((c : Thread nD τ).loc main_arg1)
abbrev argM (c : Dev nD) : S16x6x1024.Idx → Elt Ideal .f32 := m ((c : Thread nD τ).loc main_arg2)
abbrev argW (c : Dev nD) : S1024x1024.Idx → Elt Ideal .bf16 := m ((c : Thread nD τ).loc main_arg3)
abbrev argB (c : Dev nD) : S1024.Idx → Elt Ideal .f32 := m ((c : Thread nD τ).loc main_arg4)
abbrev argG (c : Dev nD) : S1024.Idx → Elt Ideal .f32 := m ((c : Thread nD τ).loc main_arg5)

/-- A row's sums. -/
def sumAt (c : Dev nD) (r : Fin 18432) (n : Fin 1024) : EReal :=
  mixed (fun r k => argX m c (ix2 r k)) (fun r k => argY m c (ix2 r k)) (fun i j k => argM m c (ix3 i j k)) (fun k n => argW m c (ix2 k n))
    (fun n => argB m c (ix1 n)) r n

/-- A row's sums, normalised and modulated. -/
def normAt (c : Dev nD) (r : Fin 18432) (d : Fin 1024) : EReal :=
  normed (sumAt m c r) (fun k => argG m c (ix1 k)) (fun k => argM m c (ix3 (modOf r) (3 : Fin 6) k)) (fun k => argM m c (ix3 (modOf r) (4 : Fin 6) k)) d

/-- The two results, of the sequences alone: the sums, and the normalised rows laid out by lanes. -/
def outXo (c : Dev nD) : S16384x1024.Idx → Elt Ideal .f32 := fun y => sumAt m c (seqRow (y 0 : Fin 16384)) (y 1 : Fin 1024)
def outH (c : Dev nD) : S131072x128.Idx → Elt Ideal .f32 := fun y =>
  normAt m c (seqRow ⟨(y 0 : Fin 131072).val / 8, by have : (y 0).val < 131072 := (y 0).isLt; omega⟩)
    ⟨(y 0 : Fin 131072).val % 8 * 128 + (y 1 : Fin 128).val, by have : (y 1).val < 128 := (y 1).isLt; omega⟩

theorem t_lt (t : Fin cfg0.N) : t.val < 16 := t.isLt

/-- Row `r` of the `k`-th tile of point `t`, in the stream. -/
def rowAt (t : Fin cfg0.N) (k : Fin 4) (r : Fin 256) : Fin 18432 := ⟨((4 * t.val + k.val) / 8 * 9 + 1 + (4 * t.val + k.val) % 8) * 256 + r.val, by have := t_lt t; omega⟩

/-- The modulation a tile goes by: its sequence's. -/
theorem modOf_rowAt (t : Fin cfg0.N) (k : Fin 4) (r : Fin 256) : (modOf (rowAt t k r)).val = 1 + (4 * t.val + k.val) / 8 := by
  have h := t_lt t
  unfold modOf
  rw [if_neg (by show ¬(((4 * t.val + k.val) / 8 * 9 + 1 + (4 * t.val + k.val) % 8) * 256 + r.val) % 2304 < 256; omega)]
  show 1 + (((4 * t.val + k.val) / 8 * 9 + 1 + (4 * t.val + k.val) % 8) * 256 + r.val) / 2304 = _
  omega

theorem modsRow : ∀ (t : Fin grid0.N) (k : Fin 4), k0_off1 (grid0.coords t) (BitVec.ofNat 32 k.val) = ![1 + (4 * t.val + k.val) / 8, 0, 0] := by decide +kernel

theorem index0 : ∀ t : Fin grid0.N, win0_0.index t = ![(4 * t.val + 0) / 8 * 9 + 1 + (4 * t.val + 0) % 8, 0] := by decide +kernel
theorem index4 : ∀ t : Fin grid0.N, win0_4.index t = ![(4 * t.val + 0) / 8 * 9 + 1 + (4 * t.val + 0) % 8, 0] := by decide +kernel
theorem index1 : ∀ t : Fin grid0.N, win0_1.index t = ![(4 * t.val + 1) / 8 * 9 + 1 + (4 * t.val + 1) % 8, 0] := by decide +kernel
theorem index5 : ∀ t : Fin grid0.N, win0_5.index t = ![(4 * t.val + 1) / 8 * 9 + 1 + (4 * t.val + 1) % 8, 0] := by decide +kernel
theorem index2 : ∀ t : Fin grid0.N, win0_2.index t = ![(4 * t.val + 2) / 8 * 9 + 1 + (4 * t.val + 2) % 8, 0] := by decide +kernel
theorem index6 : ∀ t : Fin grid0.N, win0_6.index t = ![(4 * t.val + 2) / 8 * 9 + 1 + (4 * t.val + 2) % 8, 0] := by decide +kernel
theorem index3 : ∀ t : Fin grid0.N, win0_3.index t = ![(4 * t.val + 3) / 8 * 9 + 1 + (4 * t.val + 3) % 8, 0] := by decide +kernel
theorem index7 : ∀ t : Fin grid0.N, win0_7.index t = ![(4 * t.val + 3) / 8 * 9 + 1 + (4 * t.val + 3) % 8, 0] := by decide +kernel
theorem index14 : ∀ t : Fin grid0.N, win0_14.index t = ![t.val, 0] := by decide +kernel
theorem index15 : ∀ t : Fin grid0.N, win0_15.index t = ![t.val, 0] := by decide +kernel

theorem blk0 (c : Dev nD) (t : Fin cfg0.N) (r : Fin 256) (n : Fin 1024) : iblk m c 0 t (ix2 r n) = argX m c (ix2 (rowAt t 0 r) n) := by
  show V m c main_arg0 _ = _
  rw [V_main_arg0]
  refine congrArg (argX m c) (funext fun a => Fin.ext ?_)
  match a with
  | ⟨0, _⟩ =>
    have e : win0_0.index t 0 = (4 * t.val + 0) / 8 * 9 + 1 + (4 * t.val + 0) % 8 := congrFun (index0 t) 0
    show win0_0.index t 0 * 256 + 1 * r.val = ((4 * t.val + 0) / 8 * 9 + 1 + (4 * t.val + 0) % 8) * 256 + r.val
    rw [e]; omega
  | ⟨1, _⟩ =>
    have e : win0_0.index t 1 = 0 := congrFun (index0 t) 1
    show win0_0.index t 1 * 1024 + 1 * n.val = n.val
    rw [e]; omega

theorem blk1 (c : Dev nD) (t : Fin cfg0.N) (r : Fin 256) (n : Fin 1024) : iblk m c 1 t (ix2 r n) = argX m c (ix2 (rowAt t 1 r) n) := by
  show V m c main_arg0 _ = _
  rw [V_main_arg0]
  refine congrArg (argX m c) (funext fun a => Fin.ext ?_)
  match a with
  | ⟨0, _⟩ =>
    have e : win0_1.index t 0 = (4 * t.val + 1) / 8 * 9 + 1 + (4 * t.val + 1) % 8 := congrFun (index1 t) 0
    show win0_1.index t 0 * 256 + 1 * r.val = ((4 * t.val + 1) / 8 * 9 + 1 + (4 * t.val + 1) % 8) * 256 + r.val
    rw [e]; omega
  | ⟨1, _⟩ =>
    have e : win0_1.index t 1 = 0 := congrFun (index1 t) 1
    show win0_1.index t 1 * 1024 + 1 * n.val = n.val
    rw [e]; omega

theorem blk2 (c : Dev nD) (t : Fin cfg0.N) (r : Fin 256) (n : Fin 1024) : iblk m c 2 t (ix2 r n) = argX m c (ix2 (rowAt t 2 r) n) := by
  show V m c main_arg0 _ = _
  rw [V_main_arg0]
  refine congrArg (argX m c) (funext fun a => Fin.ext ?_)
  match a with
  | ⟨0, _⟩ =>
    have e : win0_2.index t 0 = (4 * t.val + 2) / 8 * 9 + 1 + (4 * t.val + 2) % 8 := congrFun (index2 t) 0
    show win0_2.index t 0 * 256 + 1 * r.val = ((4 * t.val + 2) / 8 * 9 + 1 + (4 * t.val + 2) % 8) * 256 + r.val
    rw [e]; omega
  | ⟨1, _⟩ =>
    have e : win0_2.index t 1 = 0 := congrFun (index2 t) 1
    show win0_2.index t 1 * 1024 + 1 * n.val = n.val
    rw [e]; omega

theorem blk3 (c : Dev nD) (t : Fin cfg0.N) (r : Fin 256) (n : Fin 1024) : iblk m c 3 t (ix2 r n) = argX m c (ix2 (rowAt t 3 r) n) := by
  show V m c main_arg0 _ = _
  rw [V_main_arg0]
  refine congrArg (argX m c) (funext fun a => Fin.ext ?_)
  match a with
  | ⟨0, _⟩ =>
    have e : win0_3.index t 0 = (4 * t.val + 3) / 8 * 9 + 1 + (4 * t.val + 3) % 8 := congrFun (index3 t) 0
    show win0_3.index t 0 * 256 + 1 * r.val = ((4 * t.val + 3) / 8 * 9 + 1 + (4 * t.val + 3) % 8) * 256 + r.val
    rw [e]; omega
  | ⟨1, _⟩ =>
    have e : win0_3.index t 1 = 0 := congrFun (index3 t) 1
    show win0_3.index t 1 * 1024 + 1 * n.val = n.val
    rw [e]; omega

theorem blk4 (c : Dev nD) (t : Fin cfg0.N) (r : Fin 256) (n : Fin 1024) : iblk m c 4 t (ix2 r n) = argY m c (ix2 (rowAt t 0 r) n) := by
  show V m c main_arg1 _ = _
  rw [V_main_arg1]
  refine congrArg (argY m c) (funext fun a => Fin.ext ?_)
  match a with
  | ⟨0, _⟩ =>
    have e : win0_4.index t 0 = (4 * t.val + 0) / 8 * 9 + 1 + (4 * t.val + 0) % 8 := congrFun (index4 t) 0
    show win0_4.index t 0 * 256 + 1 * r.val = ((4 * t.val + 0) / 8 * 9 + 1 + (4 * t.val + 0) % 8) * 256 + r.val
    rw [e]; omega
  | ⟨1, _⟩ =>
    have e : win0_4.index t 1 = 0 := congrFun (index4 t) 1
    show win0_4.index t 1 * 1024 + 1 * n.val = n.val
    rw [e]; omega

theorem blk5 (c : Dev nD) (t : Fin cfg0.N) (r : Fin 256) (n : Fin 1024) : iblk m c 5 t (ix2 r n) = argY m c (ix2 (rowAt t 1 r) n) := by
  show V m c main_arg1 _ = _
  rw [V_main_arg1]
  refine congrArg (argY m c) (funext fun a => Fin.ext ?_)
  match a with
  | ⟨0, _⟩ =>
    have e : win0_5.index t 0 = (4 * t.val + 1) / 8 * 9 + 1 + (4 * t.val + 1) % 8 := congrFun (index5 t) 0
    show win0_5.index t 0 * 256 + 1 * r.val = ((4 * t.val + 1) / 8 * 9 + 1 + (4 * t.val + 1) % 8) * 256 + r.val
    rw [e]; omega
  | ⟨1, _⟩ =>
    have e : win0_5.index t 1 = 0 := congrFun (index5 t) 1
    show win0_5.index t 1 * 1024 + 1 * n.val = n.val
    rw [e]; omega

theorem blk6 (c : Dev nD) (t : Fin cfg0.N) (r : Fin 256) (n : Fin 1024) : iblk m c 6 t (ix2 r n) = argY m c (ix2 (rowAt t 2 r) n) := by
  show V m c main_arg1 _ = _
  rw [V_main_arg1]
  refine congrArg (argY m c) (funext fun a => Fin.ext ?_)
  match a with
  | ⟨0, _⟩ =>
    have e : win0_6.index t 0 = (4 * t.val + 2) / 8 * 9 + 1 + (4 * t.val + 2) % 8 := congrFun (index6 t) 0
    show win0_6.index t 0 * 256 + 1 * r.val = ((4 * t.val + 2) / 8 * 9 + 1 + (4 * t.val + 2) % 8) * 256 + r.val
    rw [e]; omega
  | ⟨1, _⟩ =>
    have e : win0_6.index t 1 = 0 := congrFun (index6 t) 1
    show win0_6.index t 1 * 1024 + 1 * n.val = n.val
    rw [e]; omega

theorem blk7 (c : Dev nD) (t : Fin cfg0.N) (r : Fin 256) (n : Fin 1024) : iblk m c 7 t (ix2 r n) = argY m c (ix2 (rowAt t 3 r) n) := by
  show V m c main_arg1 _ = _
  rw [V_main_arg1]
  refine congrArg (argY m c) (funext fun a => Fin.ext ?_)
  match a with
  | ⟨0, _⟩ =>
    have e : win0_7.index t 0 = (4 * t.val + 3) / 8 * 9 + 1 + (4 * t.val + 3) % 8 := congrFun (index7 t) 0
    show win0_7.index t 0 * 256 + 1 * r.val = ((4 * t.val + 3) / 8 * 9 + 1 + (4 * t.val + 3) % 8) * 256 + r.val
    rw [e]; omega
  | ⟨1, _⟩ =>
    have e : win0_7.index t 1 = 0 := congrFun (index7 t) 1
    show win0_7.index t 1 * 1024 + 1 * n.val = n.val
    rw [e]; omega

theorem blkM (c : Dev nD) (t : Fin cfg0.N) : iblk m c 8 t = argM m c := by
  funext y
  show V m c main_arg2 _ = _
  rw [V_main_arg2]
  refine congrArg (argM m c) (funext fun a => Fin.ext ?_)
  match a with
  | ⟨0, _⟩ => show 0 * 16 + 1 * (y 0).val = (y 0).val; omega
  | ⟨1, _⟩ => show 0 * 6 + 1 * (y 1).val = (y 1).val; omega
  | ⟨2, _⟩ => show 0 * 1024 + 1 * (y 2).val = (y 2).val; omega

theorem blkW (c : Dev nD) (t : Fin cfg0.N) (k n : Fin 1024) : iblk m c 9 t (ix2 k n) = argW m c (ix2 k n) := by
  show V m c main_arg3 _ = _
  rw [V_main_arg3]
  refine congrArg (argW m c) (funext fun a => Fin.ext ?_)
  match a with
  | ⟨0, _⟩ => show 0 * 1024 + 1 * k.val = k.val; omega
  | ⟨1, _⟩ => show 0 * 1024 + 1 * n.val = n.val; omega

theorem V_bias (c : Dev nD) : V m c main_v0 = (shapeCast S1x1024 (argB m c) shapeCasts_S1024_S1x1024 : S1x1024.Idx → Elt Ideal .f32) := by
  unfold V hostOps0
  after_results
  rfl

theorem blkB (c : Dev nD) (t : Fin cfg0.N) (k : Fin 1024) : iblk m c 10 t (ix2 (0 : Fin 1) k) = argB m c (ix1 k) := by
  show V m c main_v0 _ = _
  rw [V_bias]
  have e : ((cfg0.win 10).blk t).view.emb (ix2 (0 : Fin 1) k : S1x1024.Idx) = (ix2 (0 : Fin 1) k : S1x1024.Idx) := by
    funext a; refine Fin.ext ?_
    match a with
    | ⟨0, _⟩ => rfl
    | ⟨1, _⟩ => show 0 * 1024 + 1 * k.val = k.val; omega
  refine (congrArg (shapeCast S1x1024 (argB m c) shapeCasts_S1024_S1x1024) e).trans ?_
  pointwise

theorem V_gain (c : Dev nD) : V m c main_v1 = (shapeCast S1x1024 (argG m c) shapeCasts_S1024_S1x1024 : S1x1024.Idx → Elt Ideal .f32) := by
  unfold V hostOps0
  after_results
  rfl

theorem blkG (c : Dev nD) (t : Fin cfg0.N) (k : Fin 1024) : iblk m c 11 t (ix2 (0 : Fin 1) k) = argG m c (ix1 k) := by
  show V m c main_v1 _ = _
  rw [V_gain]
  have e : ((cfg0.win 11).blk t).view.emb (ix2 (0 : Fin 1) k : S1x1024.Idx) = (ix2 (0 : Fin 1) k : S1x1024.Idx) := by
    funext a; refine Fin.ext ?_
    match a with
    | ⟨0, _⟩ => rfl
    | ⟨1, _⟩ => show 0 * 1024 + 1 * k.val = k.val; omega
  refine (congrArg (shapeCast S1x1024 (argG m c) shapeCasts_S1024_S1x1024) e).trans ?_
  pointwise

/-- The modulation read for a tile is its rows'. -/
theorem mods_tile (c : Dev nD) (t : Fin cfg0.N) (k : Fin 4) (r : Fin 256) (j : Fin 6) (n : Fin 1024) :
    modsAt (grid0.coords t) k (iblk m c 8 t) (ix3 (0 : Fin 1) j n) = argM m c (ix3 (modOf (rowAt t k r)) j n) := by
  rw [blkM]
  unfold modsAt
  refine congrArg (argM m c) (funext fun a => Fin.ext ?_)
  match a with
  | ⟨0, _⟩ =>
    have e : k0_off1 (grid0.coords t) (BitVec.ofNat 32 k.val) 0 = 1 + (4 * t.val + k.val) / 8 := congrFun (modsRow t k) 0
    show k0_off1 (grid0.coords t) (BitVec.ofNat 32 k.val) 0 + 1 * 0 = (modOf (rowAt t k r)).val
    rw [e, modOf_rowAt]; omega
  | ⟨1, _⟩ =>
    have e : k0_off1 (grid0.coords t) (BitVec.ofNat 32 k.val) 1 = 0 := congrFun (modsRow t k) 1
    show k0_off1 (grid0.coords t) (BitVec.ofNat 32 k.val) 1 + 1 * j.val = j.val
    rw [e]; omega
  | ⟨2, _⟩ =>
    have e : k0_off1 (grid0.coords t) (BitVec.ofNat 32 k.val) 2 = 0 := congrFun (modsRow t k) 2
    show k0_off1 (grid0.coords t) (BitVec.ofNat 32 k.val) 2 + 1 * n.val = n.val
    rw [e]; omega

/-- The sums of a tile. -/
theorem tile_sum (c : Dev nD) (t : Fin cfg0.N) (k : Fin 4) (r : Fin 256) (n : Fin 1024) :
    mixAt (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) k (ix2 r n) = sumAt m c (rowAt t k r) n := by
  match k with
  | ⟨0, _⟩ =>
    show mix (F := Ideal) (modsAt (grid0.coords t) 0 (iblk m c 8 t)) (iblk m c 4 t) (iblk m c 9 t) (iblk m c 0 t) (iblk m c 10 t) (ix2 r n) = sumAt m c (rowAt t 0 r) n
    rw [mix_apply, mods_tile m c t 0 r, blkB, blk0]
    simp only [blk4, blkW]
    rfl
  | ⟨1, _⟩ =>
    show mix (F := Ideal) (modsAt (grid0.coords t) 1 (iblk m c 8 t)) (iblk m c 5 t) (iblk m c 9 t) (iblk m c 1 t) (iblk m c 10 t) (ix2 r n) = sumAt m c (rowAt t 1 r) n
    rw [mix_apply, mods_tile m c t 1 r, blkB, blk1]
    simp only [blk5, blkW]
    rfl
  | ⟨2, _⟩ =>
    show mix (F := Ideal) (modsAt (grid0.coords t) 2 (iblk m c 8 t)) (iblk m c 6 t) (iblk m c 9 t) (iblk m c 2 t) (iblk m c 10 t) (ix2 r n) = sumAt m c (rowAt t 2 r) n
    rw [mix_apply, mods_tile m c t 2 r, blkB, blk2]
    simp only [blk6, blkW]
    rfl
  | ⟨3, _⟩ =>
    show mix (F := Ideal) (modsAt (grid0.coords t) 3 (iblk m c 8 t)) (iblk m c 7 t) (iblk m c 9 t) (iblk m c 3 t) (iblk m c 10 t) (ix2 r n) = sumAt m c (rowAt t 3 r) n
    rw [mix_apply, mods_tile m c t 3 r, blkB, blk3]
    simp only [blk7, blkW]
    rfl

/-- The normalised rows of a tile. -/
theorem tile_norm (c : Dev nD) (t : Fin cfg0.N) (k : Fin 4) (r : Fin 256) (d : Fin 1024) :
    feedAt (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k (ix2 r d) = normAt m c (rowAt t k r) d := by
  unfold feedAt
  rw [feed_apply]
  simp only [mods_tile m c t k r, tile_sum, blkG]
  rfl

/-- What a point leaves in its block of sums. -/
theorem block_sum (c : Dev nD) (t : Fin cfg0.N) (z : Fin 1024) (n : Fin 1024) (R : Fin 16384) (hR : R.val = t.val * 1024 + z.val) :
    xoBlk m c t (ix2 z n) = sumAt m c (seqRow R) n := by
  have e : rowAt t ⟨z.val / 256, by omega⟩ ⟨z.val % 256, by omega⟩ = seqRow R := Fin.ext (by
    show ((4 * t.val + z.val / 256) / 8 * 9 + 1 + (4 * t.val + z.val / 256) % 8) * 256 + z.val % 256 = R.val / 2048 * 2304 + (256 + R.val % 2048); omega)
  refine Eq.trans ?_ ((tile_sum m c t ⟨z.val / 256, by omega⟩ ⟨z.val % 256, by omega⟩ n).trans (by rw [e]))
  unfold xoBlk bands
  exact congrArg _ (funext fun a => match a with | ⟨0, _⟩ => rfl | ⟨1, _⟩ => rfl)

/-- What it leaves in its block of normalised rows. -/
theorem block_norm (c : Dev nD) (t : Fin cfg0.N) (z : Fin 8192) (l : Fin 128) (R : Fin 16384) (d : Fin 1024) (hR : R.val = (t.val * 8192 + z.val) / 8)
    (hd : d.val = z.val % 8 * 128 + l.val) : hBlk m c t (ix2 z l) = normAt m c (seqRow R) d := by
  have e : rowAt t ⟨z.val / 2048, by omega⟩ ⟨z.val / 8 % 256, by omega⟩ = seqRow R := Fin.ext (by
    show ((4 * t.val + z.val / 2048) / 8 * 9 + 1 + (4 * t.val + z.val / 2048) % 8) * 256 + z.val / 8 % 256 = R.val / 2048 * 2304 + (256 + R.val % 2048); omega)
  refine Eq.trans ?_ ((tile_norm m c t ⟨z.val / 2048, by omega⟩ ⟨z.val / 8 % 256, by omega⟩ d).trans (by rw [e]))
  unfold hBlk spread
  exact congrArg _ (funext fun a => match a with | ⟨0, _⟩ => rfl | ⟨1, _⟩ => Fin.ext hd.symm)

/-- The first array ends at the sums. -/
theorem arr_xo (c : Dev nD) : (dats m 0 c).arrAt 14 cfg0.N = outXo m c := by
  refine (dats m 0 c).arrAt_eq_of_covers 14 _ (by decide +kernel) fun t hf y => ?_
  show (dats m 0 c).after 14 t y = outXo m c _
  rw [after0_14]
  obtain ⟨z, n, rfl⟩ : ∃ (z : Fin 1024) (n : Fin 1024), y = ix2 z n := ⟨y 0, y 1, eq_ix2 y⟩
  have ht := t_lt t
  refine (block_sum m c t z n ⟨t.val * 1024 + z.val, by omega⟩ rfl).trans
    (congrArg (outXo m c) (funext fun a => Fin.ext ?_) : outXo m c (ix2 (⟨t.val * 1024 + z.val, by omega⟩ : Fin 16384) n) = _)
  match a with
  | ⟨0, _⟩ =>
    have e : win0_14.index t 0 = t.val := congrFun (index14 t) 0
    show t.val * 1024 + z.val = win0_14.index t 0 * 1024 + 1 * z.val
    rw [e]; omega
  | ⟨1, _⟩ =>
    have e : win0_14.index t 1 = 0 := congrFun (index14 t) 1
    show n.val = win0_14.index t 1 * 1024 + 1 * n.val
    rw [e]; omega

/-- The other at the normalised rows. -/
theorem arr_h (c : Dev nD) : (dats m 0 c).arrAt 15 cfg0.N = outH m c := by
  refine (dats m 0 c).arrAt_eq_of_covers 15 _ (by decide +kernel) fun t hf y => ?_
  show (dats m 0 c).after 15 t y = outH m c _
  rw [after0_15]
  obtain ⟨z, l, rfl⟩ : ∃ (z : Fin 8192) (l : Fin 128), y = ix2 z l := ⟨y 0, y 1, eq_ix2 y⟩
  have ht := t_lt t
  refine (block_norm m c t z l ⟨(t.val * 8192 + z.val) / 8, by omega⟩ ⟨(t.val * 8192 + z.val) % 8 * 128 + l.val, by omega⟩ rfl
      (by show (t.val * 8192 + z.val) % 8 * 128 + l.val = _; omega)).trans
    (congrArg (outH m c) (funext fun a => Fin.ext ?_) : outH m c (ix2 (⟨t.val * 8192 + z.val, by omega⟩ : Fin 131072) l) = _)
  match a with
  | ⟨0, _⟩ =>
    have e : win0_15.index t 0 = t.val := congrFun (index15 t) 0
    show t.val * 8192 + z.val = win0_15.index t 0 * 8192 + 1 * z.val
    rw [e]; omega
  | ⟨1, _⟩ =>
    have e : win0_15.index t 1 = 0 := congrFun (index15 t) 1
    show l.val = win0_15.index t 1 * 128 + 1 * l.val
    rw [e]; omega

end Cert.LastIdeal.Hand

end
-- ==== Proof.RefLast.lean ====
module

public import proofs.«01_k».proof.Proof.Gen.LastRefIdeal.Run
public import proofs.«01_k».proof.Proof.RefRoute

@[expose] public section

set_option maxRecDepth 16384

noncomputable section

namespace Cert.LastRefIdeal.Hand

open Cert.LastRefIdeal Cert.LastRefIdeal.Gen Cert.Project
open Cert.GatedRefIdeal.Hand (latNorm latOf latNorm_apply latOf_apply)
open Cert.RouteRefIdeal.Hand (latMod latSum latMod_apply latSum_apply)
open Idealize.ShloMosaic
open Idealize.ShloMosaic.TcCoe

/-- The sequences' rows of what the projection takes. -/
def latIn (y : FVec Ideal S18432x1024 .bf16) : FVec Ideal S8x2048x1024 .bf16 :=
  extractStridedSlice S8x2048x1024 ![0, 256, 0] (shapeCast S8x2304x1024 y shapeCasts_S18432x1024_S8x2304x1024) slices_S8x2304x1024_S8x2048x1024_0_256_0

/-- Their projection. -/
def proj (y : FVec Ideal S8x2048x1024 .bf16) (w : FVec Ideal S1024x1024 .bf16) (b : FVec Ideal S1024 .f32) : FVec Ideal S8x2048x1024 .f32 :=
  addf (Host.dotGeneral dot_S8x2048x1024_S1024x1024_S8x2048x1024_2_0_01_1_n_n none (extf .f32 y bitsLt_bf16_f32) (extf .f32 w bitsLt_bf16_f32))
    (broadcastInDim S8x2048x1024 ![0, 1, 2] bcast_S1x1x1024_S8x2048x1024_0_1_2 (broadcastInDim S1x1x1024 ![2] bcast_S1024_S1x1x1024_2 b))

/-- The sums. -/
def latXo (x : FVec Ideal S18432x1024 .f32) (y : FVec Ideal S18432x1024 .bf16) (mods : FVec Ideal S16x6x1024 .f32) (w : FVec Ideal S1024x1024 .bf16) (b : FVec Ideal S1024 .f32) : FVec Ideal S8x2048x1024 .f32 :=
  latSum (latOf x) (proj (latIn y) w b) mods

/-- The two results. -/
def xoTerm (x : FVec Ideal S18432x1024 .f32) (y : FVec Ideal S18432x1024 .bf16) (mods : FVec Ideal S16x6x1024 .f32) (w : FVec Ideal S1024x1024 .bf16) (b : FVec Ideal S1024 .f32) : FVec Ideal S16384x1024 .f32 :=
  shapeCast S16384x1024 (latXo x y mods w b) shapeCasts_S8x2048x1024_S16384x1024
def hTerm (x : FVec Ideal S18432x1024 .f32) (y : FVec Ideal S18432x1024 .bf16) (mods : FVec Ideal S16x6x1024 .f32) (w : FVec Ideal S1024x1024 .bf16) (b g : FVec Ideal S1024 .f32) : FVec Ideal S131072x128 .f32 :=
  shapeCast S131072x128 (latMod (latNorm (latXo x y mods w b) g) mods) shapeCasts_S8x2048x1024_S131072x128

theorem latIn_apply (y : FVec Ideal S18432x1024 .bf16) (b : Fin 8) (s : Fin 2048) (d : Fin 1024) :
    latIn y (ix3 b s d) = y (ix2 (⟨b.val * 2304 + (256 + s.val), by omega⟩ : Fin 18432) d) := by
  pointwise [latIn]

theorem proj_apply (y : FVec Ideal S8x2048x1024 .bf16) (w : FVec Ideal S1024x1024 .bf16) (b : FVec Ideal S1024 .f32) (i : Fin 8) (s : Fin 2048) (n : Fin 1024) :
    proj y w b (ix3 i s n) = (∑ d : Fin 1024, (y (ix3 i s d) : EReal) * w (ix2 d n)) + b (ix1 n) := by
  pointwise [proj]

theorem fold_apply (z : FVec Ideal S8x2048x1024 .f32) (r : Fin 16384) (d : Fin 1024) :
    (shapeCast S16384x1024 z shapeCasts_S8x2048x1024_S16384x1024 : FVec Ideal S16384x1024 .f32) (ix2 r d)
      = z (ix3 (⟨r.val / 2048, by omega⟩ : Fin 8) (⟨r.val % 2048, by omega⟩ : Fin 2048) d) := by
  pointwise

theorem lanes_apply (z : FVec Ideal S8x2048x1024 .f32) (q : Fin 131072) (l : Fin 128) :
    (shapeCast S131072x128 z shapeCasts_S8x2048x1024_S131072x128 : FVec Ideal S131072x128 .f32) (ix2 q l)
      = z (ix3 (⟨q.val / 16384, by omega⟩ : Fin 8) (⟨q.val / 8 % 2048, by omega⟩ : Fin 2048) (⟨q.val % 8 * 128 + l.val, by omega⟩ : Fin 1024)) := by
  pointwise

theorem modOf_seqRow (r : Fin 16384) : modOf (seqRow r) = ⟨1 + r.val / 2048, by omega⟩ := by
  unfold modOf
  rw [if_neg (by show ¬(r.val / 2048 * 2304 + (256 + r.val % 2048)) % 2304 < 256; omega)]
  exact Fin.ext (by show 1 + (r.val / 2048 * 2304 + (256 + r.val % 2048)) / 2304 = 1 + r.val / 2048; omega)

theorem latXo_apply (x : FVec Ideal S18432x1024 .f32) (y : FVec Ideal S18432x1024 .bf16) (mods : FVec Ideal S16x6x1024 .f32) (w : FVec Ideal S1024x1024 .bf16) (b : FVec Ideal S1024 .f32)
    (r : Fin 16384) (n : Fin 1024) :
    latXo x y mods w b (ix3 (⟨r.val / 2048, by omega⟩ : Fin 8) (⟨r.val % 2048, by omega⟩ : Fin 2048) n) = mixed (fun r k => x (ix2 r k)) (fun r k => y (ix2 r k)) (fun i j k => mods (ix3 i j k)) (fun k n => w (ix2 k n)) (fun n => b (ix1 n)) (seqRow r) n := by
  unfold latXo mixed
  rw [modOf_seqRow]
  simp only [latSum_apply, latOf_apply, proj_apply, latIn_apply]
  rfl

theorem xoTerm_apply (x : FVec Ideal S18432x1024 .f32) (y : FVec Ideal S18432x1024 .bf16) (mods : FVec Ideal S16x6x1024 .f32) (w : FVec Ideal S1024x1024 .bf16) (b : FVec Ideal S1024 .f32)
    (r : Fin 16384) (n : Fin 1024) : xoTerm x y mods w b (ix2 r n) = mixed (fun r k => x (ix2 r k)) (fun r k => y (ix2 r k)) (fun i j k => mods (ix3 i j k)) (fun k n => w (ix2 k n)) (fun n => b (ix1 n)) (seqRow r) n := by
  unfold xoTerm
  rw [fold_apply]; exact latXo_apply x y mods w b r n

theorem hTerm_apply (x : FVec Ideal S18432x1024 .f32) (y : FVec Ideal S18432x1024 .bf16) (mods : FVec Ideal S16x6x1024 .f32) (w : FVec Ideal S1024x1024 .bf16) (b g : FVec Ideal S1024 .f32)
    (q : Fin 131072) (l : Fin 128) (r : Fin 16384) (d : Fin 1024) (hr : r.val = q.val / 8) (hd : d.val = q.val % 8 * 128 + l.val) :
    hTerm x y mods w b g (ix2 q l)
      = normed (mixed (fun r k => x (ix2 r k)) (fun r k => y (ix2 r k)) (fun i j k => mods (ix3 i j k)) (fun k n => w (ix2 k n)) (fun n => b (ix1 n)) (seqRow r))
          (fun k => g (ix1 k)) (fun k => mods (ix3 (modOf (seqRow r)) (3 : Fin 6) k)) (fun k => mods (ix3 (modOf (seqRow r)) (4 : Fin 6) k)) d := by
  unfold hTerm
  rw [lanes_apply, show (⟨q.val % 8 * 128 + l.val, by omega⟩ : Fin 1024) = d from Fin.ext hd.symm,
    show (⟨q.val / 16384, by omega⟩ : Fin 8) = ⟨r.val / 2048, by omega⟩ from Fin.ext (by show q.val / 16384 = r.val / 2048; omega),
    show (⟨q.val / 8 % 2048, by omega⟩ : Fin 2048) = ⟨r.val % 2048, by omega⟩ from Fin.ext (by show q.val / 8 % 2048 = r.val % 2048; omega)]
  unfold normed
  simp only [latMod_apply, latNorm_apply, latXo_apply x y mods w b r, modOf_seqRow]

variable (m : (ℓ : Loc nD τ sig) → Buf (Elt Ideal) ℓ) (c : Dev nD)

theorem out1_eq : Value.res_out1 (F := Ideal) m c
    = hTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

end Cert.LastRefIdeal.Hand

end
-- ==== Proof.RefGated.lean ====
module

public import proofs.«01_k».proof.Proof.RefRows

@[expose] public section

set_option maxRecDepth 16384

noncomputable section

namespace Cert.GatedRefIdeal.Hand

open Cert.GatedRefIdeal Cert.GatedRefIdeal.Gen Cert.Project
open Idealize.ShloMosaic
open Idealize.ShloMosaic.TcCoe

/-- The rows' projection to all columns, folded back into one stream. -/
def columns (X : FVec Ideal S8x2304x1024 .f32) (w : FVec Ideal S1024x3200 .bf16) (b : FVec Ideal S3200 .f32) : FVec Ideal S18432x3200 .f32 :=
  shapeCast S18432x3200 (addf (Host.dotGeneral dot_S8x2304x1024_S1024x3200_S8x2304x3200_2_0_01_1_n_n none X (extf .f32 w bitsLt_bf16_f32))
    (broadcastInDim S8x2304x3200 ![0, 1, 2] bcast_S1x1x3200_S8x2304x3200_0_1_2 (broadcastInDim S1x1x3200 ![2] bcast_S3200_S1x1x3200_2 b))) shapeCasts_S8x2304x3200_S18432x3200

theorem columns_apply (X : FVec Ideal S8x2304x1024 .f32) (w : FVec Ideal S1024x3200 .bf16) (b : FVec Ideal S3200 .f32) (r : Fin 18432) (n : Fin 3200) :
    columns X w b (ix2 r n)
      = (∑ d : Fin 1024, (X (ix3 (⟨r.val / 2304, by omega⟩ : Fin 8) (⟨r.val % 2304, by omega⟩ : Fin 2304) d) : EReal) * w (ix2 d n)) + b (ix1 n) := by
  unfold columns
  pointwise

/-- The main columns. -/
def mainTerm (x : FVec Ideal S18432x1024 .f32) (mods : FVec Ideal S16x6x1024 .f32) (g : FVec Ideal S1024 .f32) (w : FVec Ideal S1024x3200 .bf16)
    (b : FVec Ideal S3200 .f32) : FVec Ideal S18432x3072 .bf16 :=
  truncf .bf16 (extractStridedSlice S18432x3072 ![0, 0] (columns (rows x mods g) w b) slices_S18432x3200_S18432x3072_0_0) bitsLt_bf16_f32

/-- The extra columns. -/
def extraTerm (x : FVec Ideal S18432x1024 .f32) (mods : FVec Ideal S16x6x1024 .f32) (g : FVec Ideal S1024 .f32) (w : FVec Ideal S1024x3200 .bf16)
    (b : FVec Ideal S3200 .f32) : FVec Ideal S18432x128 .f32 :=
  extractStridedSlice S18432x128 ![0, 3072] (columns (rows x mods g) w b) slices_S18432x3200_S18432x128_0_3072

theorem mainTerm_apply (x : FVec Ideal S18432x1024 .f32) (mods : FVec Ideal S16x6x1024 .f32) (g : FVec Ideal S1024 .f32) (w : FVec Ideal S1024x3200 .bf16)
    (b : FVec Ideal S3200 .f32) (r : Fin 18432) (n : Fin 3072) :
    mainTerm x mods g w b (ix2 r n)
      = project (fun r k => x (ix2 r k)) (fun i j k => mods (ix3 i j k)) (fun k => g (ix1 k))
          (fun k => w (ix2 k (⟨n.val, by omega⟩ : Fin 3200))) (b (ix1 (⟨n.val, by omega⟩ : Fin 3200))) r := by
  unfold mainTerm project
  generalize hC : columns (rows x mods g) w b = C
  pointwise
  rw [← hC, columns_apply]
  simp only [rows_apply]

theorem extraTerm_apply (x : FVec Ideal S18432x1024 .f32) (mods : FVec Ideal S16x6x1024 .f32) (g : FVec Ideal S1024 .f32) (w : FVec Ideal S1024x3200 .bf16)
    (b : FVec Ideal S3200 .f32) (r : Fin 18432) (n : Fin 128) :
    extraTerm x mods g w b (ix2 r n)
      = project (fun r k => x (ix2 r k)) (fun i j k => mods (ix3 i j k)) (fun k => g (ix1 k))
          (fun k => w (ix2 k (⟨3072 + n.val, by omega⟩ : Fin 3200))) (b (ix1 (⟨3072 + n.val, by omega⟩ : Fin 3200))) r := by
  unfold extraTerm project
  generalize hC : columns (rows x mods g) w b = C
  pointwise
  rw [← hC, columns_apply]
  simp only [rows_apply]

variable (m : (ℓ : Loc nD τ sig) → Buf (Elt Ideal) ℓ) (c : Dev nD)

theorem out0_eq : Value.res_out0 (F := Ideal) m c
    = mainTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

theorem out1_eq : Value.res_out1 (F := Ideal) m c
    = extraTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.GatedRefIdeal.Hand

end
-- ==== Proof.RefPlain.lean ====
module

public import proofs.«01_k».proof.Proof.RefRows
public import proofs.«01_k».proof.Proof.Gen.PlainRefIdeal.Run

@[expose] public section

set_option maxRecDepth 16384

noncomputable section

namespace Cert.PlainRefIdeal.Hand

open Cert.PlainRefIdeal Cert.PlainRefIdeal.Gen Cert.Project
open Idealize.ShloMosaic
open Idealize.ShloMosaic.TcCoe

/-- The rows' projection to all columns, folded back into one stream. -/
def columns (X : FVec Ideal S8x2304x1024 .f32) (w : FVec Ideal S1024x3072 .bf16) (b : FVec Ideal S3072 .f32) : FVec Ideal S18432x3072 .f32 :=
  shapeCast S18432x3072 (addf (Host.dotGeneral dot_S8x2304x1024_S1024x3072_S8x2304x3072_2_0_01_1_n_n none X (extf .f32 w bitsLt_bf16_f32))
    (broadcastInDim S8x2304x3072 ![0, 1, 2] bcast_S1x1x3072_S8x2304x3072_0_1_2 (broadcastInDim S1x1x3072 ![2] bcast_S3072_S1x1x3072_2 b))) shapeCasts_S8x2304x3072_S18432x3072

theorem columns_apply (X : FVec Ideal S8x2304x1024 .f32) (w : FVec Ideal S1024x3072 .bf16) (b : FVec Ideal S3072 .f32) (r : Fin 18432) (n : Fin 3072) :
    columns X w b (ix2 r n)
      = (∑ d : Fin 1024, (X (ix3 (⟨r.val / 2304, by omega⟩ : Fin 8) (⟨r.val % 2304, by omega⟩ : Fin 2304) d) : EReal) * w (ix2 d n)) + b (ix1 n) := by
  unfold columns
  pointwise

/-- The reference's result of its arguments. -/
def refTerm (x : FVec Ideal S18432x1024 .f32) (mods : FVec Ideal S16x6x1024 .f32) (g : FVec Ideal S1024 .f32) (w : FVec Ideal S1024x3072 .bf16)
    (b : FVec Ideal S3072 .f32) : FVec Ideal S18432x3072 .bf16 :=
  truncf .bf16 (columns (Cert.GatedRefIdeal.Hand.rows x mods g) w b) bitsLt_bf16_f32

theorem refTerm_apply (x : FVec Ideal S18432x1024 .f32) (mods : FVec Ideal S16x6x1024 .f32) (g : FVec Ideal S1024 .f32) (w : FVec Ideal S1024x3072 .bf16)
    (b : FVec Ideal S3072 .f32) (r : Fin 18432) (n : Fin 3072) :
    refTerm x mods g w b (ix2 r n)
      = project (fun r k => x (ix2 r k)) (fun i j k => mods (ix3 i j k)) (fun k => g (ix1 k)) (fun k => w (ix2 k n)) (b (ix1 n)) r := by
  refine (columns_apply _ w b r n).trans ?_
  unfold project
  refine congrArg (· + _) (Finset.sum_congr rfl fun d _ => congrArg (· * _) ?_)
  exact Cert.GatedRefIdeal.Hand.rows_apply x mods g r d

variable (m : (ℓ : Loc nD τ sig) → Buf (Elt Ideal) ℓ) (c : Dev nD)

theorem out0_eq : Value.res_out0 (F := Ideal) m c
    = refTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.PlainRefIdeal.Hand

end
-- ==== Proof.KernelMods.lean ====
module

public import proofs.«01_k».proof.Proof.Project
public import proofs.«01_k».proof.Proof.Gen.ModsIdeal.Value
public import Idealize.ShloMosaic.Lib.Pipeline.ValueKit.Geometry

@[expose] public section

set_option maxRecDepth 16384

noncomputable section

namespace Cert.ModsIdeal.Hand

open Cert.ModsIdeal Cert.ModsIdeal.Gen Cert.Project
open Idealize.ShloMosaic
open Idealize.ShloMosaic.TcCoe Idealize.SL.Sem
open Idealize.ShloMosaic.Pipeline (Dat)

variable (m : (ℓ : Loc nD τ sig) → Buf (Elt Ideal) ℓ)

/-- The arguments at launch. -/
abbrev argR (c : Dev nD) : S16x1024.Idx → Elt Ideal .f32 := m ((c : Thread nD τ).loc main_arg0)
abbrev argW (c : Dev nD) : S4x1024x6144.Idx → Elt Ideal .f32 := m ((c : Thread nD τ).loc main_arg1)
abbrev argB (c : Dev nD) : S4x6144.Idx → Elt Ideal .f32 := m ((c : Thread nD τ).loc main_arg2)

/-- The result. -/
def out (c : Dev nD) : S4x16x6144.Idx → Elt Ideal .f32 := fun y =>
  modulation (fun d => argR m c (ix2 (y 1 : Fin 16) d)) (fun d => argW m c (ix3 (y 0 : Fin 4) d (y 2 : Fin 6144))) (argB m c (ix2 (y 0 : Fin 4) (y 2 : Fin 6144)))

/-- The body's payload at an index. -/
theorem pay_apply (x : S16x1024.Idx → Elt Ideal .f32) (w : S1x1024x1536.Idx → Elt Ideal .f32) (b : S1x1x1536.Idx → Elt Ideal .f32) (r : Fin 16) (n : Fin 1536) :
    k0_pay1 (F := Ideal) x w b (ix3 (0 : Fin 1) r n)
      = modulation (fun d => x (ix2 r d)) (fun d => w (ix3 (0 : Fin 1) d n)) (b (ix3 (0 : Fin 1) (0 : Fin 1) n)) := by
  pointwise [k0_pay1]
  unfold modulation
  simp only [zero_sub]

theorem t_lt (t : Fin cfg0.N) : t.val < 16 := t.isLt

/-- A point's layer and a tile's column among all. -/
def layerAt (t : Fin cfg0.N) : Fin 4 := ⟨t.val / 4, by have := t_lt t; omega⟩
def colAt (t : Fin cfg0.N) (n : Fin 1536) : Fin 6144 := ⟨t.val % 4 * 1536 + n.val, by omega⟩

theorem index1 : ∀ t : Fin grid0.N, win0_1.index t = ![t.val / 4, 0, t.val % 4] := by decide +kernel
theorem index2 : ∀ t : Fin grid0.N, win0_2.index t = ![t.val / 4, 0, t.val % 4] := by decide +kernel
theorem index3 : ∀ t : Fin grid0.N, win0_3.index t = ![t.val / 4, 0, t.val % 4] := by decide +kernel

theorem blkR (c : Dev nD) (t : Fin cfg0.N) (r : Fin 16) (d : Fin 1024) : iblk m c 0 t (ix2 r d) = argR m c (ix2 r d) := by
  show V m c main_arg0 _ = _
  rw [V_main_arg0]
  refine congrArg (argR m c) (funext fun a => Fin.ext ?_)
  match a with
  | ⟨0, _⟩ => show 0 * 16 + 1 * r.val = r.val; omega
  | ⟨1, _⟩ => show 0 * 1024 + 1 * d.val = d.val; omega

theorem blkW (c : Dev nD) (t : Fin cfg0.N) (d : Fin 1024) (n : Fin 1536) :
    iblk m c 1 t (ix3 (0 : Fin 1) d n) = argW m c (ix3 (layerAt t) d (colAt t n)) := by
  show V m c main_arg1 _ = _
  rw [V_main_arg1]
  refine congrArg (argW m c) (funext fun a => Fin.ext ?_)
  match a with
  | ⟨0, _⟩ =>
    have e : win0_1.index t 0 = t.val / 4 := congrFun (index1 t) 0
    show win0_1.index t 0 * 1 + 1 * 0 = t.val / 4
    rw [e]; omega
  | ⟨1, _⟩ =>
    have e : win0_1.index t 1 = 0 := congrFun (index1 t) 1
    show win0_1.index t 1 * 1024 + 1 * d.val = d.val
    rw [e]; omega
  | ⟨2, _⟩ =>
    have e : win0_1.index t 2 = t.val % 4 := congrFun (index1 t) 2
    show win0_1.index t 2 * 1536 + 1 * n.val = t.val % 4 * 1536 + n.val
    rw [e]; omega

theorem V_bias (c : Dev nD) : V m c main_v0 = (shapeCast S4x1x6144 (argB m c) shapeCasts_S4x6144_S4x1x6144 : S4x1x6144.Idx → Elt Ideal .f32) := by
  unfold V hostOps0
  after_results
  rfl

theorem bias_apply (b : S4x6144.Idx → Elt Ideal .f32) (l : Fin 4) (n : Fin 6144) :
    (shapeCast S4x1x6144 b shapeCasts_S4x6144_S4x1x6144 : S4x1x6144.Idx → Elt Ideal .f32) (ix3 l (0 : Fin 1) n) = b (ix2 l n) := by
  pointwise

theorem blkB (c : Dev nD) (t : Fin cfg0.N) (n : Fin 1536) : iblk m c 2 t (ix3 (0 : Fin 1) (0 : Fin 1) n) = argB m c (ix2 (layerAt t) (colAt t n)) := by
  show V m c main_v0 _ = _
  rw [V_bias]
  have e : ((cfg0.win 2).blk t).view.emb (ix3 (0 : Fin 1) (0 : Fin 1) n : S1x1x1536.Idx) = (ix3 (layerAt t) (0 : Fin 1) (colAt t n) : S4x1x6144.Idx) := by
    funext a; refine Fin.ext ?_
    match a with
    | ⟨0, _⟩ =>
      have e : win0_2.index t 0 = t.val / 4 := congrFun (index2 t) 0
      show win0_2.index t 0 * 1 + 1 * 0 = t.val / 4
      rw [e]; omega
    | ⟨1, _⟩ =>
      have e : win0_2.index t 1 = 0 := congrFun (index2 t) 1
      show win0_2.index t 1 * 1 + 1 * 0 = 0
      rw [e]
    | ⟨2, _⟩ =>
      have e : win0_2.index t 2 = t.val % 4 := congrFun (index2 t) 2
      show win0_2.index t 2 * 1536 + 1 * n.val = t.val % 4 * 1536 + n.val
      rw [e]; omega
  exact (congrArg (shapeCast S4x1x6144 (argB m c) shapeCasts_S4x6144_S4x1x6144) e).trans (bias_apply _ _ _)

/-- What a point leaves in its tile. -/
theorem tile_out (c : Dev nD) (t : Fin cfg0.N) (r : Fin 16) (n : Fin 1536) :
    out0_3 (iblk m c 0 t) (iblk m c 1 t) (iblk m c 2 t) (ix3 (0 : Fin 1) r n) = out m c (ix3 (layerAt t) r (colAt t n)) := by
  unfold out0_3
  rw [View.canon_unit_zero (funext fun a => by match a with | ⟨0, _⟩ => rfl | ⟨1, _⟩ => rfl | ⟨2, _⟩ => rfl), pay_apply]
  show _ = modulation (fun d => argR m c (ix2 r d)) (fun d => argW m c (ix3 (layerAt t) d (colAt t n))) (argB m c (ix2 (layerAt t) (colAt t n)))
  refine congr (congr (congrArg modulation (funext fun d => ?_)) (funext fun d => ?_)) ?_
  · exact (congrArg (iblk m c 0 t) (funext fun a => by
      match a with
      | ⟨0, _⟩ => exact Fin.ext (by show 0 + 1 * r.val = r.val; omega)
      | ⟨1, _⟩ => exact Fin.ext (by show 0 + 1 * d.val = d.val; omega))).trans (blkR m c t r d)
  · exact (congrArg (iblk m c 1 t) (funext fun a => by
      match a with
      | ⟨0, _⟩ => rfl
      | ⟨1, _⟩ => exact Fin.ext (by show 0 + 1 * d.val = d.val; omega)
      | ⟨2, _⟩ => exact Fin.ext (by show 0 + 1 * n.val = n.val; omega))).trans (blkW m c t d n)
  · exact (congrArg (iblk m c 2 t) (funext fun a => by
      match a with
      | ⟨0, _⟩ => rfl
      | ⟨1, _⟩ => rfl
      | ⟨2, _⟩ => exact Fin.ext (by show 0 + 1 * n.val = n.val; omega))).trans (blkB m c t n)

/-- The array ends at the modulations. -/
theorem arr_out (c : Dev nD) : (dats m 0 c).arrAt 3 cfg0.N = out m c := by
  refine (dats m 0 c).arrAt_eq_of_covers 3 _ (by decide +kernel) fun t hf y => ?_
  show (dats m 0 c).after 3 t y = out m c _
  rw [after0_3]
  obtain ⟨z, r, n, rfl⟩ : ∃ (z : Fin 1) (r : Fin 16) (n : Fin 1536), y = ix3 z r n := ⟨y 0, y 1, y 2, eq_ix3 y⟩
  obtain rfl : z = 0 := Subsingleton.elim _ _
  refine (tile_out m c t r n).trans (congrArg (out m c) (funext fun a => Fin.ext ?_))
  match a with
  | ⟨0, _⟩ =>
    have e : win0_3.index t 0 = t.val / 4 := congrFun (index3 t) 0
    show t.val / 4 = win0_3.index t 0 * 1 + 1 * 0
    rw [e]; omega
  | ⟨1, _⟩ =>
    have e : win0_3.index t 1 = 0 := congrFun (index3 t) 1
    show r.val = win0_3.index t 1 * 16 + 1 * r.val
    rw [e]; omega
  | ⟨2, _⟩ =>
    have e : win0_3.index t 2 = t.val % 4 := congrFun (index3 t) 2
    show t.val % 4 * 1536 + n.val = win0_3.index t 2 * 1536 + 1 * n.val
    rw [e]; omega

end Cert.ModsIdeal.Hand

end
-- ==== Proof.RefMods.lean ====
module

public import proofs.«01_k».proof.Proof.Project
public import proofs.«01_k».proof.Proof.Gen.ModsRefIdeal.Run

@[expose] public section

set_option maxRecDepth 16384

noncomputable section

namespace Cert.ModsRefIdeal.Hand

open Cert.ModsRefIdeal Cert.ModsRefIdeal.Gen Cert.Project
open Idealize.ShloMosaic
open Idealize.ShloMosaic.TcCoe

/-- The conditioning rows times their logistic. -/
def gate (x : FVec Ideal S16x1024 .f32) : FVec Ideal S16x1024 .f32 :=
  mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))

theorem gate_apply (x : FVec Ideal S16x1024 .f32) (i : S16x1024.Idx) : gate x i = (x i : EReal) * Ideal.div 1 (1 + Ideal.exp (-x i)) := by
  unfold gate
  pointwise

/-- The reference's result of its arguments. -/
def refTerm (x : FVec Ideal S16x1024 .f32) (w : FVec Ideal S4x1024x6144 .f32) (b : FVec Ideal S4x6144 .f32) : FVec Ideal S4x16x6144 .f32 :=
  addf (transpose S4x16x6144 [1, 0, 2] (Host.dotGeneral dot_S16x1024_S4x1024x6144_S16x4x6144_1_1_0_02_n_n none (gate x) w) transposes_S16x4x6144_S4x16x6144_1_0_2)
    (broadcastInDim S4x16x6144 ![0, 1, 2] bcast_S4x1x6144_S4x16x6144_0_1_2 (broadcastInDim S4x1x6144 ![0, 2] bcast_S4x6144_S4x1x6144_0_2 b))

theorem refTerm_apply (x : FVec Ideal S16x1024 .f32) (w : FVec Ideal S4x1024x6144 .f32) (b : FVec Ideal S4x6144 .f32) (l : Fin 4) (r : Fin 16) (n : Fin 6144) :
    refTerm x w b (ix3 l r n) = modulation (fun d => x (ix2 r d)) (fun d => w (ix3 l d n)) (b (ix2 l n)) := by
  unfold refTerm
  generalize hg : gate x = g
  have hx : ∀ d : Fin 1024, g (ix2 r d) = (x (ix2 r d) : EReal) * Ideal.div 1 (1 + Ideal.exp (-x (ix2 r d))) := fun d => by
    rw [← hg]; exact gate_apply x _
  pointwise
  unfold modulation
  simp only [hx]

end Cert.ModsRefIdeal.Hand

end
-- ==== Proof.KernelPre.lean ====
module

public import proofs.«01_k».proof.Proof.Project
public import proofs.«01_k».proof.Proof.Gen.PreIdeal.Value
public import Idealize.ShloMosaic.Lib.Pipeline.ValueKit.Geometry

@[expose] public section

set_option maxRecDepth 16384

noncomputable section

namespace Cert.PreIdeal.Hand

open Cert.PreIdeal Cert.PreIdeal.Gen Cert.Project
open Idealize.ShloMosaic
open Idealize.ShloMosaic.TcCoe Idealize.SL.Sem
open Idealize.ShloMosaic.Pipeline (Dat)

variable (m : (ℓ : Loc nD τ sig) → Buf (Elt Ideal) ℓ)

/-- The arguments at launch. -/
abbrev argP (c : Dev nD) : S18432x3072.Idx → Elt Ideal .bf16 := m ((c : Thread nD τ).loc main_arg0)
abbrev argW (c : Dev nD) : S3x3072.Idx → Elt Ideal .f32 := m ((c : Thread nD τ).loc main_arg1)
abbrev argB (c : Dev nD) : S3072.Idx → Elt Ideal .f32 := m ((c : Thread nD τ).loc main_arg2)

/-- The convolution of the arguments. -/
def conv (c : Dev nD) : Fin 18432 → Fin 3072 → EReal :=
  shortConv (fun r n => argP m c (ix2 r n)) (fun k n => argW m c (ix2 k n)) (fun n => argB m c (ix1 n))

/-- The gated pair and the first third, at a row of the stream and a column. -/
def pair (c : Dev nD) (r : Fin 18432) (n : Fin 1024) : EReal := conv m c r (third 1 n) * conv m c r (third 2 n)
def first (c : Dev nD) (r : Fin 18432) (n : Fin 1024) : EReal := conv m c r (third 0 n)

/-- The results. -/
def outZC (c : Dev nD) : S2048x1024.Idx → Elt Ideal .bf16 := fun y => pair m c (ctxRow (y 0)) (y 1)
def outZL (c : Dev nD) : S16384x1024.Idx → Elt Ideal .bf16 := fun y => pair m c (seqRow (y 0)) (y 1)
def outXC (c : Dev nD) : S2048x1024.Idx → Elt Ideal .bf16 := fun y => first m c (ctxRow (y 0)) (y 1)
def outXL (c : Dev nD) : S16384x1024.Idx → Elt Ideal .bf16 := fun y => first m c (seqRow (y 0)) (y 1)

/-- A choice by either of two comparisons of a row number. -/
theorem select_rows (a b : ℕ) (ha : a < 2304) (hb : b < 2304) (q : Fin 2304) (x y : EReal) :
    Scalar.select (IntOp.ori (IntOp.cmpi .eq (BitVec.ofNat 32 q.val) (BitVec.ofNat 32 a)) (IntOp.cmpi .eq (BitVec.ofNat 32 q.val) (BitVec.ofNat 32 b))) x y
      = if q.val = a ∨ q.val = b then x else y := by
  have h : ∀ k < 2304, (IntOp.cmpi .eq (BitVec.ofNat 32 q.val) (BitVec.ofNat 32 k)) = if q.val = k then 1#1 else 0#1 := fun k hk => by
    have := q.isLt
    by_cases e : q.val = k
    · simp [IntOp.cmpi, e]
    · have hne : BitVec.ofNat 32 q.val ≠ BitVec.ofNat 32 k := fun h => e (by
        have := congrArg BitVec.toNat h
        simp only [BitVec.toNat_ofNat] at this
        omega)
      rw [if_neg e]
      show BitVec.ofBool (BitVec.ofNat 32 q.val == BitVec.ofNat 32 k) = 0#1
      rw [beq_eq_false_iff_ne.mpr hne]
      rfl
  rw [h a ha, h b hb]
  by_cases e : q.val = a
  · rw [if_pos e, if_pos (Or.inl e)]
    by_cases e' : q.val = b
    · rw [if_pos e']; rfl
    · rw [if_neg e']; rfl
  · rw [if_neg e]
    by_cases e' : q.val = b
    · rw [if_pos e', if_pos (Or.inr e')]; rfl
    · rw [if_neg e', if_neg (not_or.mpr ⟨e, e'⟩)]; rfl

/-- The body's convolution of a block, at a row and a column. -/
theorem conv_apply (x : S2304x256.Idx → Elt Ideal .bf16) (w0 w1 w2 b : S1x256.Idx → Elt Ideal .f32) (q : Fin 2304) (n : Fin 256) :
    k0_pay3 (F := Ideal) x w0 w1 w2 b (ix2 q n)
      = (if q.val = 0 ∨ q.val = 256 then 0 else x (ix2 ⟨(q.val + 2304 - 1) % 2304, by omega⟩ n) : EReal) * w0 (ix2 (0 : Fin 1) n)
        + x (ix2 q n) * w1 (ix2 (0 : Fin 1) n)
        + (if q.val = 255 ∨ q.val = 2303 then 0 else x (ix2 ⟨(q.val + 2304 - 2303) % 2304, by omega⟩ n)) * w2 (ix2 (0 : Fin 1) n)
        + b (ix2 (0 : Fin 1) n) := by
  rw [← select_rows 0 256 (by decide) (by decide), ← select_rows 255 2303 (by decide) (by decide)]
  pointwise [k0_pay3]

/-- The same, the block a piece of the stream. -/
theorem conv_block (P : Fin 18432 → Fin 3072 → EReal) (W : Fin 3 → Fin 3072 → EReal) (B : Fin 3072 → EReal) (s : Fin 8) (col : Fin 3072)
    (x : S2304x256.Idx → Elt Ideal .bf16) (w0 w1 w2 b : S1x256.Idx → Elt Ideal .f32) (n : Fin 256)
    (hx : ∀ q : Fin 2304, x (ix2 q n) = P (stretchRow s q) col) (h0 : w0 (ix2 (0 : Fin 1) n) = W 0 col) (h1 : w1 (ix2 (0 : Fin 1) n) = W 1 col)
    (h2 : w2 (ix2 (0 : Fin 1) n) = W 2 col) (hb : b (ix2 (0 : Fin 1) n) = B col) (q : Fin 2304) :
    k0_pay3 (F := Ideal) x w0 w1 w2 b (ix2 q n) = shortConv P W B (stretchRow s q) col := by
  rw [conv_apply, h0, h1, h2, hb, hx, hx, hx]
  have e : (stretchRow s q).val % 2304 = q.val := by show (s.val * 2304 + q.val) % 2304 = q.val; omega
  unfold shortConv
  simp only [e]
  refine congrArg (· + B col) (congr (congrArg HAdd.hAdd (congrArg (· + P (stretchRow s q) col * W 1 col) (congrArg (· * W 0 col) ?_))) (congrArg (· * W 2 col) ?_))
  · split
    · rfl
    · refine congrArg (P · col) (Fin.ext ?_)
      show s.val * 2304 + (q.val + 2304 - 1) % 2304 = s.val * 2304 + q.val - 1
      omega
  · split
    · rfl
    · refine congrArg (P · col) (Fin.ext ?_)
      show s.val * 2304 + (q.val + 2304 - 2303) % 2304 = (s.val * 2304 + q.val + 1) % 18432
      omega

theorem t_lt (t : Fin cfg0.N) : t.val < 32 := t.isLt

/-- A point's sequence and a tile's column among a third's and among all. -/
def seqAt (t : Fin cfg0.N) : Fin 8 := ⟨t.val / 4, by have := t_lt t; omega⟩
def colAt (t : Fin cfg0.N) (n : Fin 256) : Fin 1024 := ⟨t.val % 4 * 256 + n.val, by omega⟩

/-- What a load reads. -/
theorem ld_block (x : S2304x256.Idx → Elt Ideal .bf16) (q : Fin 2304) (n : Fin 256) : View.ld x r0_0 (ix2 q n) = x (ix2 q n) :=
  congrArg x (funext fun a => Fin.ext (by
    match a with
    | ⟨0, _⟩ => show 0 + 1 * q.val = q.val; omega
    | ⟨1, _⟩ => show 0 + 1 * n.val = n.val; omega))
theorem ld_row (w : S3x256.Idx → Elt Ideal .f32) (n : Fin 256) :
    View.ld w r0_1 (ix2 (0 : Fin 1) n) = w (ix2 (0 : Fin 3) n) ∧ View.ld w r0_2 (ix2 (0 : Fin 1) n) = w (ix2 (1 : Fin 3) n) ∧ View.ld w r0_3 (ix2 (0 : Fin 1) n) = w (ix2 (2 : Fin 3) n) := by
  refine ⟨congrArg w (funext fun a => Fin.ext ?_), congrArg w (funext fun a => Fin.ext ?_), congrArg w (funext fun a => Fin.ext ?_)⟩ <;>
    match a with
    | ⟨0, _⟩ => rfl
    | ⟨1, _⟩ => show 0 + 1 * n.val = n.val; omega
theorem ld_bias (b : S1x256.Idx → Elt Ideal .f32) (n : Fin 256) : View.ld b r0_4 (ix2 (0 : Fin 1) n) = b (ix2 (0 : Fin 1) n) :=
  congrArg b (funext fun a => Fin.ext (by
    match a with
    | ⟨0, _⟩ => rfl
    | ⟨1, _⟩ => show 0 + 1 * n.val = n.val; omega))

theorem index0 : ∀ t : Fin grid0.N, win0_0.index t = ![t.val / 4, 0 * 4 + t.val % 4] := by decide +kernel
theorem index1 : ∀ t : Fin grid0.N, win0_1.index t = ![t.val / 4, 1 * 4 + t.val % 4] := by decide +kernel
theorem index2 : ∀ t : Fin grid0.N, win0_2.index t = ![t.val / 4, 2 * 4 + t.val % 4] := by decide +kernel
theorem index3 : ∀ t : Fin grid0.N, win0_3.index t = ![0, 0 * 4 + t.val % 4] := by decide +kernel
theorem index4 : ∀ t : Fin grid0.N, win0_4.index t = ![0, 1 * 4 + t.val % 4] := by decide +kernel
theorem index5 : ∀ t : Fin grid0.N, win0_5.index t = ![0, 2 * 4 + t.val % 4] := by decide +kernel
theorem index6 : ∀ t : Fin grid0.N, win0_6.index t = ![0, 0 * 4 + t.val % 4] := by decide +kernel
theorem index7 : ∀ t : Fin grid0.N, win0_7.index t = ![0, 1 * 4 + t.val % 4] := by decide +kernel
theorem index8 : ∀ t : Fin grid0.N, win0_8.index t = ![0, 2 * 4 + t.val % 4] := by decide +kernel
theorem index9 : ∀ t : Fin grid0.N, win0_9.index t = ![t.val / 4, t.val % 4] := by decide +kernel
theorem index10 : ∀ t : Fin grid0.N, win0_10.index t = ![t.val / 4, t.val % 4] := by decide +kernel
theorem index11 : ∀ t : Fin grid0.N, win0_11.index t = ![t.val / 4, t.val % 4] := by decide +kernel
theorem index12 : ∀ t : Fin grid0.N, win0_12.index t = ![t.val / 4, t.val % 4] := by decide +kernel

theorem V_bias (c : Dev nD) : V m c main_v0 = (shapeCast S1x3072 (argB m c) shapeCasts_S3072_S1x3072 : S1x3072.Idx → Elt Ideal .f32) := by
  unfold V hostOps0
  after_results
  rfl

theorem bias_apply (b : S3072.Idx → Elt Ideal .f32) (n : Fin 3072) :
    (shapeCast S1x3072 b shapeCasts_S3072_S1x3072 : S1x3072.Idx → Elt Ideal .f32) (ix2 (0 : Fin 1) n) = b (ix1 n) := by
  pointwise

theorem blk0 (c : Dev nD) (t : Fin cfg0.N) (q : Fin 2304) (n : Fin 256) : iblk m c 0 t (ix2 q n) = argP m c (ix2 (stretchRow (seqAt t) q) (third 0 (colAt t n))) := by
  show V m c main_arg0 _ = _
  rw [V_main_arg0]
  refine congrArg (argP m c) (funext fun a => Fin.ext ?_)
  match a with
  | ⟨0, _⟩ =>
    have e : win0_0.index t 0 = t.val / 4 := congrFun (index0 t) 0
    show win0_0.index t 0 * 2304 + 1 * q.val = t.val / 4 * 2304 + q.val
    rw [e]; omega
  | ⟨1, _⟩ =>
    have e : win0_0.index t 1 = 0 * 4 + t.val % 4 := congrFun (index0 t) 1
    show win0_0.index t 1 * 256 + 1 * n.val = 0 * 1024 + (t.val % 4 * 256 + n.val)
    rw [e]; omega
theorem blk1 (c : Dev nD) (t : Fin cfg0.N) (q : Fin 2304) (n : Fin 256) : iblk m c 1 t (ix2 q n) = argP m c (ix2 (stretchRow (seqAt t) q) (third 1 (colAt t n))) := by
  show V m c main_arg0 _ = _
  rw [V_main_arg0]
  refine congrArg (argP m c) (funext fun a => Fin.ext ?_)
  match a with
  | ⟨0, _⟩ =>
    have e : win0_1.index t 0 = t.val / 4 := congrFun (index1 t) 0
    show win0_1.index t 0 * 2304 + 1 * q.val = t.val / 4 * 2304 + q.val
    rw [e]; omega
  | ⟨1, _⟩ =>
    have e : win0_1.index t 1 = 1 * 4 + t.val % 4 := congrFun (index1 t) 1
    show win0_1.index t 1 * 256 + 1 * n.val = 1 * 1024 + (t.val % 4 * 256 + n.val)
    rw [e]; omega
theorem blk2 (c : Dev nD) (t : Fin cfg0.N) (q : Fin 2304) (n : Fin 256) : iblk m c 2 t (ix2 q n) = argP m c (ix2 (stretchRow (seqAt t) q) (third 2 (colAt t n))) := by
  show V m c main_arg0 _ = _
  rw [V_main_arg0]
  refine congrArg (argP m c) (funext fun a => Fin.ext ?_)
  match a with
  | ⟨0, _⟩ =>
    have e : win0_2.index t 0 = t.val / 4 := congrFun (index2 t) 0
    show win0_2.index t 0 * 2304 + 1 * q.val = t.val / 4 * 2304 + q.val
    rw [e]; omega
  | ⟨1, _⟩ =>
    have e : win0_2.index t 1 = 2 * 4 + t.val % 4 := congrFun (index2 t) 1
    show win0_2.index t 1 * 256 + 1 * n.val = 2 * 1024 + (t.val % 4 * 256 + n.val)
    rw [e]; omega
theorem blk3 (c : Dev nD) (t : Fin cfg0.N) (k : Fin 3) (n : Fin 256) : iblk m c 3 t (ix2 k n) = argW m c (ix2 k (third 0 (colAt t n))) := by
  show V m c main_arg1 _ = _
  rw [V_main_arg1]
  refine congrArg (argW m c) (funext fun a => Fin.ext ?_)
  match a with
  | ⟨0, _⟩ =>
    have e : win0_3.index t 0 = 0 := congrFun (index3 t) 0
    show win0_3.index t 0 * 3 + 1 * k.val = k.val
    rw [e]; omega
  | ⟨1, _⟩ =>
    have e : win0_3.index t 1 = 0 * 4 + t.val % 4 := congrFun (index3 t) 1
    show win0_3.index t 1 * 256 + 1 * n.val = 0 * 1024 + (t.val % 4 * 256 + n.val)
    rw [e]; omega
theorem blk4 (c : Dev nD) (t : Fin cfg0.N) (k : Fin 3) (n : Fin 256) : iblk m c 4 t (ix2 k n) = argW m c (ix2 k (third 1 (colAt t n))) := by
  show V m c main_arg1 _ = _
  rw [V_main_arg1]
  refine congrArg (argW m c) (funext fun a => Fin.ext ?_)
  match a with
  | ⟨0, _⟩ =>
    have e : win0_4.index t 0 = 0 := congrFun (index4 t) 0
    show win0_4.index t 0 * 3 + 1 * k.val = k.val
    rw [e]; omega
  | ⟨1, _⟩ =>
    have e : win0_4.index t 1 = 1 * 4 + t.val % 4 := congrFun (index4 t) 1
    show win0_4.index t 1 * 256 + 1 * n.val = 1 * 1024 + (t.val % 4 * 256 + n.val)
    rw [e]; omega
theorem blk5 (c : Dev nD) (t : Fin cfg0.N) (k : Fin 3) (n : Fin 256) : iblk m c 5 t (ix2 k n) = argW m c (ix2 k (third 2 (colAt t n))) := by
  show V m c main_arg1 _ = _
  rw [V_main_arg1]
  refine congrArg (argW m c) (funext fun a => Fin.ext ?_)
  match a with
  | ⟨0, _⟩ =>
    have e : win0_5.index t 0 = 0 := congrFun (index5 t) 0
    show win0_5.index t 0 * 3 + 1 * k.val = k.val
    rw [e]; omega
  | ⟨1, _⟩ =>
    have e : win0_5.index t 1 = 2 * 4 + t.val % 4 := congrFun (index5 t) 1
    show win0_5.index t 1 * 256 + 1 * n.val = 2 * 1024 + (t.val % 4 * 256 + n.val)
    rw [e]; omega
theorem blk6 (c : Dev nD) (t : Fin cfg0.N) (n : Fin 256) : iblk m c 6 t (ix2 (0 : Fin 1) n) = argB m c (ix1 (third 0 (colAt t n))) := by
  show V m c main_v0 _ = _
  rw [V_bias]
  refine (congrArg (shapeCast S1x3072 (argB m c) shapeCasts_S3072_S1x3072) (funext fun a => Fin.ext ?_)).trans (bias_apply _ _)
  match a with
  | ⟨0, _⟩ =>
    have e : win0_6.index t 0 = 0 := congrFun (index6 t) 0
    show win0_6.index t 0 * 1 + 1 * 0 = 0
    rw [e]
  | ⟨1, _⟩ =>
    have e : win0_6.index t 1 = 0 * 4 + t.val % 4 := congrFun (index6 t) 1
    show win0_6.index t 1 * 256 + 1 * n.val = 0 * 1024 + (t.val % 4 * 256 + n.val)
    rw [e]; omega
theorem blk7 (c : Dev nD) (t : Fin cfg0.N) (n : Fin 256) : iblk m c 7 t (ix2 (0 : Fin 1) n) = argB m c (ix1 (third 1 (colAt t n))) := by
  show V m c main_v0 _ = _
  rw [V_bias]
  refine (congrArg (shapeCast S1x3072 (argB m c) shapeCasts_S3072_S1x3072) (funext fun a => Fin.ext ?_)).trans (bias_apply _ _)
  match a with
  | ⟨0, _⟩ =>
    have e : win0_7.index t 0 = 0 := congrFun (index7 t) 0
    show win0_7.index t 0 * 1 + 1 * 0 = 0
    rw [e]
  | ⟨1, _⟩ =>
    have e : win0_7.index t 1 = 1 * 4 + t.val % 4 := congrFun (index7 t) 1
    show win0_7.index t 1 * 256 + 1 * n.val = 1 * 1024 + (t.val % 4 * 256 + n.val)
    rw [e]; omega
theorem blk8 (c : Dev nD) (t : Fin cfg0.N) (n : Fin 256) : iblk m c 8 t (ix2 (0 : Fin 1) n) = argB m c (ix1 (third 2 (colAt t n))) := by
  show V m c main_v0 _ = _
  rw [V_bias]
  refine (congrArg (shapeCast S1x3072 (argB m c) shapeCasts_S3072_S1x3072) (funext fun a => Fin.ext ?_)).trans (bias_apply _ _)
  match a with
  | ⟨0, _⟩ =>
    have e : win0_8.index t 0 = 0 := congrFun (index8 t) 0
    show win0_8.index t 0 * 1 + 1 * 0 = 0
    rw [e]
  | ⟨1, _⟩ =>
    have e : win0_8.index t 1 = 2 * 4 + t.val % 4 := congrFun (index8 t) 1
    show win0_8.index t 1 * 256 + 1 * n.val = 2 * 1024 + (t.val % 4 * 256 + n.val)
    rw [e]; omega

/-- A point's three convolutions. -/
theorem conv0 (c : Dev nD) (t : Fin cfg0.N) (q : Fin 2304) (n : Fin 256) :
    k0_pay3 (F := Ideal) (View.ld (iblk m c 0 t) r0_0) (View.ld (iblk m c 3 t) r0_1) (View.ld (iblk m c 3 t) r0_2) (View.ld (iblk m c 3 t) r0_3) (View.ld (iblk m c 6 t) r0_4) (ix2 q n)
      = conv m c (stretchRow (seqAt t) q) (third 0 (colAt t n)) :=
  conv_block _ _ _ (seqAt t) _ _ _ _ _ _ n (fun q => (ld_block _ q n).trans (blk0 m c t q n)) ((ld_row _ n).1.trans (blk3 m c t 0 n))
    ((ld_row _ n).2.1.trans (blk3 m c t 1 n)) ((ld_row _ n).2.2.trans (blk3 m c t 2 n)) ((ld_bias _ n).trans (blk6 m c t n)) q
theorem conv1 (c : Dev nD) (t : Fin cfg0.N) (q : Fin 2304) (n : Fin 256) :
    k0_pay3 (F := Ideal) (View.ld (iblk m c 1 t) r0_0) (View.ld (iblk m c 4 t) r0_1) (View.ld (iblk m c 4 t) r0_2) (View.ld (iblk m c 4 t) r0_3) (View.ld (iblk m c 7 t) r0_4) (ix2 q n)
      = conv m c (stretchRow (seqAt t) q) (third 1 (colAt t n)) :=
  conv_block _ _ _ (seqAt t) _ _ _ _ _ _ n (fun q => (ld_block _ q n).trans (blk1 m c t q n)) ((ld_row _ n).1.trans (blk4 m c t 0 n))
    ((ld_row _ n).2.1.trans (blk4 m c t 1 n)) ((ld_row _ n).2.2.trans (blk4 m c t 2 n)) ((ld_bias _ n).trans (blk7 m c t n)) q
theorem conv2 (c : Dev nD) (t : Fin cfg0.N) (q : Fin 2304) (n : Fin 256) :
    k0_pay3 (F := Ideal) (View.ld (iblk m c 2 t) r0_0) (View.ld (iblk m c 5 t) r0_1) (View.ld (iblk m c 5 t) r0_2) (View.ld (iblk m c 5 t) r0_3) (View.ld (iblk m c 8 t) r0_4) (ix2 q n)
      = conv m c (stretchRow (seqAt t) q) (third 2 (colAt t n)) :=
  conv_block _ _ _ (seqAt t) _ _ _ _ _ _ n (fun q => (ld_block _ q n).trans (blk2 m c t q n)) ((ld_row _ n).1.trans (blk5 m c t 0 n))
    ((ld_row _ n).2.1.trans (blk5 m c t 1 n)) ((ld_row _ n).2.2.trans (blk5 m c t 2 n)) ((ld_bias _ n).trans (blk8 m c t n)) q

/-- The rows of a stretch that a tile of the context's results and one of the sequences' hold. -/
def ctxTile (r : Fin 256) : Fin 2304 := ⟨r.val, by omega⟩
def seqTile (r : Fin 2048) : Fin 2304 := ⟨256 + r.val, by omega⟩

/-- The payloads at an index. -/
theorem pay_first (v : S2304x256.Idx → Elt Ideal .f32) (n : Fin 256) :
    (∀ r : Fin 256, k0_pay1 (F := Ideal) v (ix2 r n) = v (ix2 (ctxTile r) n)) ∧ ∀ r : Fin 2048, k0_pay2 (F := Ideal) v (ix2 r n) = v (ix2 (seqTile r) n) := by
  constructor <;> intro r
  · pointwise [k0_pay1]
    rfl
  · pointwise [k0_pay2]
    rfl
theorem pay_pair (x1 x2 : S2304x256.Idx → Elt Ideal .bf16) (u0 u1 u2 u w0 w1 w2 w : S1x256.Idx → Elt Ideal .f32) :
    (k0_pay7 (F := Ideal) (k0_pay4 x1 u0 u1 u2 u) (k0_pay5 x2) (iota .tc S2304x1 32 [0] iota_S2304x1_d0_w32) 0#32 w0 w1 w2 w
      = k0_pay1 (mulf (k0_pay3 x1 u0 u1 u2 u) (k0_pay3 x2 w0 w1 w2 w)))
    ∧ (k0_pay8 (F := Ideal) (k0_pay4 x1 u0 u1 u2 u) (k0_pay5 x2) (iota .tc S2304x1 32 [0] iota_S2304x1_d0_w32) 0#32 w0 w1 w2 w
      = k0_pay2 (mulf (k0_pay3 x1 u0 u1 u2 u) (k0_pay3 x2 w0 w1 w2 w))) := ⟨rfl, rfl⟩

/-- A tile's row among its result's. -/
def ctxAt (t : Fin cfg0.N) (r : Fin 256) : Fin 2048 := ⟨t.val / 4 * 256 + r.val, by have := t_lt t; omega⟩
def seqRowAt (t : Fin cfg0.N) (r : Fin 2048) : Fin 16384 := ⟨t.val / 4 * 2048 + r.val, by have := t_lt t; omega⟩
theorem ctxRow_at (t : Fin cfg0.N) (r : Fin 256) : ctxRow (ctxAt t r) = stretchRow (seqAt t) (ctxTile r) := Fin.ext (by
  show (t.val / 4 * 256 + r.val) / 256 * 2304 + (t.val / 4 * 256 + r.val) % 256 = t.val / 4 * 2304 + r.val
  omega)
theorem seqRow_at (t : Fin cfg0.N) (r : Fin 2048) : seqRow (seqRowAt t r) = stretchRow (seqAt t) (seqTile r) := Fin.ext (by
  show (t.val / 4 * 2048 + r.val) / 2048 * 2304 + (256 + (t.val / 4 * 2048 + r.val) % 2048) = t.val / 4 * 2304 + (256 + r.val)
  omega)

/-- What a point leaves in its four tiles. -/
theorem tile9 (c : Dev nD) (t : Fin cfg0.N) (r : Fin 256) (n : Fin 256) :
    out0_9 (iblk m c 0 t) (iblk m c 1 t) (iblk m c 2 t) (iblk m c 3 t) (iblk m c 4 t) (iblk m c 5 t) (iblk m c 6 t) (iblk m c 7 t) (iblk m c 8 t) (ix2 r n) = outZC m c (ix2 (ctxAt t r) (colAt t n)) := by
  unfold out0_9 k0_pay12 k0_pay11 k0_pay10
  rw [View.canon_unit_zero (funext fun a => by match a with | ⟨0, _⟩ => rfl | ⟨1, _⟩ => rfl), (pay_pair _ _ _ _ _ _ _ _ _ _).1, (pay_first _ n).1]
  refine (congr (congrArg HMul.hMul (conv1 m c t _ n)) (conv2 m c t _ n)).trans ?_
  exact congrArg (pair m c · (colAt t n)) (ctxRow_at t r).symm
theorem tile10 (c : Dev nD) (t : Fin cfg0.N) (r : Fin 2048) (n : Fin 256) :
    out0_10 (iblk m c 0 t) (iblk m c 1 t) (iblk m c 2 t) (iblk m c 3 t) (iblk m c 4 t) (iblk m c 5 t) (iblk m c 6 t) (iblk m c 7 t) (iblk m c 8 t) (ix2 r n) = outZL m c (ix2 (seqRowAt t r) (colAt t n)) := by
  unfold out0_10 k0_pay12 k0_pay11 k0_pay10
  rw [View.canon_unit_zero (funext fun a => by match a with | ⟨0, _⟩ => rfl | ⟨1, _⟩ => rfl), (pay_pair _ _ _ _ _ _ _ _ _ _).2, (pay_first _ n).2]
  refine (congr (congrArg HMul.hMul (conv1 m c t _ n)) (conv2 m c t _ n)).trans ?_
  exact congrArg (pair m c · (colAt t n)) (seqRow_at t r).symm
theorem tile11 (c : Dev nD) (t : Fin cfg0.N) (r : Fin 256) (n : Fin 256) :
    out0_11 (iblk m c 0 t) (iblk m c 1 t) (iblk m c 2 t) (iblk m c 3 t) (iblk m c 4 t) (iblk m c 5 t) (iblk m c 6 t) (iblk m c 7 t) (iblk m c 8 t) (ix2 r n) = outXC m c (ix2 (ctxAt t r) (colAt t n)) := by
  unfold out0_11 k0_pay9
  rw [View.canon_unit_zero (funext fun a => by match a with | ⟨0, _⟩ => rfl | ⟨1, _⟩ => rfl), (pay_first _ n).1]
  exact (conv0 m c t _ n).trans (congrArg (first m c · (colAt t n)) (ctxRow_at t r).symm)
theorem tile12 (c : Dev nD) (t : Fin cfg0.N) (r : Fin 2048) (n : Fin 256) :
    out0_12 (iblk m c 0 t) (iblk m c 1 t) (iblk m c 2 t) (iblk m c 3 t) (iblk m c 4 t) (iblk m c 5 t) (iblk m c 6 t) (iblk m c 7 t) (iblk m c 8 t) (ix2 r n) = outXL m c (ix2 (seqRowAt t r) (colAt t n)) := by
  unfold out0_12 k0_pay9
  rw [View.canon_unit_zero (funext fun a => by match a with | ⟨0, _⟩ => rfl | ⟨1, _⟩ => rfl), (pay_first _ n).2]
  exact (conv0 m c t _ n).trans (congrArg (first m c · (colAt t n)) (seqRow_at t r).symm)

/-- The arrays end at the results. -/
theorem arr9 (c : Dev nD) : (dats m 0 c).arrAt 9 cfg0.N = outZC m c := by
  refine (dats m 0 c).arrAt_eq_of_covers 9 _ (by decide +kernel) fun t hf y => ?_
  show (dats m 0 c).after 9 t y = outZC m c _
  rw [after0_9]
  obtain ⟨r, n, rfl⟩ : ∃ (r : Fin 256) (n : Fin 256), y = ix2 r n := ⟨y 0, y 1, eq_ix2 y⟩
  refine (tile9 m c t r n).trans (congrArg (outZC m c) (funext fun a => Fin.ext ?_))
  match a with
  | ⟨0, _⟩ =>
    have e : win0_9.index t 0 = t.val / 4 := congrFun (index9 t) 0
    show t.val / 4 * 256 + r.val = win0_9.index t 0 * 256 + 1 * r.val
    rw [e]; omega
  | ⟨1, _⟩ =>
    have e : win0_9.index t 1 = t.val % 4 := congrFun (index9 t) 1
    show t.val % 4 * 256 + n.val = win0_9.index t 1 * 256 + 1 * n.val
    rw [e]; omega
theorem arr10 (c : Dev nD) : (dats m 0 c).arrAt 10 cfg0.N = outZL m c := by
  refine (dats m 0 c).arrAt_eq_of_covers 10 _ (by decide +kernel) fun t hf y => ?_
  show (dats m 0 c).after 10 t y = outZL m c _
  rw [after0_10]
  obtain ⟨r, n, rfl⟩ : ∃ (r : Fin 2048) (n : Fin 256), y = ix2 r n := ⟨y 0, y 1, eq_ix2 y⟩
  refine (tile10 m c t r n).trans (congrArg (outZL m c) (funext fun a => Fin.ext ?_))
  match a with
  | ⟨0, _⟩ =>
    have e : win0_10.index t 0 = t.val / 4 := congrFun (index10 t) 0
    show t.val / 4 * 2048 + r.val = win0_10.index t 0 * 2048 + 1 * r.val
    rw [e]; omega
  | ⟨1, _⟩ =>
    have e : win0_10.index t 1 = t.val % 4 := congrFun (index10 t) 1
    show t.val % 4 * 256 + n.val = win0_10.index t 1 * 256 + 1 * n.val
    rw [e]; omega
theorem arr11 (c : Dev nD) : (dats m 0 c).arrAt 11 cfg0.N = outXC m c := by
  refine (dats m 0 c).arrAt_eq_of_covers 11 _ (by decide +kernel) fun t hf y => ?_
  show (dats m 0 c).after 11 t y = outXC m c _
  rw [after0_11]
  obtain ⟨r, n, rfl⟩ : ∃ (r : Fin 256) (n : Fin 256), y = ix2 r n := ⟨y 0, y 1, eq_ix2 y⟩
  refine (tile11 m c t r n).trans (congrArg (outXC m c) (funext fun a => Fin.ext ?_))
  match a with
  | ⟨0, _⟩ =>
    have e : win0_11.index t 0 = t.val / 4 := congrFun (index11 t) 0
    show t.val / 4 * 256 + r.val = win0_11.index t 0 * 256 + 1 * r.val
    rw [e]; omega
  | ⟨1, _⟩ =>
    have e : win0_11.index t 1 = t.val % 4 := congrFun (index11 t) 1
    show t.val % 4 * 256 + n.val = win0_11.index t 1 * 256 + 1 * n.val
    rw [e]; omega
theorem arr12 (c : Dev nD) : (dats m 0 c).arrAt 12 cfg0.N = outXL m c := by
  refine (dats m 0 c).arrAt_eq_of_covers 12 _ (by decide +kernel) fun t hf y => ?_
  show (dats m 0 c).after 12 t y = outXL m c _
  rw [after0_12]
  obtain ⟨r, n, rfl⟩ : ∃ (r : Fin 2048) (n : Fin 256), y = ix2 r n := ⟨y 0, y 1, eq_ix2 y⟩
  refine (tile12 m c t r n).trans (congrArg (outXL m c) (funext fun a => Fin.ext ?_))
  match a with
  | ⟨0, _⟩ =>
    have e : win0_12.index t 0 = t.val / 4 := congrFun (index12 t) 0
    show t.val / 4 * 2048 + r.val = win0_12.index t 0 * 2048 + 1 * r.val
    rw [e]; omega
  | ⟨1, _⟩ =>
    have e : win0_12.index t 1 = t.val % 4 := congrFun (index12 t) 1
    show t.val % 4 * 256 + n.val = win0_12.index t 1 * 256 + 1 * n.val
    rw [e]; omega

end Cert.PreIdeal.Hand

end
-- ==== Proof.RefPre.lean ====
module

public import proofs.«01_k».proof.Proof.Project
public import proofs.«01_k».proof.Proof.Gen.PreRefIdeal.Run

@[expose] public section

set_option maxRecDepth 16384

noncomputable section

namespace Cert.PreRefIdeal.Hand

open Cert.PreRefIdeal Cert.PreRefIdeal.Gen Cert.Project
open Idealize.ShloMosaic
open Idealize.ShloMosaic.TcCoe

variable (p : FVec Ideal S18432x3072 .bf16) (w : FVec Ideal S3x3072 .f32) (b : FVec Ideal S3072 .f32)

/-- The convolution of the arguments. -/
def conv : Fin 18432 → Fin 3072 → EReal := shortConv (fun r n => p (ix2 r n)) (fun k n => w (ix2 k n)) (fun n => b (ix1 n))

theorem sitofp_zero : (FloatOps.sitofp (F := Ideal) FTy.f32 (0#32) : EReal) = 0 := by
  show (((0#32 : BitVec 32).toInt : ℝ) : EReal) = 0
  simp

/-- Two choices by opposite conditions. -/
theorem choice {A B : Prop} [Decidable A] [Decidable B] {x y : EReal} (hAB : A ↔ ¬B) (hxy : A → x = y) : (if A then x else 0) = if B then 0 else y := by
  by_cases h : A
  · rw [if_pos h, if_neg (hAB.mp h), hxy h]
  · rw [if_neg h, if_pos (not_not.mp fun hb => h (hAB.mpr hb))]

/-- The stream's stretches. -/
def stretches : FVec Ideal S8x2304x3072 .f32 := extf .f32 (shapeCast _ p shapeCasts_S18432x3072_S8x2304x3072) bitsLt_bf16_f32

/-- The context rows with a row of zeros before and after, and their convolution. -/
def ctxPad : FVec Ideal S8x258x3072 .f32 :=
  pad S8x258x3072 ![0, 1, 0] ![0, 1, 0] ![0, 0, 0] (extractStridedSlice S8x256x3072 ![0, 0, 0] (stretches p) slices_S8x2304x3072_S8x256x3072_0_0_0) (sitofp .f32 (constantI S_ 32 0#32)) pads_S8x256x3072_S8x258x3072_000_110_000 h_S_
def ctxConv : FVec Ideal S8x256x3072 .f32 :=
  addf (addf (addf (mulf (extractStridedSlice S8x256x3072 ![0, 0, 0] (ctxPad p) slices_S8x258x3072_S8x256x3072_0_0_0) (broadcastInDim S8x256x3072 ![0, 1, 2] bcast_S1x1x3072_S8x256x3072_0_1_2 (broadcastInDim S1x1x3072 ![2] bcast_S3072_S1x1x3072_2 (shapeCast _ (extractStridedSlice S1x3072 ![0, 0] w slices_S3x3072_S1x3072_0_0) shapeCasts_S1x3072_S3072))))
    (mulf (extractStridedSlice S8x256x3072 ![0, 1, 0] (ctxPad p) slices_S8x258x3072_S8x256x3072_0_1_0) (broadcastInDim S8x256x3072 ![0, 1, 2] bcast_S1x1x3072_S8x256x3072_0_1_2 (broadcastInDim S1x1x3072 ![2] bcast_S3072_S1x1x3072_2 (shapeCast _ (extractStridedSlice S1x3072 ![1, 0] w slices_S3x3072_S1x3072_1_0) shapeCasts_S1x3072_S3072)))))
    (mulf (extractStridedSlice S8x256x3072 ![0, 2, 0] (ctxPad p) slices_S8x258x3072_S8x256x3072_0_2_0) (broadcastInDim S8x256x3072 ![0, 1, 2] bcast_S1x1x3072_S8x256x3072_0_1_2 (broadcastInDim S1x1x3072 ![2] bcast_S3072_S1x1x3072_2 (shapeCast _ (extractStridedSlice S1x3072 ![2, 0] w slices_S3x3072_S1x3072_2_0) shapeCasts_S1x3072_S3072)))))
    (broadcastInDim S8x256x3072 ![0, 1, 2] bcast_S1x1x3072_S8x256x3072_0_1_2 (broadcastInDim S1x1x3072 ![2] bcast_S3072_S1x1x3072_2 b))
theorem ctxPad_apply (s : Fin 8) (q : Fin 258) (n : Fin 3072) :
    ctxPad p (ix3 s q n) = if 1 ≤ q.val ∧ q.val - 1 < 256 then (p (ix2 ⟨(s.val * 2304 + (q.val - 1)) % 18432, by omega⟩ n) : EReal) else 0 := by
  unfold ctxPad stretches
  pointwise
  by_cases h : 1 ≤ q.val ∧ q.val - 1 < 256
  · rw [dif_pos h, if_pos h]
    refine congrArg (fun r => p (ix2 r n)) (Fin.ext ?_)
    show s.val * 2304 + (q.val - 1) = (s.val * 2304 + (q.val - 1)) % 18432
    omega
  · rw [dif_neg h, if_neg h]
    exact sitofp_zero

theorem ctxConv_apply (s : Fin 8) (q : Fin 256) (n : Fin 3072) : ctxConv p w b (ix3 s q n) = conv p w b (stretchRow s ⟨q.val, by omega⟩) n := by
  have hP := ctxPad_apply p
  unfold ctxConv
  generalize ctxPad p = P at hP ⊢
  pointwise
  simp only [hP]
  unfold conv shortConv
  have e : (stretchRow s ⟨q.val, by omega⟩).val % 2304 = q.val := by show (s.val * 2304 + (q.val)) % 2304 = q.val; omega
  simp only [e]
  refine congrArg (· + b (ix1 n)) (congr (congrArg HAdd.hAdd (congr (congrArg HAdd.hAdd (congrArg (· * w (ix2 (0 : Fin 3) n)) ?_)) (congrArg (· * w (ix2 (1 : Fin 3) n)) ?_))) (congrArg (· * w (ix2 (2 : Fin 3) n)) ?_))
  · refine choice (by omega) fun h => congrArg (fun r => p (ix2 r n)) (Fin.ext ?_)
    show (s.val * 2304 + (q.val - 1)) % 18432 = s.val * 2304 + q.val - 1
    omega
  · rw [if_pos (by omega)]
    refine congrArg (fun r => p (ix2 r n)) (Fin.ext ?_)
    show (s.val * 2304 + (1 + q.val - 1)) % 18432 = s.val * 2304 + q.val
    omega
  · refine choice (by omega) fun h => congrArg (fun r => p (ix2 r n)) (Fin.ext ?_)
    show (s.val * 2304 + (2 + q.val - 1)) % 18432 = (s.val * 2304 + q.val + 1) % 18432
    omega

/-- The sequence rows with a row of zeros before and after, and their convolution. -/
def seqPad : FVec Ideal S8x2050x3072 .f32 :=
  pad S8x2050x3072 ![0, 1, 0] ![0, 1, 0] ![0, 0, 0] (extractStridedSlice S8x2048x3072 ![0, 256, 0] (stretches p) slices_S8x2304x3072_S8x2048x3072_0_256_0) (sitofp .f32 (constantI S_ 32 0#32)) pads_S8x2048x3072_S8x2050x3072_000_110_000 h_S_
def seqConv : FVec Ideal S8x2048x3072 .f32 :=
  addf (addf (addf (mulf (extractStridedSlice S8x2048x3072 ![0, 0, 0] (seqPad p) slices_S8x2050x3072_S8x2048x3072_0_0_0) (broadcastInDim S8x2048x3072 ![0, 1, 2] bcast_S1x1x3072_S8x2048x3072_0_1_2 (broadcastInDim S1x1x3072 ![2] bcast_S3072_S1x1x3072_2 (shapeCast _ (extractStridedSlice S1x3072 ![0, 0] w slices_S3x3072_S1x3072_0_0) shapeCasts_S1x3072_S3072))))
    (mulf (extractStridedSlice S8x2048x3072 ![0, 1, 0] (seqPad p) slices_S8x2050x3072_S8x2048x3072_0_1_0) (broadcastInDim S8x2048x3072 ![0, 1, 2] bcast_S1x1x3072_S8x2048x3072_0_1_2 (broadcastInDim S1x1x3072 ![2] bcast_S3072_S1x1x3072_2 (shapeCast _ (extractStridedSlice S1x3072 ![1, 0] w slices_S3x3072_S1x3072_1_0) shapeCasts_S1x3072_S3072)))))
    (mulf (extractStridedSlice S8x2048x3072 ![0, 2, 0] (seqPad p) slices_S8x2050x3072_S8x2048x3072_0_2_0) (broadcastInDim S8x2048x3072 ![0, 1, 2] bcast_S1x1x3072_S8x2048x3072_0_1_2 (broadcastInDim S1x1x3072 ![2] bcast_S3072_S1x1x3072_2 (shapeCast _ (extractStridedSlice S1x3072 ![2, 0] w slices_S3x3072_S1x3072_2_0) shapeCasts_S1x3072_S3072)))))
    (broadcastInDim S8x2048x3072 ![0, 1, 2] bcast_S1x1x3072_S8x2048x3072_0_1_2 (broadcastInDim S1x1x3072 ![2] bcast_S3072_S1x1x3072_2 b))
theorem seqPad_apply (s : Fin 8) (q : Fin 2050) (n : Fin 3072) :
    seqPad p (ix3 s q n) = if 1 ≤ q.val ∧ q.val - 1 < 2048 then (p (ix2 ⟨(s.val * 2304 + (256 + (q.val - 1))) % 18432, by omega⟩ n) : EReal) else 0 := by
  unfold seqPad stretches
  pointwise
  by_cases h : 1 ≤ q.val ∧ q.val - 1 < 2048
  · rw [dif_pos h, if_pos h]
    refine congrArg (fun r => p (ix2 r n)) (Fin.ext ?_)
    show s.val * 2304 + (256 + (q.val - 1)) = (s.val * 2304 + (256 + (q.val - 1))) % 18432
    omega
  · rw [dif_neg h, if_neg h]
    exact sitofp_zero

theorem seqConv_apply (s : Fin 8) (q : Fin 2048) (n : Fin 3072) : seqConv p w b (ix3 s q n) = conv p w b (stretchRow s ⟨256 + q.val, by omega⟩) n := by
  have hP := seqPad_apply p
  unfold seqConv
  generalize seqPad p = P at hP ⊢
  pointwise
  simp only [hP]
  unfold conv shortConv
  have e : (stretchRow s ⟨256 + q.val, by omega⟩).val % 2304 = 256 + q.val := by show (s.val * 2304 + (256 + q.val)) % 2304 = 256 + q.val; omega
  simp only [e]
  refine congrArg (· + b (ix1 n)) (congr (congrArg HAdd.hAdd (congr (congrArg HAdd.hAdd (congrArg (· * w (ix2 (0 : Fin 3) n)) ?_)) (congrArg (· * w (ix2 (1 : Fin 3) n)) ?_))) (congrArg (· * w (ix2 (2 : Fin 3) n)) ?_))
  · refine choice (by omega) fun h => congrArg (fun r => p (ix2 r n)) (Fin.ext ?_)
    show (s.val * 2304 + (256 + (q.val - 1))) % 18432 = s.val * 2304 + (256 + q.val) - 1
    omega
  · rw [if_pos (by omega)]
    refine congrArg (fun r => p (ix2 r n)) (Fin.ext ?_)
    show (s.val * 2304 + (256 + (1 + q.val - 1))) % 18432 = s.val * 2304 + (256 + q.val)
    omega
  · refine choice (by omega) fun h => congrArg (fun r => p (ix2 r n)) (Fin.ext ?_)
    show (s.val * 2304 + (256 + (2 + q.val - 1))) % 18432 = (s.val * 2304 + (256 + q.val) + 1) % 18432
    omega

/-- The context rows' results: the gated pair and the first third. -/
def zC : FVec Ideal S2048x1024 .bf16 := truncf .bf16 (shapeCast _ (mulf (extractStridedSlice S8x256x1024 ![0, 0, 1024] (ctxConv p w b) slices_S8x256x3072_S8x256x1024_0_0_1024) (extractStridedSlice S8x256x1024 ![0, 0, 2048] (ctxConv p w b) slices_S8x256x3072_S8x256x1024_0_0_2048)) shapeCasts_S8x256x1024_S2048x1024) bitsLt_bf16_f32
def xC : FVec Ideal S2048x1024 .bf16 := truncf .bf16 (shapeCast _ (extractStridedSlice S8x256x1024 ![0, 0, 0] (ctxConv p w b) slices_S8x256x3072_S8x256x1024_0_0_0) shapeCasts_S8x256x1024_S2048x1024) bitsLt_bf16_f32

theorem ctxThird (r : Fin 2048) (n : Fin 1024) (k : Fin 3) :
    ctxConv p w b (ix3 (⟨r.val / 256, by omega⟩ : Fin 8) (⟨r.val % 256, by omega⟩ : Fin 256) (⟨k.val * 1024 + n.val, by omega⟩ : Fin 3072)) = conv p w b (ctxRow r) (third k n) :=
  ctxConv_apply p w b _ _ _
theorem zC_apply (r : Fin 2048) (n : Fin 1024) : zC p w b (ix2 r n) = conv p w b (ctxRow r) (third 1 n) * conv p w b (ctxRow r) (third 2 n) := by
  have h := ctxThird p w b r n
  unfold zC
  generalize ctxConv p w b = v at h ⊢
  refine Eq.trans ?_ (congr (congrArg HMul.hMul (h 1)) (h 2))
  pointwise
theorem xC_apply (r : Fin 2048) (n : Fin 1024) : xC p w b (ix2 r n) = conv p w b (ctxRow r) (third 0 n) := by
  have h := ctxThird p w b r n
  unfold xC
  generalize ctxConv p w b = v at h ⊢
  refine Eq.trans ?_ (h 0)
  pointwise

/-- The sequence rows' results: the gated pair and the first third. -/
def zL : FVec Ideal S16384x1024 .bf16 := truncf .bf16 (shapeCast _ (mulf (extractStridedSlice S8x2048x1024 ![0, 0, 1024] (seqConv p w b) slices_S8x2048x3072_S8x2048x1024_0_0_1024) (extractStridedSlice S8x2048x1024 ![0, 0, 2048] (seqConv p w b) slices_S8x2048x3072_S8x2048x1024_0_0_2048)) shapeCasts_S8x2048x1024_S16384x1024) bitsLt_bf16_f32
def xL : FVec Ideal S16384x1024 .bf16 := truncf .bf16 (shapeCast _ (extractStridedSlice S8x2048x1024 ![0, 0, 0] (seqConv p w b) slices_S8x2048x3072_S8x2048x1024_0_0_0) shapeCasts_S8x2048x1024_S16384x1024) bitsLt_bf16_f32

theorem seqThird (r : Fin 16384) (n : Fin 1024) (k : Fin 3) :
    seqConv p w b (ix3 (⟨r.val / 2048, by omega⟩ : Fin 8) (⟨r.val % 2048, by omega⟩ : Fin 2048) (⟨k.val * 1024 + n.val, by omega⟩ : Fin 3072)) = conv p w b (seqRow r) (third k n) :=
  seqConv_apply p w b _ _ _
theorem zL_apply (r : Fin 16384) (n : Fin 1024) : zL p w b (ix2 r n) = conv p w b (seqRow r) (third 1 n) * conv p w b (seqRow r) (third 2 n) := by
  have h := seqThird p w b r n
  unfold zL
  generalize seqConv p w b = v at h ⊢
  refine Eq.trans ?_ (congr (congrArg HMul.hMul (h 1)) (h 2))
  pointwise
theorem xL_apply (r : Fin 16384) (n : Fin 1024) : xL p w b (ix2 r n) = conv p w b (seqRow r) (third 0 n) := by
  have h := seqThird p w b r n
  unfold xL
  generalize seqConv p w b = v at h ⊢
  refine Eq.trans ?_ (h 0)
  pointwise

end Cert.PreRefIdeal.Hand

end
-- ==== Proof.Scan.lean ====
module

public import proofs.«01_k».proof.Proof.Project

/-! # The rows of the stream in scan order -/

@[expose] public section

namespace Cert.Project

/-- The row of a sequence's stretch that stands at place `q` of it in scan order: the context rows stay, and the grid of
32 rows of 64 follows column by column. -/
def scanRow (q : Fin 2304) : Fin 2304 := if q.val < 256 then q else ⟨256 + (q.val - 256) % 32 * 64 + (q.val - 256) / 32, by omega⟩

/-- The same among all rows of the stream. -/
def seqOf (r : Fin 18432) : Fin 8 := ⟨r.val / 2304, by omega⟩
def scanOrder (r : Fin 18432) : Fin 18432 := stretchRow (seqOf r) (scanRow ⟨r.val % 2304, by omega⟩)

theorem scanOrder_stretch (s : Fin 8) (q : Fin 2304) : scanOrder (stretchRow s q) = stretchRow s (scanRow q) := by
  have e : seqOf (stretchRow s q) = s := Fin.ext (by show (s.val * 2304 + q.val) / 2304 = s.val; omega)
  have e' : (⟨(stretchRow s q).val % 2304, by omega⟩ : Fin 2304) = q := Fin.ext (by show (s.val * 2304 + q.val) % 2304 = q.val; omega)
  unfold scanOrder
  rw [e, e']

end Cert.Project
-- ==== Proof.KernelOrder.lean ====
module

public import proofs.«01_k».proof.Proof.Scan
public import proofs.«01_k».proof.Proof.Gen.OrderIdeal.Value
public import Idealize.ShloMosaic.Lib.Pipeline.ValueKit.Geometry
public import Idealize.ShloMosaic.Lib.WholeRead
public import Idealize.ShloMosaic.Lib.Writes

@[expose] public section

set_option maxRecDepth 16384

noncomputable section

namespace Cert.OrderIdeal.Hand

open Cert.OrderIdeal Cert.OrderIdeal.Gen Cert.Project
open Idealize.ShloMosaic
open Idealize.ShloMosaic.TcCoe Idealize.SL.Sem
open Idealize.ShloMosaic.Pipeline (Dat)

variable (m : (ℓ : Loc nD τ sig) → Buf (Elt Ideal) ℓ)

/-- The argument at launch, and the result: its rows in scan order. -/
abbrev argA (c : Dev nD) : S18432x1024.Idx → Elt Ideal .f32 := m ((c : Thread nD τ).loc main_arg0)
def out (c : Dev nD) : S18432x1024.Idx → Elt Ideal .f32 := fun y => argA m c (ix2 (scanOrder (y 0)) (y 1))

/-- A block with its rows in scan order. -/
def scanned (x : Vec Ideal S2304x128 .f32) : Vec Ideal S2304x128 .f32 := fun y => x (ix2 (scanRow (y 0)) (y 1))

/-- A column of the grid, read by its stride, is a piece of the block in scan order. -/
theorem column (a : Memref sig .tc .vmem S2304x128 .f32) (ha : a.IsWhole) (x : Vec Ideal S2304x128 .f32) (o k : ℕ)
    (h : ∀ d, (![o, 0] : Fin 2 → ℕ) d + (![32, 128] : Fin 2 → ℕ) d ≤ S2304x128.size d) (h')
    (hk : 256 ≤ k ∧ k < 320 ∧ o = 256 + 32 * (k - 256)) (z : (Rect.unit (s := S2304x128) ![o, 0] ![32, 128] h).shape.Idx) :
    View.readAt (Elt Ideal) a.view (⟨![k, 0], ![32, 128], ![64, 1], h'⟩ : LoadRect S2304x128) (ha.unread x) z
      = scanned x ((Rect.unit (s := S2304x128) ![o, 0] ![32, 128] h).emb z) := by
  rw [Memref.IsWhole.readAt_unread]
  refine congrArg x (funext fun d => Fin.ext ?_)
  have hz : (z 0).val < 32 := (z 0).isLt
  match d with
  | ⟨0, _⟩ =>
    show k + 64 * (z 0).val = (scanRow ⟨o + 1 * (z 0).val, _⟩).val
    unfold scanRow
    rw [if_neg (by show ¬o + 1 * (z 0).val < 256; omega)]
    show k + 64 * (z 0).val = 256 + (o + 1 * (z 0).val - 256) % 32 * 64 + (o + 1 * (z 0).val - 256) / 32
    omega
  | ⟨1, _⟩ => rfl

/-- So are the context rows, read as they stand. -/
theorem context (a : Memref sig .tc .vmem S2304x128 .f32) (ha : a.IsWhole) (x : Vec Ideal S2304x128 .f32)
    (h h') (z : (Rect.unit (s := S2304x128) ![0, 0] ![256, 128] h).shape.Idx) :
    View.readAt (Elt Ideal) a.view (Rect.unit (s := S2304x128) ![0, 0] ![256, 128] h').toLoadRect (ha.unread x) z
      = scanned x ((Rect.unit (s := S2304x128) ![0, 0] ![256, 128] h).emb z) := by
  rw [Memref.IsWhole.readAt_unread]
  refine congrArg x (funext fun d => Fin.ext ?_)
  have hz : (z 0).val < 256 := (z 0).isLt
  match d with
  | ⟨0, _⟩ =>
    show 0 + 1 * (z 0).val = (scanRow ⟨0 + 1 * (z 0).val, _⟩).val
    unfold scanRow
    rw [if_pos (by show 0 + 1 * (z 0).val < 256; omega)]
  | ⟨1, _⟩ => rfl

set_option maxHeartbeats 2000000 in
/-- So is everything the body stores. -/
theorem pieces (c : Dev nD) (i : grid0.Coords) (a : Memref sig .tc .vmem S2304x128 .f32) (ha : a.IsWhole) (b : Memref sig .tc .vmem S2304x128 .f32) (hb : b.IsWhole)
    (x : Vec Ideal S2304x128 .f32) : ∀ p ∈ (kernelRun0_A c i a ha b hb x).1, ∀ z : p.1.shape.Idx, p.2 z = scanned x (p.1.emb z) := by
  unfold kernelRun0_A
  dsimp only
  repeat
    refine List.forall_mem_cons.mpr ⟨?_, ?_⟩
    · first
        | exact column a ha x _ _ (by decide) _ (by decide)
        | exact context a ha x (by decide) _
  exact fun _ h => absurd h List.not_mem_nil

/-- What a point leaves in its block. -/
theorem tile (c : Dev nD) (t : Fin cfg0.N) : outsAt0 m c t = scanned (iblk m c 0 t) := by
  funext y
  unfold outsAt0 out0_A_1
  exact View.read_writes_apply_of_pieces VO0_1 _ _ _ (pieces c _ _ _ _ _ _) y (cover0_A_1 c _ _ _ _ _ _ y)

theorem index0 : ∀ t : Fin grid0.N, win0_0.index t = ![t.val / 8, t.val % 8] := by decide +kernel
theorem index1 : ∀ t : Fin grid0.N, win0_1.index t = ![t.val / 8, t.val % 8] := by decide +kernel

theorem t_lt (t : Fin cfg0.N) : t.val < 64 := t.isLt
/-- A point's sequence and a block's column among all. -/
def seqAt (t : Fin cfg0.N) : Fin 8 := ⟨t.val / 8, by have := t_lt t; omega⟩
def colAt (t : Fin cfg0.N) (n : Fin 128) : Fin 1024 := ⟨t.val % 8 * 128 + n.val, by omega⟩

theorem blk0 (c : Dev nD) (t : Fin cfg0.N) (q : Fin 2304) (n : Fin 128) : iblk m c 0 t (ix2 q n) = argA m c (ix2 (stretchRow (seqAt t) q) (colAt t n)) := by
  show V m c main_arg0 _ = _
  rw [V_main_arg0]
  refine congrArg (argA m c) (funext fun a => Fin.ext ?_)
  match a with
  | ⟨0, _⟩ =>
    have e : win0_0.index t 0 = t.val / 8 := congrFun (index0 t) 0
    show win0_0.index t 0 * 2304 + 1 * q.val = t.val / 8 * 2304 + q.val
    rw [e]; omega
  | ⟨1, _⟩ =>
    have e : win0_0.index t 1 = t.val % 8 := congrFun (index0 t) 1
    show win0_0.index t 1 * 128 + 1 * n.val = t.val % 8 * 128 + n.val
    rw [e]; omega

theorem tile_apply (c : Dev nD) (t : Fin cfg0.N) (q : Fin 2304) (n : Fin 128) : outsAt0 m c t (ix2 q n) = out m c (ix2 (stretchRow (seqAt t) q) (colAt t n)) := by
  rw [tile]
  show iblk m c 0 t (ix2 (scanRow q) n) = argA m c (ix2 (scanOrder (stretchRow (seqAt t) q)) (colAt t n))
  rw [blk0, scanOrder_stretch]

/-- The array ends at the result. -/
theorem arr1 (c : Dev nD) : (dats m 0 c).arrAt 1 cfg0.N = out m c := by
  refine (dats m 0 c).arrAt_eq_of_covers 1 _ (by decide +kernel) fun t hf y => ?_
  show (dats m 0 c).after 1 t y = out m c _
  rw [after0_1]
  obtain ⟨q, n, rfl⟩ : ∃ (q : Fin 2304) (n : Fin 128), y = ix2 q n := ⟨y 0, y 1, eq_ix2 y⟩
  refine (tile_apply m c t q n).trans (congrArg (out m c) (funext fun a => Fin.ext ?_))
  match a with
  | ⟨0, _⟩ =>
    have e : win0_1.index t 0 = t.val / 8 := congrFun (index1 t) 0
    show t.val / 8 * 2304 + q.val = win0_1.index t 0 * 2304 + 1 * q.val
    rw [e]; omega
  | ⟨1, _⟩ =>
    have e : win0_1.index t 1 = t.val % 8 := congrFun (index1 t) 1
    show t.val % 8 * 128 + n.val = win0_1.index t 1 * 128 + 1 * n.val
    rw [e]; omega

end Cert.OrderIdeal.Hand

end
-- ==== Proof.RefOrder.lean ====
module

public import proofs.«01_k».proof.Proof.Scan
public import proofs.«01_k».proof.Proof.Gen.OrderRefIdeal.Run

@[expose] public section

set_option maxRecDepth 16384

noncomputable section

namespace Cert.OrderRefIdeal.Hand

open Cert.OrderRefIdeal Cert.OrderRefIdeal.Gen Cert.Project
open Idealize.ShloMosaic
open Idealize.ShloMosaic.TcCoe

variable (a : FVec Ideal S18432x1024 .f32)

/-- The sequences' rows, column by column of their grids. -/
def columns : FVec Ideal S8x2048x1024 .f32 :=
  shapeCast _ (transpose S8x64x32x1024 [0, 2, 1, 3] (shapeCast _ (extractStridedSlice S8x2048x1024 ![0, 256, 0] (shapeCast _ a shapeCasts_S18432x1024_S8x2304x1024) slices_S8x2304x1024_S8x2048x1024_0_256_0) shapeCasts_S8x2048x1024_S8x32x64x1024) transposes_S8x32x64x1024_S8x64x32x1024_0_2_1_3) shapeCasts_S8x64x32x1024_S8x2048x1024
/-- The context rows. -/
def context : FVec Ideal S8x256x1024 .f32 := extractStridedSlice S8x256x1024 ![0, 0, 0] (shapeCast _ a shapeCasts_S18432x1024_S8x2304x1024) slices_S8x2304x1024_S8x256x1024_0_0_0

theorem columns_apply (s : Fin 8) (q : Fin 2048) (n : Fin 1024) : columns a (ix3 s q n) = a (ix2 (stretchRow s ⟨256 + q.val % 32 * 64 + q.val / 32, by omega⟩) n) := by
  unfold columns
  pointwise
  refine congrArg (fun r => a (ix2 r n)) (Fin.ext ?_)
  show s.val * 2304 + (256 + (q.val % 32 * 64 + q.val / 32)) = s.val * 2304 + (256 + q.val % 32 * 64 + q.val / 32)
  omega
theorem context_apply (s : Fin 8) (q : Fin 256) (n : Fin 1024) : context a (ix3 s q n) = a (ix2 (stretchRow s ⟨q.val, by omega⟩) n) := by
  unfold context
  pointwise
  exact congrArg (fun r => a (ix2 r n)) (Fin.ext rfl)

/-- Both together, at a row of the stream. -/
theorem both_apply (A : S8x256x1024.Idx → Elt Ideal .f32) (B : S8x2048x1024.Idx → Elt Ideal .f32) (r : Fin 18432) (n : Fin 1024) :
    shapeCast S18432x1024 (concatenate S8x2304x1024 1 [⟨S8x256x1024, A⟩, ⟨S8x2048x1024, B⟩] concatenates_S8x256x1024_S8x2048x1024_S8x2304x1024_d1) shapeCasts_S8x2304x1024_S18432x1024 (ix2 r n)
      = if h : r.val % 2304 < 256 then A (ix3 (seqOf r) (⟨r.val % 2304, h⟩ : Fin 256) n) else B (ix3 (seqOf r) (⟨r.val % 2304 - 256, by omega⟩ : Fin 2048) n) := by
  pointwise
  rfl

/-- The result. -/
def refTerm : FVec Ideal S18432x1024 .f32 :=
  shapeCast S18432x1024 (concatenate S8x2304x1024 1 [⟨S8x256x1024, context a⟩, ⟨S8x2048x1024, columns a⟩] concatenates_S8x256x1024_S8x2048x1024_S8x2304x1024_d1) shapeCasts_S8x2304x1024_S18432x1024

theorem refTerm_apply (r : Fin 18432) (n : Fin 1024) : refTerm a (ix2 r n) = a (ix2 (scanOrder r) n) := by
  refine (both_apply _ _ r n).trans ?_
  unfold scanOrder scanRow
  by_cases h : r.val % 2304 < 256
  · rw [dif_pos h, if_pos h, context_apply]
  · rw [dif_neg h, if_neg h, columns_apply]

end Cert.OrderRefIdeal.Hand

end
-- ==== Proof.lean ====
/-
  The proof of `Cert.Claim` for the routed expert feed-forward, the input projections, the output projection, the modulation and the
  convolution of the Hyena branch. The first kernel walks the blocks of the dispatched tokens in
  order, reads each block's expert from a table, keeps the expert's three matrices in a cache that it refills only where
  the table's word changes, and writes zeros for the blocks past the count of used ones. Proof/Runs.lean executes the body
  on each of its three paths, Proof/Pieces.lean and Proof/Words.lean read what the paths load and decide, Proof/Frame.lean
  carries the cache through the grid, Proof/Ok.lean reads the precondition, and Proof/KernelValue.lean and
  Proof/RefValue.lean bring kernel and reference to the function of Proof/Feed.lean.

  The input projections, with extra columns (Gated) and without (Plain): Proof/Project.lean states the normalised row and
  its projection, Proof/KernelGated.lean and Proof/KernelPlain.lean bring the kernels' arrays to it tile by tile,
  Proof/RefRows.lean, Proof/RefGated.lean and Proof/RefPlain.lean the references.

  The output projection (Route): Proof/RunRoute.lean and Proof/RunRouteIdeal.lean execute its body on the first grid
  point and on the others, Proof/PiecesRouteIdeal.lean reads what the body writes of its first two results, Proof/Bands.lean puts the pieces together,
  Proof/FrameRoute.lean and Proof/FrameRouteIdeal.lean carry it through the grid, naming nothing of the routing results,
  Proof/KernelRoute.lean and Proof/RefRoute.lean bring kernel and reference to `mixed` and `normed` of Proof/Project.lean.
  Its last layer's form (Last), of the sequences alone, goes the same way through the modules of its own name.

  The modulation (Mods): Proof/KernelMods.lean and Proof/RefMods.lean bring kernel and reference to `modulation` of
  Proof/Project.lean.

  The convolution (Pre): Proof/KernelPre.lean and Proof/RefPre.lean bring kernel and reference to `shortConv` of
  Proof/Project.lean.

  The scan order (Order): Proof/KernelOrder.lean and Proof/RefOrder.lean bring kernel and reference to `scanOrder` of
  Proof/Scan.lean.
-/
module

public import proofs.«01_k».proof.Defs
public import proofs.«01_k».proof.Proof.Ok
public import proofs.«01_k».proof.Proof.OkIdeal
public import proofs.«01_k».proof.Proof.KernelValue
public import proofs.«01_k».proof.Proof.RefValue
public import proofs.«01_k».proof.Proof.KernelGated
public import proofs.«01_k».proof.Proof.KernelPlain
public import proofs.«01_k».proof.Proof.FrameRoute
public import proofs.«01_k».proof.Proof.KernelRoute
public import proofs.«01_k».proof.Proof.RefRoute
public import proofs.«01_k».proof.Proof.FrameLast
public import proofs.«01_k».proof.Proof.KernelLast
public import proofs.«01_k».proof.Proof.RefLast
public import proofs.«01_k».proof.Proof.RefGated
public import proofs.«01_k».proof.Proof.RefPlain
public import proofs.«01_k».proof.Proof.Gen.Gated.Frame
public import proofs.«01_k».proof.Proof.Gen.Plain.Frame
public import proofs.«01_k».proof.Proof.Gen.Mods.Frame
public import proofs.«01_k».proof.Proof.KernelMods
public import proofs.«01_k».proof.Proof.RefMods
public import proofs.«01_k».proof.Proof.Gen.Pre.Frame
public import proofs.«01_k».proof.Proof.KernelPre
public import proofs.«01_k».proof.Proof.RefPre
public import proofs.«01_k».proof.Proof.Gen.Order.Frame
public import proofs.«01_k».proof.Proof.KernelOrder
public import proofs.«01_k».proof.Proof.RefOrder
public import Idealize.ShloMosaic.Adequacy
public import Idealize.ShloMosaic.Init

@[expose] public section

noncomputable section

namespace Cert.Proof

open Idealize.ShloMosaic Idealize.SL.Sem
open Idealize.ShloMosaic.TcCoe

/-- The kernel runs from any launch whose table names experts, its arguments unchanged and its counters at zero. -/
theorem frame_kernel : Cert.quiescent_Experts := fun m ρ h =>
  Cert.Experts.Hand.frame m ρ (Cert.Experts.Hand.ok_of m fun x => (Cert.Experts.Hand.named _ _ _ _ _ _ (h 0) x).1)

/-- So does the kernel over the reals. -/
theorem frame_ideal : Cert.quiescent_ExpertsIdeal := fun m ρ h =>
  Cert.ExpertsIdeal.Hand.frame m ρ (Cert.ExpertsIdeal.Hand.ok_of m fun x => (Cert.ExpertsIdeal.Hand.named _ _ _ _ _ _ (h 0) x).1)

/-- So does the reference, which has no counters. -/
theorem frame_ref : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Hand.ref_run m ρ)

/-- Over the reals the kernel's result is the reference's. -/
theorem algebraic : Cert.algebraic_ExpertsIdeal_ExpertsRefIdeal := by
  intro m ρ m' ρ' hpre hargs
  have hn : ∀ x, (Cert.ExpertsIdeal.Hand.T0 m x).toNat < 16 ∧ (Cert.ExpertsIdeal.Hand.T0 m x).toInt.toNat = (Cert.ExpertsIdeal.Hand.T0 m x).toNat :=
    fun x => Cert.ExpertsIdeal.Hand.named _ _ _ _ _ _ (hpre 0) x
  have ok := Cert.ExpertsIdeal.Hand.ok_of m fun x => (hn x).1
  refine ⟨fun c => Cert.ExpertsIdeal.Hand.out m c, Cert.ExpertsIdeal.Hand.kernel_run m ρ ok fun b => (hn _).1, ?_⟩
  refine (θ_run Cert.ExpertsRefIdeal.defs _ _).mono (fun r h c => ⟨(h c).1.trans ?_, (h c).2⟩) (Cert.ExpertsRefIdeal.Hand.ref_run m' ρ')
  obtain ⟨e0, e1, e2, e3, e4, e5⟩ := hargs c
  obtain rfl : c = 0 := Subsingleton.elim _ _
  rw [e0, e1, e2, e3, e4, e5]
  funext y
  obtain ⟨r, l, rfl⟩ : ∃ (r : Fin 360448) (l : Fin 128), y = ix2 r l := ⟨y 0, y 1, eq_ix2 y⟩
  exact Cert.ExpertsRefIdeal.Hand.refTerm_apply _ _ _ _ _ _ (fun b => (hn _).2) r l

/-- The input projection with extra columns runs from any launch, its arguments unchanged and its counters at zero. -/
theorem frame_gated : Cert.quiescent_Gated := fun m ρ _ => Cert.Gated.Gen.frame m ρ

/-- So does it over the reals. -/
theorem frame_gated_ideal : Cert.quiescent_GatedIdeal := fun m ρ _ => Cert.GatedIdeal.Gen.frame m ρ

/-- So does its reference, which has no counters. -/
theorem frame_gated_ref : Cert.quiescent_GatedRefIdeal := fun m ρ _ =>
  (θ_run Cert.GatedRefIdeal.defs _ _).mono (fun r h => ⟨fun c => (h c).2.2, sem_eq_zero_of_no_sems (by decide) r.2⟩)
    (Cert.GatedRefIdeal.Value.run (F := Ideal) m ρ)

/-- Over the reals its two results are the reference's. -/
theorem algebraic_gated : Cert.algebraic_GatedIdeal_GatedRefIdeal := by
  intro m ρ m' ρ' _ hargs
  refine ⟨fun c => Cert.GatedIdeal.Hand.outMain m c, fun c => Cert.GatedIdeal.Hand.outExtra m c,
    (θ_run Cert.GatedIdeal.defs _ _).mono (fun r h c => ⟨(h c).1.trans (Cert.GatedIdeal.Hand.arr_main m c),
      (h c).2.1.trans (Cert.GatedIdeal.Hand.arr_extra m c), (h c).2.2⟩) (Cert.GatedIdeal.Value.run_blocks (F := Ideal) m ρ), ?_⟩
  refine (θ_run Cert.GatedRefIdeal.defs _ _).mono (fun r h c => ⟨(h c).1.trans ?_, (h c).2.1.trans ?_, (h c).2.2⟩)
    (Cert.GatedRefIdeal.Value.run (F := Ideal) m' ρ')
  all_goals obtain ⟨e0, e1, e2, e3, e4⟩ := hargs c
  · refine (Cert.GatedRefIdeal.Hand.out0_eq m' c).trans ?_
    rw [e0, e1, e2, e3, e4]
    funext y
    obtain ⟨r, n, rfl⟩ : ∃ (r : Fin 18432) (n : Fin 3072), y = ix2 r n := ⟨y 0, y 1, eq_ix2 y⟩
    exact Cert.GatedRefIdeal.Hand.mainTerm_apply _ _ _ _ _ r n
  · refine (Cert.GatedRefIdeal.Hand.out1_eq m' c).trans ?_
    rw [e0, e1, e2, e3, e4]
    funext y
    obtain ⟨r, n, rfl⟩ : ∃ (r : Fin 18432) (n : Fin 128), y = ix2 r n := ⟨y 0, y 1, eq_ix2 y⟩
    exact Cert.GatedRefIdeal.Hand.extraTerm_apply _ _ _ _ _ r n

/-- The input projection without extra columns runs from any launch, its arguments unchanged and its counters at zero. -/
theorem frame_plain : Cert.quiescent_Plain := fun m ρ _ => Cert.Plain.Gen.frame m ρ

/-- So does it over the reals. -/
theorem frame_plain_ideal : Cert.quiescent_PlainIdeal := fun m ρ _ => Cert.PlainIdeal.Gen.frame m ρ

/-- So does its reference, which has no counters. -/
theorem frame_plain_ref : Cert.quiescent_PlainRefIdeal := fun m ρ _ =>
  (θ_run Cert.PlainRefIdeal.defs _ _).mono (fun r h => ⟨fun c => (h c).2, sem_eq_zero_of_no_sems (by decide) r.2⟩)
    (Cert.PlainRefIdeal.Value.run (F := Ideal) m ρ)

/-- Over the reals its result is the reference's. -/
theorem algebraic_plain : Cert.algebraic_PlainIdeal_PlainRefIdeal := by
  intro m ρ m' ρ' _ hargs
  refine ⟨fun c => Cert.PlainIdeal.Hand.out m c,
    (θ_run Cert.PlainIdeal.defs _ _).mono (fun r h c => ⟨(h c).1.trans (Cert.PlainIdeal.Hand.arr_out m c), (h c).2⟩)
      (Cert.PlainIdeal.Value.run_blocks (F := Ideal) m ρ), ?_⟩
  refine (θ_run Cert.PlainRefIdeal.defs _ _).mono (fun r h c => ⟨(h c).1.trans ?_, (h c).2⟩)
    (Cert.PlainRefIdeal.Value.run (F := Ideal) m' ρ')
  obtain ⟨e0, e1, e2, e3, e4⟩ := hargs c
  refine (Cert.PlainRefIdeal.Hand.out0_eq m' c).trans ?_
  rw [e0, e1, e2, e3, e4]
  funext y
  obtain ⟨r, n, rfl⟩ : ∃ (r : Fin 18432) (n : Fin 3072), y = ix2 r n := ⟨y 0, y 1, eq_ix2 y⟩
  exact Cert.PlainRefIdeal.Hand.refTerm_apply _ _ _ _ _ r n

/-- The output projection runs from any launch, its arguments unchanged and its counters at zero. -/
theorem frame_route : Cert.quiescent_Route := fun m ρ _ => Cert.Route.Hand.frame m ρ

/-- So does it over the reals. -/
theorem frame_route_ideal : Cert.quiescent_RouteIdeal := fun m ρ _ => Cert.RouteIdeal.Hand.frame m ρ

/-- So does its reference, which has no counters. -/
theorem frame_route_ref : Cert.quiescent_RouteRefIdeal := fun m ρ _ =>
  (θ_run Cert.RouteRefIdeal.defs _ _).mono (fun r h => ⟨fun c => (h c).2.2, sem_eq_zero_of_no_sems (by decide) r.2⟩)
    (Cert.RouteRefIdeal.Value.run (F := Ideal) m ρ)

/-- Over the reals its sums and its normalised rows are the reference's. -/
theorem algebraic_route : Cert.algebraic_RouteIdeal_RouteRefIdeal := by
  intro m ρ m' ρ' _ hargs
  refine ⟨fun c => Cert.RouteIdeal.Hand.outXo m c, fun c => Cert.RouteIdeal.Hand.outH m c,
    (θ_run Cert.RouteIdeal.defs _ _).mono (fun r h c => ⟨(Cert.RouteIdeal.Hand.xo_of h.1 c).trans (Cert.RouteIdeal.Hand.arr_xo m c),
      (Cert.RouteIdeal.Hand.h_of h.1 c).trans (Cert.RouteIdeal.Hand.arr_h m c), Cert.RouteIdeal.Hand.args_of h.1 c⟩) (Cert.RouteIdeal.Hand.run_main (F := Ideal) m ρ), ?_⟩
  refine (θ_run Cert.RouteRefIdeal.defs _ _).mono (fun r h c => ⟨(h c).1.trans ?_, (h c).2.1.trans ?_, (h c).2.2⟩)
    (Cert.RouteRefIdeal.Value.run (F := Ideal) m' ρ')
  all_goals obtain ⟨e0, e1, e2, e3, e4, e5, e6, e7⟩ := hargs c
  · show Cert.RouteRefIdeal.Hand.xoTerm (m' ((c.tc : Thread Cert.RouteRefIdeal.nD Cert.RouteRefIdeal.τ).loc Cert.RouteRefIdeal.main_arg0))
      (m' ((c.tc : Thread Cert.RouteRefIdeal.nD Cert.RouteRefIdeal.τ).loc Cert.RouteRefIdeal.main_arg1))
      (m' ((c.tc : Thread Cert.RouteRefIdeal.nD Cert.RouteRefIdeal.τ).loc Cert.RouteRefIdeal.main_arg2))
      (m' ((c.tc : Thread Cert.RouteRefIdeal.nD Cert.RouteRefIdeal.τ).loc Cert.RouteRefIdeal.main_arg3))
      (m' ((c.tc : Thread Cert.RouteRefIdeal.nD Cert.RouteRefIdeal.τ).loc Cert.RouteRefIdeal.main_arg4)) = _
    rw [e0, e1, e2, e3, e4]
    funext y
    obtain ⟨r, n, rfl⟩ : ∃ (r : Fin 18432) (n : Fin 1024), y = ix2 r n := ⟨y 0, y 1, eq_ix2 y⟩
    exact Cert.RouteRefIdeal.Hand.xoTerm_apply _ _ _ _ _ r n
  · refine (Cert.RouteRefIdeal.Hand.out1_eq m' c).trans ?_
    rw [e0, e1, e2, e3, e4, e5]
    funext y
    obtain ⟨q, l, rfl⟩ : ∃ (q : Fin 147456) (l : Fin 128), y = ix2 q l := ⟨y 0, y 1, eq_ix2 y⟩
    exact Cert.RouteRefIdeal.Hand.hTerm_apply _ _ _ _ _ _ q l ⟨q.val / 8, by omega⟩ ⟨q.val % 8 * 128 + l.val, by omega⟩ rfl rfl

/-- The last layer's output projection runs from any launch, its arguments unchanged and its counters at zero. -/
theorem frame_last : Cert.quiescent_Last := fun m ρ _ => Cert.Last.Hand.frame m ρ

/-- So does it over the reals. -/
theorem frame_last_ideal : Cert.quiescent_LastIdeal := fun m ρ _ => Cert.LastIdeal.Hand.frame m ρ

/-- So does its reference, which has no counters. -/
theorem frame_last_ref : Cert.quiescent_LastRefIdeal := fun m ρ _ =>
  (θ_run Cert.LastRefIdeal.defs _ _).mono (fun r h => ⟨fun c => (h c).2.2, sem_eq_zero_of_no_sems (by decide) r.2⟩)
    (Cert.LastRefIdeal.Value.run (F := Ideal) m ρ)

/-- Over the reals its sums and its normalised rows are the reference's. -/
theorem algebraic_last : Cert.algebraic_LastIdeal_LastRefIdeal := by
  intro m ρ m' ρ' _ hargs
  refine ⟨fun c => Cert.LastIdeal.Hand.outXo m c, fun c => Cert.LastIdeal.Hand.outH m c,
    (θ_run Cert.LastIdeal.defs _ _).mono (fun r h c => ⟨(Cert.LastIdeal.Hand.xo_of h.1 c).trans (Cert.LastIdeal.Hand.arr_xo m c),
      (Cert.LastIdeal.Hand.h_of h.1 c).trans (Cert.LastIdeal.Hand.arr_h m c), Cert.LastIdeal.Hand.args_of h.1 c⟩) (Cert.LastIdeal.Hand.run_main (F := Ideal) m ρ), ?_⟩
  refine (θ_run Cert.LastRefIdeal.defs _ _).mono (fun r h c => ⟨(h c).1.trans ?_, (h c).2.1.trans ?_, (h c).2.2⟩)
    (Cert.LastRefIdeal.Value.run (F := Ideal) m' ρ')
  all_goals obtain ⟨e0, e1, e2, e3, e4, e5, e6, e7⟩ := hargs c
  · show Cert.LastRefIdeal.Hand.xoTerm (m' ((c.tc : Thread Cert.LastRefIdeal.nD Cert.LastRefIdeal.τ).loc Cert.LastRefIdeal.main_arg0))
      (m' ((c.tc : Thread Cert.LastRefIdeal.nD Cert.LastRefIdeal.τ).loc Cert.LastRefIdeal.main_arg1))
      (m' ((c.tc : Thread Cert.LastRefIdeal.nD Cert.LastRefIdeal.τ).loc Cert.LastRefIdeal.main_arg2))
      (m' ((c.tc : Thread Cert.LastRefIdeal.nD Cert.LastRefIdeal.τ).loc Cert.LastRefIdeal.main_arg3))
      (m' ((c.tc : Thread Cert.LastRefIdeal.nD Cert.LastRefIdeal.τ).loc Cert.LastRefIdeal.main_arg4)) = _
    rw [e0, e1, e2, e3, e4]
    funext y
    obtain ⟨r, n, rfl⟩ : ∃ (r : Fin 16384) (n : Fin 1024), y = ix2 r n := ⟨y 0, y 1, eq_ix2 y⟩
    exact Cert.LastRefIdeal.Hand.xoTerm_apply _ _ _ _ _ r n
  · refine (Cert.LastRefIdeal.Hand.out1_eq m' c).trans ?_
    rw [e0, e1, e2, e3, e4, e5]
    funext y
    obtain ⟨q, l, rfl⟩ : ∃ (q : Fin 131072) (l : Fin 128), y = ix2 q l := ⟨y 0, y 1, eq_ix2 y⟩
    exact Cert.LastRefIdeal.Hand.hTerm_apply _ _ _ _ _ _ q l ⟨q.val / 8, by omega⟩ ⟨q.val % 8 * 128 + l.val, by omega⟩ rfl rfl

/-- The modulation runs from any launch, its arguments unchanged and its counters at zero. -/
theorem frame_mods : Cert.quiescent_Mods := fun m ρ _ => Cert.Mods.Gen.frame m ρ

/-- So does it over the reals. -/
theorem frame_mods_ideal : Cert.quiescent_ModsIdeal := fun m ρ _ => Cert.ModsIdeal.Gen.frame m ρ

/-- So does its reference, which has no counters. -/
theorem frame_mods_ref : Cert.quiescent_ModsRefIdeal := fun m ρ _ =>
  (θ_run Cert.ModsRefIdeal.defs _ _).mono (fun r h => ⟨fun c => (h c).2, sem_eq_zero_of_no_sems (by decide) r.2⟩)
    (Cert.ModsRefIdeal.Value.run (F := Ideal) m ρ)

/-- Over the reals its result is the reference's. -/
theorem algebraic_mods : Cert.algebraic_ModsIdeal_ModsRefIdeal := by
  intro m ρ m' ρ' _ hargs
  refine ⟨fun c => Cert.ModsIdeal.Hand.out m c,
    (θ_run Cert.ModsIdeal.defs _ _).mono (fun r h c => ⟨(h c).1.trans (Cert.ModsIdeal.Hand.arr_out m c), (h c).2⟩)
      (Cert.ModsIdeal.Value.run_blocks (F := Ideal) m ρ), ?_⟩
  refine (θ_run Cert.ModsRefIdeal.defs _ _).mono (fun r h c => ⟨(h c).1.trans ?_, (h c).2⟩)
    (Cert.ModsRefIdeal.Value.run (F := Ideal) m' ρ')
  obtain ⟨e0, e1, e2⟩ := hargs c
  rw [e0, e1, e2]
  funext y
  obtain ⟨l, r, n, rfl⟩ : ∃ (l : Fin 4) (r : Fin 16) (n : Fin 6144), y = ix3 l r n := ⟨y 0, y 1, y 2, eq_ix3 y⟩
  exact Cert.ModsRefIdeal.Hand.refTerm_apply _ _ _ l r n

/-- The convolution runs from any launch, its arguments unchanged and its counters at zero. -/
theorem frame_pre : Cert.quiescent_Pre := fun m ρ _ => Cert.Pre.Gen.frame m ρ

/-- So does it over the reals. -/
theorem frame_pre_ideal : Cert.quiescent_PreIdeal := fun m ρ _ => Cert.PreIdeal.Gen.frame m ρ

/-- So does its reference, which has no counters. -/
theorem frame_pre_ref : Cert.quiescent_PreRefIdeal := fun m ρ _ =>
  (θ_run Cert.PreRefIdeal.defs _ _).mono (fun r h => ⟨fun c => (h c).2.2.2.2, sem_eq_zero_of_no_sems (by decide) r.2⟩)
    (Cert.PreRefIdeal.Value.run (F := Ideal) m ρ)

/-- Over the reals its four results are the reference's. -/
theorem algebraic_pre : Cert.algebraic_PreIdeal_PreRefIdeal := by
  intro m ρ m' ρ' _ hargs
  refine ⟨fun c => Cert.PreIdeal.Hand.outZC m c, fun c => Cert.PreIdeal.Hand.outZL m c, fun c => Cert.PreIdeal.Hand.outXC m c, fun c => Cert.PreIdeal.Hand.outXL m c,
    (θ_run Cert.PreIdeal.defs _ _).mono (fun r h c => ⟨(h c).1.trans (Cert.PreIdeal.Hand.arr9 m c), (h c).2.1.trans (Cert.PreIdeal.Hand.arr10 m c),
      (h c).2.2.1.trans (Cert.PreIdeal.Hand.arr11 m c), (h c).2.2.2.1.trans (Cert.PreIdeal.Hand.arr12 m c), (h c).2.2.2.2⟩)
      (Cert.PreIdeal.Value.run_blocks (F := Ideal) m ρ), ?_⟩
  refine (θ_run Cert.PreRefIdeal.defs _ _).mono (fun r h c => ⟨(h c).1.trans ?_, (h c).2.1.trans ?_, (h c).2.2.1.trans ?_, (h c).2.2.2.1.trans ?_, (h c).2.2.2.2⟩)
    (Cert.PreRefIdeal.Value.run (F := Ideal) m' ρ')
  all_goals obtain ⟨e0, e1, e2⟩ := hargs c
  · refine (rfl : _ = Cert.PreRefIdeal.Hand.zC (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2))).trans ?_
    rw [e0, e1, e2]
    funext y
    obtain ⟨r, n, rfl⟩ : ∃ (r : Fin 2048) (n : Fin 1024), y = ix2 r n := ⟨y 0, y 1, eq_ix2 y⟩
    exact Cert.PreRefIdeal.Hand.zC_apply _ _ _ r n
  · refine (rfl : _ = Cert.PreRefIdeal.Hand.zL (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2))).trans ?_
    rw [e0, e1, e2]
    funext y
    obtain ⟨r, n, rfl⟩ : ∃ (r : Fin 16384) (n : Fin 1024), y = ix2 r n := ⟨y 0, y 1, eq_ix2 y⟩
    exact Cert.PreRefIdeal.Hand.zL_apply _ _ _ r n
  · refine (rfl : _ = Cert.PreRefIdeal.Hand.xC (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2))).trans ?_
    rw [e0, e1, e2]
    funext y
    obtain ⟨r, n, rfl⟩ : ∃ (r : Fin 2048) (n : Fin 1024), y = ix2 r n := ⟨y 0, y 1, eq_ix2 y⟩
    exact Cert.PreRefIdeal.Hand.xC_apply _ _ _ r n
  · refine (rfl : _ = Cert.PreRefIdeal.Hand.xL (m' ((c.tc : Thread Cert.PreRefIdeal.nD Cert.PreRefIdeal.τ).loc Cert.PreRefIdeal.main_arg0)) (m' ((c.tc : Thread Cert.PreRefIdeal.nD Cert.PreRefIdeal.τ).loc Cert.PreRefIdeal.main_arg1)) (m' ((c.tc : Thread Cert.PreRefIdeal.nD Cert.PreRefIdeal.τ).loc Cert.PreRefIdeal.main_arg2))).trans ?_
    rw [e0, e1, e2]
    funext y
    obtain ⟨r, n, rfl⟩ : ∃ (r : Fin 16384) (n : Fin 1024), y = ix2 r n := ⟨y 0, y 1, eq_ix2 y⟩
    exact Cert.PreRefIdeal.Hand.xL_apply _ _ _ r n

/-- The reordering runs from any launch, its argument unchanged and its counters at zero. -/
theorem frame_order : Cert.quiescent_Order := fun m ρ _ => Cert.Order.Gen.frame m ρ

/-- So does it over the reals. -/
theorem frame_order_ideal : Cert.quiescent_OrderIdeal := fun m ρ _ => Cert.OrderIdeal.Gen.frame m ρ

/-- So does its reference, which has no counters. -/
theorem frame_order_ref : Cert.quiescent_OrderRefIdeal := fun m ρ _ =>
  (θ_run Cert.OrderRefIdeal.defs _ _).mono (fun r h => ⟨fun c => (h c).2, sem_eq_zero_of_no_sems (by decide) r.2⟩)
    (Cert.OrderRefIdeal.Value.run (F := Ideal) m ρ)

/-- Over the reals its result is the reference's. -/
theorem algebraic_order : Cert.algebraic_OrderIdeal_OrderRefIdeal := by
  intro m ρ m' ρ' _ hargs
  refine ⟨fun c => Cert.OrderIdeal.Hand.out m c,
    (θ_run Cert.OrderIdeal.defs _ _).mono (fun r h c => ⟨(h c).1.trans (Cert.OrderIdeal.Hand.arr1 m c), (h c).2⟩)
      (Cert.OrderIdeal.Value.run_blocks (F := Ideal) m ρ), ?_⟩
  refine (θ_run Cert.OrderRefIdeal.defs _ _).mono (fun r h c => ⟨(h c).1.trans ?_, (h c).2⟩)
    (Cert.OrderRefIdeal.Value.run (F := Ideal) m' ρ')
  have e0 := hargs c
  refine (rfl : _ = Cert.OrderRefIdeal.Hand.refTerm (m' ((c.tc : Thread Cert.OrderRefIdeal.nD Cert.OrderRefIdeal.τ).loc Cert.OrderRefIdeal.main_arg0))).trans ?_
  rw [e0]
  funext y
  obtain ⟨r, n, rfl⟩ : ∃ (r : Fin 18432) (n : Fin 1024), y = ix2 r n := ⟨y 0, y 1, eq_ix2 y⟩
  exact Cert.OrderRefIdeal.Hand.refTerm_apply _ r n

theorem claim : Cert.Claim := ⟨Cert.Experts.Gen.facts, Cert.ExpertsIdeal.Gen.facts, Cert.ExpertsRefIdeal.Gen.facts, Cert.Gated.Gen.facts, Cert.GatedIdeal.Gen.facts, Cert.GatedRefIdeal.Gen.facts, Cert.Plain.Gen.facts, Cert.PlainIdeal.Gen.facts, Cert.PlainRefIdeal.Gen.facts, Cert.Route.Gen.facts, Cert.RouteIdeal.Gen.facts, Cert.RouteRefIdeal.Gen.facts, Cert.Last.Gen.facts, Cert.LastIdeal.Gen.facts, Cert.LastRefIdeal.Gen.facts, Cert.Mods.Gen.facts, Cert.ModsIdeal.Gen.facts, Cert.ModsRefIdeal.Gen.facts, Cert.Pre.Gen.facts, Cert.PreIdeal.Gen.facts, Cert.PreRefIdeal.Gen.facts, Cert.Order.Gen.facts, Cert.OrderIdeal.Gen.facts, Cert.OrderRefIdeal.Gen.facts, Cert.Pre_experts_named.Gen.facts,
  frame_kernel, frame_ideal, frame_ref, frame_gated, frame_gated_ideal, frame_gated_ref, frame_plain, frame_plain_ideal, frame_plain_ref,
  frame_route, frame_route_ideal, frame_route_ref,
  frame_last, frame_last_ideal, frame_last_ref,
  frame_mods, frame_mods_ideal, frame_mods_ref,
  frame_pre, frame_pre_ideal, frame_pre_ref,
  frame_order, frame_order_ideal, frame_order_ref,
  trivial, algebraic, trivial, algebraic_gated, trivial, algebraic_plain, trivial, algebraic_route, trivial, algebraic_last, trivial, algebraic_mods, trivial, algebraic_pre, trivial, algebraic_order⟩

end Cert.Proof

end
